-- ==== Defs.lean ====
def Pre_Kernel [hPre_starts_nonneg : Cert.Pre_starts_nonneg.Facts] (m : (ℓ : Loc Cert.Kernel.nD Cert.Kernel.τ Cert.Kernel.sig) → Buf (Elt Bits) ℓ) : Prop :=
  ∀ c : Dev Cert.Kernel.nD,
    (Cert.Pre_starts_nonneg.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_starts_nonneg : Cert.Pre_starts_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_starts_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_windows_fit [hPre_windows_fit : Cert.Pre_windows_fit.Facts] (m : (ℓ : Loc Cert.KernelIdeal.nD Cert.KernelIdeal.τ Cert.KernelIdeal.sig) → Buf (Elt Ideal) ℓ) : Prop :=
  ∀ c : Dev Cert.KernelIdeal.nD,
    (Cert.Pre_windows_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_windows_fit [hPre_windows_fit : Cert.Pre_windows_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_windows_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_starts_nonneg : Cert.Pre_starts_nonneg.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_starts_nonneg : Cert.Pre_starts_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_windows_fit [hKernelIdeal : Cert.KernelIdeal.Facts] [hPre_windows_fit : Cert.Pre_windows_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_windows_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_windows_fit [hReferenceIdeal : Cert.ReferenceIdeal.Facts] [hPre_windows_fit : Cert.Pre_windows_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_windows_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_windows_fit [hKernelIdeal : Cert.KernelIdeal.Facts] [hReferenceIdeal : Cert.ReferenceIdeal.Facts] [hPre_windows_fit : Cert.Pre_windows_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_windows_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_starts_nonneg : Cert.Pre_starts_nonneg.Facts) (hPre_windows_fit : Cert.Pre_windows_fit.Facts),
    quiescent_Kernel (hKernel := hKernel) (hPre_starts_nonneg := hPre_starts_nonneg)
    ∧ quiescent_KernelIdeal (hKernelIdeal := hKernelIdeal) (hPre_starts_nonneg := hPre_starts_nonneg)
    ∧ quiescent_KernelIdeal_pre_windows_fit (hKernelIdeal := hKernelIdeal) (hPre_windows_fit := hPre_windows_fit)
    ∧ quiescent_ReferenceIdeal (hReferenceIdeal := hReferenceIdeal)
    ∧ quiescent_ReferenceIdeal_pre_windows_fit (hReferenceIdeal := hReferenceIdeal) (hPre_windows_fit := hPre_windows_fit)
    ∧ preserves_Kernel_KernelIdeal
    ∧ algebraic_KernelIdeal_ReferenceIdeal_pre_windows_fit (hKernelIdeal := hKernelIdeal) (hReferenceIdeal := hReferenceIdeal) (hPre_windows_fit := hPre_windows_fit)
-- ==== Pre_starts_nonneg.lean ====
abbrev S5000x1x896 : Shape := ⟨3, ![5000, 1, 896]⟩
abbrev S5000x1x2x64 : Shape := ⟨4, ![5000, 1, 2, 64]⟩
abbrev S2560000x2x64 : Shape := ⟨3, ![2560000, 2, 64]⟩
abbrev S2560000x2x2 : Shape := ⟨3, ![2560000, 2, 2]⟩
abbrev S5001 : Shape := ⟨1, ![5001]⟩
abbrev S5000 : Shape := ⟨1, ![5000]⟩
abbrev S_ : Shape := ⟨0, ![]⟩

class Facts : Prop where
  slices_S5001_S5000_0 : S5001.Slices ![0] S5000
  bcast_S_S5000 : S_.BroadcastsInDim S5000 (![] : Fin 0 → Fin S5000.rank)

variable [Facts]

def fn {F : FTy → Type} [FloatOps F] (main_arg0 : FVec F S5000x1x896 .bf16) (main_arg1 : FVec F S5000x1x2x64 .bf16) (main_arg2 : FVec F S5000x1x2x64 .bf16) (main_arg3 : IVec S2560000x2x64 8) (main_arg4 : FVec F S2560000x2x2 .f32) (main_arg5 : IVec S2560000x2x64 8) (main_arg6 : FVec F S2560000x2x2 .f32) (main_arg7 : IVec S5001 32) : IVec S5000 1 :=
  let main_v0 : IVec S5000 32 := (extractStridedSlice S5000 ![0] · slices_S5001_S5000_0) main_arg7
  let main_c : IVec S_ 32 := constantI S_ 32 0#32
  let main_v1 : IVec S5000 32 := broadcastInDim S5000 ![] bcast_S_S5000 main_c
  let main_v2 : IVec S5000 1 := cmpi .sge main_v0 main_v1
  main_v2
-- ==== Pre_windows_fit.lean ====
abbrev S5000x1x896 : Shape := ⟨3, ![5000, 1, 896]⟩
abbrev S5000x1x2x64 : Shape := ⟨4, ![5000, 1, 2, 64]⟩
abbrev S2560000x2x64 : Shape := ⟨3, ![2560000, 2, 64]⟩
abbrev S2560000x2x2 : Shape := ⟨3, ![2560000, 2, 2]⟩
abbrev S5001 : Shape := ⟨1, ![5001]⟩
abbrev S5000 : Shape := ⟨1, ![5000]⟩
abbrev S_ : Shape := ⟨0, ![]⟩

class Facts : Prop where
  slices_S5001_S5000_0 : S5001.Slices ![0] S5000
  bcast_S_S5000 : S_.BroadcastsInDim S5000 (![] : Fin 0 → Fin S5000.rank)
  slices_S5001_S5000_1 : S5001.Slices ![1] S5000

variable [Facts]

def fn {F : FTy → Type} [FloatOps F] (main_arg0 : FVec F S5000x1x896 .bf16) (main_arg1 : FVec F S5000x1x2x64 .bf16) (main_arg2 : FVec F S5000x1x2x64 .bf16) (main_arg3 : IVec S2560000x2x64 8) (main_arg4 : FVec F S2560000x2x2 .f32) (main_arg5 : IVec S2560000x2x64 8) (main_arg6 : FVec F S2560000x2x2 .f32) (main_arg7 : IVec S5001 32) : IVec S5000 1 :=
  let main_v0 : IVec S5000 32 := (extractStridedSlice S5000 ![0] · slices_S5001_S5000_0) main_arg7
  let main_c : IVec S_ 32 := constantI S_ 32 0#32
  let main_v1 : IVec S5000 32 := broadcastInDim S5000 ![] bcast_S_S5000 main_c
  let main_v2 : IVec S5000 1 := cmpi .sge main_v0 main_v1
  let main_c_0 : IVec S_ 32 := constantI S_ 32 2559488#32
  let main_v3 : IVec S5000 32 := broadcastInDim S5000 ![] bcast_S_S5000 main_c_0
  let main_v4 : IVec S5000 1 := cmpi .sle main_v0 main_v3
  let main_v5 : IVec S5000 1 := andi main_v2 main_v4
  let main_v6 : IVec S5000 32 := (extractStridedSlice S5000 ![1] · slices_S5001_S5000_1) main_arg7
  let main_v7 : IVec S5000 32 := subi main_v6 main_v0
  let main_c_1 : IVec S_ 32 := constantI S_ 32 512#32
  let main_v8 : IVec S5000 32 := broadcastInDim S5000 ![] bcast_S_S5000 main_c_1
  let main_v9 : IVec S5000 1 := cmpi .sle main_v7 main_v8
  let main_v10 : IVec S5000 1 := andi main_v5 main_v9
  main_v10
-- ==== Kernel.lean ====
abbrev S5000x1x896 : Shape := ⟨3, ![5000, 1, 896]⟩
abbrev S5000x1x2x64 : Shape := ⟨4, ![5000, 1, 2, 64]⟩
abbrev S2560000x2x64 : Shape := ⟨3, ![2560000, 2, 64]⟩
abbrev S2560000x2x2 : Shape := ⟨3, ![2560000, 2, 2]⟩
abbrev S5001 : Shape := ⟨1, ![5001]⟩
abbrev S2x64x2560000 : Shape := ⟨3, ![2, 64, 2560000]⟩
abbrev S2x2x2560000 : Shape := ⟨3, ![2, 2, 2560000]⟩
abbrev S5000x896 : Shape := ⟨2, ![5000, 896]⟩
abbrev S5000x128 : Shape := ⟨2, ![5000, 128]⟩
abbrev S8x896 : Shape := ⟨2, ![8, 896]⟩
abbrev S8x128 : Shape := ⟨2, ![8, 128]⟩
abbrev S2x8x2x64x640 : Shape := ⟨5, ![2, 8, 2, 64, 640]⟩
abbrev S2x8x2x2x640 : Shape := ⟨5, ![2, 8, 2, 2, 640]⟩
abbrev S128x128 : Shape := ⟨2, ![128, 128]⟩
abbrev S2 : Shape := ⟨1, ![2]⟩
abbrev S1 : Shape := ⟨1, ![1]⟩
abbrev S_ : Shape := ⟨0, ![]⟩
abbrev S1x1x2x64x640 : Shape := ⟨5, ![1, 1, 2, 64, 640]⟩
abbrev S2x64x640 : Shape := ⟨3, ![2, 64, 640]⟩
abbrev S1x1x2x2x640 : Shape := ⟨5, ![1, 1, 2, 2, 640]⟩
abbrev S2x2x640 : Shape := ⟨3, ![2, 2, 640]⟩
abbrev S16x640 : Shape := ⟨2, ![16, 640]⟩
abbrev S16x128 : Shape := ⟨2, ![16, 128]⟩
abbrev S1x1x1x32x640 : Shape := ⟨5, ![1, 1, 1, 32, 640]⟩
abbrev S32x640 : Shape := ⟨2, ![32, 640]⟩
abbrev S1x1x1x1x640 : Shape := ⟨5, ![1, 1, 1, 1, 640]⟩
abbrev S1x640 : Shape := ⟨2, ![1, 640]⟩
abbrev S128x640 : Shape := ⟨2, ![128, 640]⟩
abbrev S1x128 : Shape := ⟨2, ![1, 128]⟩
abbrev S16 : Shape := ⟨1, ![16]⟩
abbrev S16x1 : Shape := ⟨2, ![16, 1]⟩

abbrev nBuf : Space → Nat
  | .hbm => 17
  | .vmem => 14
  | .smem => 1
  | _ => 0

abbrev bufTy : (tb : Table) → Fin (tcTables nBuf tb) → BufTy
  | .hbm, ⟨0, _⟩ => ⟨S5000x1x896, .bf16⟩
  | .hbm, ⟨1, _⟩ => ⟨S5000x1x2x64, .bf16⟩
  | .hbm, ⟨2, _⟩ => ⟨S5000x1x2x64, .bf16⟩
  | .hbm, ⟨3, _⟩ => ⟨S2560000x2x64, .i8⟩
  | .hbm, ⟨4, _⟩ => ⟨S2560000x2x2, .f32⟩
  | .hbm, ⟨5, _⟩ => ⟨S2560000x2x64, .i8⟩
  | .hbm, ⟨6, _⟩ => ⟨S2560000x2x2, .f32⟩
  | .hbm, ⟨7, _⟩ => ⟨S2x64x2560000, .i8⟩
  | .hbm, ⟨8, _⟩ => ⟨S2x64x2560000, .i8⟩
  | .hbm, ⟨9, _⟩ => ⟨S2x2x2560000, .f32⟩
  | .hbm, ⟨10, _⟩ => ⟨S2x2x2560000, .f32⟩
  | .hbm, ⟨11, _⟩ => ⟨S5000x896, .bf16⟩
  | .hbm, ⟨12, _⟩ => ⟨S5000x128, .bf16⟩
  | .hbm, ⟨13, _⟩ => ⟨S5000x128, .f32⟩
  | .hbm, ⟨14, _⟩ => ⟨S5000x128, .bf16⟩
  | .hbm, ⟨15, _⟩ => ⟨S5000x128, .f32⟩
  | .hbm, ⟨16, _⟩ => ⟨S5000x896, .bf16⟩
  | .local _ .vmem, ⟨0, _⟩ => ⟨S8x896, .bf16⟩
  | .local _ .vmem, ⟨1, _⟩ => ⟨S8x896, .bf16⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x896, .bf16⟩
  | .local _ .vmem, ⟨7, _⟩ => ⟨S8x896, .bf16⟩
  | .local _ .vmem, ⟨8, _⟩ => ⟨S2x8x2x64x640, .i8⟩
  | .local _ .vmem, ⟨9, _⟩ => ⟨S2x8x2x2x640, .f32⟩
  | .local _ .vmem, ⟨10, _⟩ => ⟨S2x8x2x64x640, .i8⟩
  | .local _ .vmem, ⟨11, _⟩ => ⟨S2x8x2x2x640, .f32⟩
  | .local _ .vmem, ⟨12, _⟩ => ⟨S128x128, .f32⟩
  | .local _ .vmem, ⟨13, _⟩ => ⟨S128x128, .f32⟩
  | .local _ .smem, ⟨0, _⟩ => ⟨S5001, .i32⟩
  | _, _ => ⟨S5000x1x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![625], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 (v1691 : BitVec 32) : BitVec 32 :=
  let c7_i32_1010 : BitVec 32 := 7#32
  let v1692 : BitVec 32 := Scalar.shrui v1691 c7_i32_1010
  let c7_i32_1011 : BitVec 32 := 7#32
  let v1693 : BitVec 32 := Scalar.shli v1692 c7_i32_1011
  let c2559360_i32_1012 : BitVec 32 := 2559360#32
  let v1694 : BitVec 32 := Scalar.minsi v1693 c2559360_i32_1012
  v1694

def k0_mult2 (v1696 : BitVec 32) : BitVec 32 :=
  let c7_i32_1014 : BitVec 32 := 7#32
  let v1697 : BitVec 32 := Scalar.shrui v1696 c7_i32_1014
  let c7_i32_1015 : BitVec 32 := 7#32
  let v1698 : BitVec 32 := Scalar.shli v1697 c7_i32_1015
  let c2559360_i32_1016 : BitVec 32 := 2559360#32
  let v1699 : BitVec 32 := Scalar.minsi v1698 c2559360_i32_1016
  v1699

def k0_mult3 (v1701 : BitVec 32) : BitVec 32 :=
  let c7_i32_1018 : BitVec 32 := 7#32
  let v1702 : BitVec 32 := Scalar.shrui v1701 c7_i32_1018
  let c7_i32_1019 : BitVec 32 := 7#32
  let v1703 : BitVec 32 := Scalar.shli v1702 c7_i32_1019
  let c2559360_i32_1020 : BitVec 32 := 2559360#32
  let v1704 : BitVec 32 := Scalar.minsi v1703 c2559360_i32_1020
  v1704

def k0_mult4 (v1706 : BitVec 32) : BitVec 32 :=
  let c7_i32_1022 : BitVec 32 := 7#32
  let v1707 : BitVec 32 := Scalar.shrui v1706 c7_i32_1022
  let c7_i32_1023 : BitVec 32 := 7#32
  let v1708 : BitVec 32 := Scalar.shli v1707 c7_i32_1023
  let c2559360_i32_1024 : BitVec 32 := 2559360#32
  let v1709 : BitVec 32 := Scalar.minsi v1708 c2559360_i32_1024
  v1709

def k0_mult5 (v1711 : BitVec 32) : BitVec 32 :=
  let c7_i32_1026 : BitVec 32 := 7#32
  let v1712 : BitVec 32 := Scalar.shrui v1711 c7_i32_1026
  let c7_i32_1027 : BitVec 32 := 7#32
  let v1713 : BitVec 32 := Scalar.shli v1712 c7_i32_1027
  let c2559360_i32_1028 : BitVec 32 := 2559360#32
  let v1714 : BitVec 32 := Scalar.minsi v1713 c2559360_i32_1028
  v1714

def k0_mult6 (v1716 : BitVec 32) : BitVec 32 :=
  let c7_i32_1030 : BitVec 32 := 7#32
  let v1717 : BitVec 32 := Scalar.shrui v1716 c7_i32_1030
  let c7_i32_1031 : BitVec 32 := 7#32
  let v1718 : BitVec 32 := Scalar.shli v1717 c7_i32_1031
  let c2559360_i32_1032 : BitVec 32 := 2559360#32
  let v1719 : BitVec 32 := Scalar.minsi v1718 c2559360_i32_1032
  v1719

def k0_mult7 (v1721 : BitVec 32) : BitVec 32 :=
  let c7_i32_1034 : BitVec 32 := 7#32
  let v1722 : BitVec 32 := Scalar.shrui v1721 c7_i32_1034
  let c7_i32_1035 : BitVec 32 := 7#32
  let v1723 : BitVec 32 := Scalar.shli v1722 c7_i32_1035
  let c2559360_i32_1036 : BitVec 32 := 2559360#32
  let v1724 : BitVec 32 := Scalar.minsi v1723 c2559360_i32_1036
  v1724

def k0_mult8 (v1726 : BitVec 32) : BitVec 32 :=
  let c7_i32_1038 : BitVec 32 := 7#32
  let v1727 : BitVec 32 := Scalar.shrui v1726 c7_i32_1038
  let c7_i32_1039 : BitVec 32 := 7#32
  let v1728 : BitVec 32 := Scalar.shli v1727 c7_i32_1039
  let c2559360_i32_1040 : BitVec 32 := 2559360#32
  let v1729 : BitVec 32 := Scalar.minsi v1728 c2559360_i32_1040
  v1729

def k0_off1 (v1691 : BitVec 32) : Fin 3 → Nat :=
  let c0_i32_1047 : BitVec 32 := 0#32
  let c0_i32_1048 : BitVec 32 := 0#32
  let c7_i32_1010 : BitVec 32 := 7#32
  let v1692 : BitVec 32 := Scalar.shrui v1691 c7_i32_1010
  let c7_i32_1011 : BitVec 32 := 7#32
  let v1693 : BitVec 32 := Scalar.shli v1692 c7_i32_1011
  let c2559360_i32_1012 : BitVec 32 := 2559360#32
  let v1694 : BitVec 32 := Scalar.minsi v1693 c2559360_i32_1012
  let v1695 : BitVec 32 := v1694
  ![0, 0, v1695.toNat]
def k0_off2 (v1691 : BitVec 32) : Fin 3 → Nat :=
  let c0_i32_1055 : BitVec 32 := 0#32
  let c0_i32_1056 : BitVec 32 := 0#32
  let c7_i32_1010 : BitVec 32 := 7#32
  let v1692 : BitVec 32 := Scalar.shrui v1691 c7_i32_1010
  let c7_i32_1011 : BitVec 32 := 7#32
  let v1693 : BitVec 32 := Scalar.shli v1692 c7_i32_1011
  let c2559360_i32_1012 : BitVec 32 := 2559360#32
  let v1694 : BitVec 32 := Scalar.minsi v1693 c2559360_i32_1012
  let v1695 : BitVec 32 := v1694
  ![0, 0, v1695.toNat]

def k0_chk1 (i : grid0.Coords) (v1691 : BitVec 32) : Prop :=
  (∀ (k0_h1 : k0_cond1 i = 1#1), 128 ∣ (k0_mult1 v1691).toNat) ∧
  (∀ (k0_h1 : k0_cond1 i = 1#1), ∀ a, (k0_off1 v1691) a + S2x64x640.size a ≤ S2x64x2560000.size a) ∧
  (∀ (k0_h1 : k0_cond1 i = 1#1), ∀ (hinb : ∀ a, (k0_off1 v1691) a + S2x64x640.size a ≤ S2x64x2560000.size a), (Rect.unit (s := S2x64x2560000) (k0_off1 v1691) S2x64x640.size hinb).WholeWords (EltTy.packing .i8)) ∧
  (∀ (k0_h1 : k0_cond1 i = 1#1), ∀ a, (k0_off2 v1691) a + S2x2x640.size a ≤ S2x2x2560000.size a)
theorem k0_mult1_dvd : ∀ (i : grid0.Coords) (v1691 : BitVec 32) (k0_hw1 : k0_chk1 i v1691), ∀ (k0_h1 : k0_cond1 i = 1#1), 128 ∣ (k0_mult1 v1691).toNat := fun i v1691 k0_hw1 k0_h1 => k0_hw1.1 k0_h1
theorem k0_off1_inb : ∀ (i : grid0.Coords) (v1691 : BitVec 32) (k0_hw1 : k0_chk1 i v1691), ∀ (k0_h1 : k0_cond1 i = 1#1), ∀ a, (k0_off1 v1691) a + S2x64x640.size a ≤ S2x64x2560000.size a := fun i v1691 k0_hw1 k0_h1 => k0_hw1.2.1 k0_h1
theorem k0_off1_wordsi8 : ∀ (i : grid0.Coords) (v1691 : BitVec 32) (k0_hw1 : k0_chk1 i v1691), ∀ (k0_h1 : k0_cond1 i = 1#1), (Rect.unit (s := S2x64x2560000) (k0_off1 v1691) S2x64x640.size (k0_off1_inb i v1691 k0_hw1 k0_h1)).WholeWords (EltTy.packing .i8) := fun i v1691 k0_hw1 k0_h1 => k0_hw1.2.2.1 k0_h1 (k0_off1_inb i v1691 k0_hw1 k0_h1)
theorem k0_off2_inb : ∀ (i : grid0.Coords) (v1691 : BitVec 32) (k0_hw1 : k0_chk1 i v1691), ∀ (k0_h1 : k0_cond1 i = 1#1), ∀ a, (k0_off2 v1691) a + S2x2x640.size a ≤ S2x2x2560000.size a := fun i v1691 k0_hw1 k0_h1 => k0_hw1.2.2.2 k0_h1

def k0_off3 (v1696 : BitVec 32) : Fin 3 → Nat :=
  let c0_i32_1079 : BitVec 32 := 0#32
  let c0_i32_1080 : BitVec 32 := 0#32
  let c7_i32_1014 : BitVec 32 := 7#32
  let v1697 : BitVec 32 := Scalar.shrui v1696 c7_i32_1014
  let c7_i32_1015 : BitVec 32 := 7#32
  let v1698 : BitVec 32 := Scalar.shli v1697 c7_i32_1015
  let c2559360_i32_1016 : BitVec 32 := 2559360#32
  let v1699 : BitVec 32 := Scalar.minsi v1698 c2559360_i32_1016
  let v1700 : BitVec 32 := v1699
  ![0, 0, v1700.toNat]
def k0_off4 (v1696 : BitVec 32) : Fin 3 → Nat :=
  let c0_i32_1087 : BitVec 32 := 0#32
  let c0_i32_1088 : BitVec 32 := 0#32
  let c7_i32_1014 : BitVec 32 := 7#32
  let v1697 : BitVec 32 := Scalar.shrui v1696 c7_i32_1014
  let c7_i32_1015 : BitVec 32 := 7#32
  let v1698 : BitVec 32 := Scalar.shli v1697 c7_i32_1015
  let c2559360_i32_1016 : BitVec 32 := 2559360#32
  let v1699 : BitVec 32 := Scalar.minsi v1698 c2559360_i32_1016
  let v1700 : BitVec 32 := v1699
  ![0, 0, v1700.toNat]

def k0_chk2 (i : grid0.Coords) (v1696 : BitVec 32) : Prop :=
  (∀ (k0_h1 : k0_cond1 i = 1#1), 128 ∣ (k0_mult2 v1696).toNat) ∧
  (∀ (k0_h1 : k0_cond1 i = 1#1), ∀ a, (k0_off3 v1696) a + S2x64x640.size a ≤ S2x64x2560000.size a) ∧
  (∀ (k0_h1 : k0_cond1 i = 1#1), ∀ (hinb : ∀ a, (k0_off3 v1696) a + S2x64x640.size a ≤ S2x64x2560000.size a), (Rect.unit (s := S2x64x2560000) (k0_off3 v1696) S2x64x640.size hinb).WholeWords (EltTy.packing .i8)) ∧
  (∀ (k0_h1 : k0_cond1 i = 1#1), ∀ a, (k0_off4 v1696) a + S2x2x640.size a ≤ S2x2x2560000.size a)
theorem k0_mult2_dvd : ∀ (i : grid0.Coords) (v1696 : BitVec 32) (k0_hw2 : k0_chk2 i v1696), ∀ (k0_h1 : k0_cond1 i = 1#1), 128 ∣ (k0_mult2 v1696).toNat := fun i v1696 k0_hw2 k0_h1 => k0_hw2.1 k0_h1
theorem k0_off3_inb : ∀ (i : grid0.Coords) (v1696 : BitVec 32) (k0_hw2 : k0_chk2 i v1696), ∀ (k0_h1 : k0_cond1 i = 1#1), ∀ a, (k0_off3 v1696) a + S2x64x640.size a ≤ S2x64x2560000.size a := fun i v1696 k0_hw2 k0_h1 => k0_hw2.2.1 k0_h1
theorem k0_off3_wordsi8 : ∀ (i : grid0.Coords) (v1696 : BitVec 32) (k0_hw2 : k0_chk2 i v1696), ∀ (k0_h1 : k0_cond1 i = 1#1), (Rect.unit (s := S2x64x2560000) (k0_off3 v1696) S2x64x640.size (k0_off3_inb i v1696 k0_hw2 k0_h1)).WholeWords (EltTy.packing .i8) := fun i v1696 k0_hw2 k0_h1 => k0_hw2.2.2.1 k0_h1 (k0_off3_inb i v1696 k0_hw2 k0_h1)
theorem k0_off4_inb : ∀ (i : grid0.Coords) (v1696 : BitVec 32) (k0_hw2 : k0_chk2 i v1696), ∀ (k0_h1 : k0_cond1 i = 1#1), ∀ a, (k0_off4 v1696) a + S2x2x640.size a ≤ S2x2x2560000.size a := fun i v1696 k0_hw2 k0_h1 => k0_hw2.2.2.2 k0_h1

def k0_off5 (v1701 : BitVec 32) : Fin 3 → Nat :=
  let c0_i32_1111 : BitVec 32 := 0#32
  let c0_i32_1112 : BitVec 32 := 0#32
  let c7_i32_1018 : BitVec 32 := 7#32
  let v1702 : BitVec 32 := Scalar.shrui v1701 c7_i32_1018
  let c7_i32_1019 : BitVec 32 := 7#32
  let v1703 : BitVec 32 := Scalar.shli v1702 c7_i32_1019
  let c2559360_i32_1020 : BitVec 32 := 2559360#32
  let v1704 : BitVec 32 := Scalar.minsi v1703 c2559360_i32_1020
  let v1705 : BitVec 32 := v1704
  ![0, 0, v1705.toNat]
def k0_off6 (v1701 : BitVec 32) : Fin 3 → Nat :=
  let c0_i32_1119 : BitVec 32 := 0#32
  let c0_i32_1120 : BitVec 32 := 0#32
  let c7_i32_1018 : BitVec 32 := 7#32
  let v1702 : BitVec 32 := Scalar.shrui v1701 c7_i32_1018
  let c7_i32_1019 : BitVec 32 := 7#32
  let v1703 : BitVec 32 := Scalar.shli v1702 c7_i32_1019
  let c2559360_i32_1020 : BitVec 32 := 2559360#32
  let v1704 : BitVec 32 := Scalar.minsi v1703 c2559360_i32_1020
  let v1705 : BitVec 32 := v1704
  ![0, 0, v1705.toNat]

def k0_chk3 (i : grid0.Coords) (v1701 : BitVec 32) : Prop :=
  (∀ (k0_h1 : k0_cond1 i = 1#1), 128 ∣ (k0_mult3 v1701).toNat) ∧
  (∀ (k0_h1 : k0_cond1 i = 1#1), ∀ a, (k0_off5 v1701) a + S2x64x640.size a ≤ S2x64x2560000.size a) ∧
  (∀ (k0_h1 : k0_cond1 i = 1#1), ∀ (hinb : ∀ a, (k0_off5 v1701) a + S2x64x640.size a ≤ S2x64x2560000.size a), (Rect.unit (s := S2x64x2560000) (k0_off5 v1701) S2x64x640.size hinb).WholeWords (EltTy.packing .i8)) ∧
  (∀ (k0_h1 : k0_cond1 i = 1#1), ∀ a, (k0_off6 v1701) a + S2x2x640.size a ≤ S2x2x2560000.size a)
theorem k0_mult3_dvd : ∀ (i : grid0.Coords) (v1701 : BitVec 32) (k0_hw3 : k0_chk3 i v1701), ∀ (k0_h1 : k0_cond1 i = 1#1), 128 ∣ (k0_mult3 v1701).toNat := fun i v1701 k0_hw3 k0_h1 => k0_hw3.1 k0_h1
theorem k0_off5_inb : ∀ (i : grid0.Coords) (v1701 : BitVec 32) (k0_hw3 : k0_chk3 i v1701), ∀ (k0_h1 : k0_cond1 i = 1#1), ∀ a, (k0_off5 v1701) a + S2x64x640.size a ≤ S2x64x2560000.size a := fun i v1701 k0_hw3 k0_h1 => k0_hw3.2.1 k0_h1
theorem k0_off5_wordsi8 : ∀ (i : grid0.Coords) (v1701 : BitVec 32) (k0_hw3 : k0_chk3 i v1701), ∀ (k0_h1 : k0_cond1 i = 1#1), (Rect.unit (s := S2x64x2560000) (k0_off5 v1701) S2x64x640.size (k0_off5_inb i v1701 k0_hw3 k0_h1)).WholeWords (EltTy.packing .i8) := fun i v1701 k0_hw3 k0_h1 => k0_hw3.2.2.1 k0_h1 (k0_off5_inb i v1701 k0_hw3 k0_h1)
theorem k0_off6_inb : ∀ (i : grid0.Coords) (v1701 : BitVec 32) (k0_hw3 : k0_chk3 i v1701), ∀ (k0_h1 : k0_cond1 i = 1#1), ∀ a, (k0_off6 v1701) a + S2x2x640.size a ≤ S2x2x2560000.size a := fun i v1701 k0_hw3 k0_h1 => k0_hw3.2.2.2 k0_h1

def k0_off7 (v1706 : BitVec 32) : Fin 3 → Nat :=
  let c0_i32_1143 : BitVec 32 := 0#32
  let c0_i32_1144 : BitVec 32 := 0#32
  let c7_i32_1022 : BitVec 32 := 7#32
  let v1707 : BitVec 32 := Scalar.shrui v1706 c7_i32_1022
  let c7_i32_1023 : BitVec 32 := 7#32
  let v1708 : BitVec 32 := Scalar.shli v1707 c7_i32_1023
  let c2559360_i32_1024 : BitVec 32 := 2559360#32
  let v1709 : BitVec 32 := Scalar.minsi v1708 c2559360_i32_1024
  let v1710 : BitVec 32 := v1709
  ![0, 0, v1710.toNat]
def k0_off8 (v1706 : BitVec 32) : Fin 3 → Nat :=
  let c0_i32_1151 : BitVec 32 := 0#32
  let c0_i32_1152 : BitVec 32 := 0#32
  let c7_i32_1022 : BitVec 32 := 7#32
  let v1707 : BitVec 32 := Scalar.shrui v1706 c7_i32_1022
  let c7_i32_1023 : BitVec 32 := 7#32
  let v1708 : BitVec 32 := Scalar.shli v1707 c7_i32_1023
  let c2559360_i32_1024 : BitVec 32 := 2559360#32
  let v1709 : BitVec 32 := Scalar.minsi v1708 c2559360_i32_1024
  let v1710 : BitVec 32 := v1709
  ![0, 0, v1710.toNat]

def k0_chk4 (i : grid0.Coords) (v1706 : BitVec 32) : Prop :=
  (∀ (k0_h1 : k0_cond1 i = 1#1), 128 ∣ (k0_mult4 v1706).toNat) ∧
  (∀ (k0_h1 : k0_cond1 i = 1#1), ∀ a, (k0_off7 v1706) a + S2x64x640.size a ≤ S2x64x2560000.size a) ∧
  (∀ (k0_h1 : k0_cond1 i = 1#1), ∀ (hinb : ∀ a, (k0_off7 v1706) a + S2x64x640.size a ≤ S2x64x2560000.size a), (Rect.unit (s := S2x64x2560000) (k0_off7 v1706) S2x64x640.size hinb).WholeWords (EltTy.packing .i8)) ∧
  (∀ (k0_h1 : k0_cond1 i = 1#1), ∀ a, (k0_off8 v1706) a + S2x2x640.size a ≤ S2x2x2560000.size a)
theorem k0_mult4_dvd : ∀ (i : grid0.Coords) (v1706 : BitVec 32) (k0_hw4 : k0_chk4 i v1706), ∀ (k0_h1 : k0_cond1 i = 1#1), 128 ∣ (k0_mult4 v1706).toNat := fun i v1706 k0_hw4 k0_h1 => k0_hw4.1 k0_h1
theorem k0_off7_inb : ∀ (i : grid0.Coords) (v1706 : BitVec 32) (k0_hw4 : k0_chk4 i v1706), ∀ (k0_h1 : k0_cond1 i = 1#1), ∀ a, (k0_off7 v1706) a + S2x64x640.size a ≤ S2x64x2560000.size a := fun i v1706 k0_hw4 k0_h1 => k0_hw4.2.1 k0_h1
theorem k0_off7_wordsi8 : ∀ (i : grid0.Coords) (v1706 : BitVec 32) (k0_hw4 : k0_chk4 i v1706), ∀ (k0_h1 : k0_cond1 i = 1#1), (Rect.unit (s := S2x64x2560000) (k0_off7 v1706) S2x64x640.size (k0_off7_inb i v1706 k0_hw4 k0_h1)).WholeWords (EltTy.packing .i8) := fun i v1706 k0_hw4 k0_h1 => k0_hw4.2.2.1 k0_h1 (k0_off7_inb i v1706 k0_hw4 k0_h1)
theorem k0_off8_inb : ∀ (i : grid0.Coords) (v1706 : BitVec 32) (k0_hw4 : k0_chk4 i v1706), ∀ (k0_h1 : k0_cond1 i = 1#1), ∀ a, (k0_off8 v1706) a + S2x2x640.size a ≤ S2x2x2560000.size a := fun i v1706 k0_hw4 k0_h1 => k0_hw4.2.2.2 k0_h1

def k0_off9 (v1711 : BitVec 32) : Fin 3 → Nat :=
  let c0_i32_1175 : BitVec 32 := 0#32
  let c0_i32_1176 : BitVec 32 := 0#32
  let c7_i32_1026 : BitVec 32 := 7#32
  let v1712 : BitVec 32 := Scalar.shrui v1711 c7_i32_1026
  let c7_i32_1027 : BitVec 32 := 7#32
  let v1713 : BitVec 32 := Scalar.shli v1712 c7_i32_1027
  let c2559360_i32_1028 : BitVec 32 := 2559360#32
  let v1714 : BitVec 32 := Scalar.minsi v1713 c2559360_i32_1028
  let v1715 : BitVec 32 := v1714
  ![0, 0, v1715.toNat]
def k0_off10 (v1711 : BitVec 32) : Fin 3 → Nat :=
  let c0_i32_1183 : BitVec 32 := 0#32
  let c0_i32_1184 : BitVec 32 := 0#32
  let c7_i32_1026 : BitVec 32 := 7#32
  let v1712 : BitVec 32 := Scalar.shrui v1711 c7_i32_1026
  let c7_i32_1027 : BitVec 32 := 7#32
  let v1713 : BitVec 32 := Scalar.shli v1712 c7_i32_1027
  let c2559360_i32_1028 : BitVec 32 := 2559360#32
  let v1714 : BitVec 32 := Scalar.minsi v1713 c2559360_i32_1028
  let v1715 : BitVec 32 := v1714
  ![0, 0, v1715.toNat]

def k0_chk5 (i : grid0.Coords) (v1711 : BitVec 32) : Prop :=
  (∀ (k0_h1 : k0_cond1 i = 1#1), 128 ∣ (k0_mult5 v1711).toNat) ∧
  (∀ (k0_h1 : k0_cond1 i = 1#1), ∀ a, (k0_off9 v1711) a + S2x64x640.size a ≤ S2x64x2560000.size a) ∧
  (∀ (k0_h1 : k0_cond1 i = 1#1), ∀ (hinb : ∀ a, (k0_off9 v1711) a + S2x64x640.size a ≤ S2x64x2560000.size a), (Rect.unit (s := S2x64x2560000) (k0_off9 v1711) S2x64x640.size hinb).WholeWords (EltTy.packing .i8)) ∧
  (∀ (k0_h1 : k0_cond1 i = 1#1), ∀ a, (k0_off10 v1711) a + S2x2x640.size a ≤ S2x2x2560000.size a)
theorem k0_mult5_dvd : ∀ (i : grid0.Coords) (v1711 : BitVec 32) (k0_hw5 : k0_chk5 i v1711), ∀ (k0_h1 : k0_cond1 i = 1#1), 128 ∣ (k0_mult5 v1711).toNat := fun i v1711 k0_hw5 k0_h1 => k0_hw5.1 k0_h1
theorem k0_off9_inb : ∀ (i : grid0.Coords) (v1711 : BitVec 32) (k0_hw5 : k0_chk5 i v1711), ∀ (k0_h1 : k0_cond1 i = 1#1), ∀ a, (k0_off9 v1711) a + S2x64x640.size a ≤ S2x64x2560000.size a := fun i v1711 k0_hw5 k0_h1 => k0_hw5.2.1 k0_h1
theorem k0_off9_wordsi8 : ∀ (i : grid0.Coords) (v1711 : BitVec 32) (k0_hw5 : k0_chk5 i v1711), ∀ (k0_h1 : k0_cond1 i = 1#1), (Rect.unit (s := S2x64x2560000) (k0_off9 v1711) S2x64x640.size (k0_off9_inb i v1711 k0_hw5 k0_h1)).WholeWords (EltTy.packing .i8) := fun i v1711 k0_hw5 k0_h1 => k0_hw5.2.2.1 k0_h1 (k0_off9_inb i v1711 k0_hw5 k0_h1)
theorem k0_off10_inb : ∀ (i : grid0.Coords) (v1711 : BitVec 32) (k0_hw5 : k0_chk5 i v1711), ∀ (k0_h1 : k0_cond1 i = 1#1), ∀ a, (k0_off10 v1711) a + S2x2x640.size a ≤ S2x2x2560000.size a := fun i v1711 k0_hw5 k0_h1 => k0_hw5.2.2.2 k0_h1

def k0_off11 (v1716 : BitVec 32) : Fin 3 → Nat :=
  let c0_i32_1207 : BitVec 32 := 0#32
  let c0_i32_1208 : BitVec 32 := 0#32
  let c7_i32_1030 : BitVec 32 := 7#32
  let v1717 : BitVec 32 := Scalar.shrui v1716 c7_i32_1030
  let c7_i32_1031 : BitVec 32 := 7#32
  let v1718 : BitVec 32 := Scalar.shli v1717 c7_i32_1031
  let c2559360_i32_1032 : BitVec 32 := 2559360#32
  let v1719 : BitVec 32 := Scalar.minsi v1718 c2559360_i32_1032
  let v1720 : BitVec 32 := v1719
  ![0, 0, v1720.toNat]
def k0_off12 (v1716 : BitVec 32) : Fin 3 → Nat :=
  let c0_i32_1215 : BitVec 32 := 0#32
  let c0_i32_1216 : BitVec 32 := 0#32
  let c7_i32_1030 : BitVec 32 := 7#32
  let v1717 : BitVec 32 := Scalar.shrui v1716 c7_i32_1030
  let c7_i32_1031 : BitVec 32 := 7#32
  let v1718 : BitVec 32 := Scalar.shli v1717 c7_i32_1031
  let c2559360_i32_1032 : BitVec 32 := 2559360#32
  let v1719 : BitVec 32 := Scalar.minsi v1718 c2559360_i32_1032
  let v1720 : BitVec 32 := v1719
  ![0, 0, v1720.toNat]

def k0_chk6 (i : grid0.Coords) (v1716 : BitVec 32) : Prop :=
  (∀ (k0_h1 : k0_cond1 i = 1#1), 128 ∣ (k0_mult6 v1716).toNat) ∧
  (∀ (k0_h1 : k0_cond1 i = 1#1), ∀ a, (k0_off11 v1716) a + S2x64x640.size a ≤ S2x64x2560000.size a) ∧
  (∀ (k0_h1 : k0_cond1 i = 1#1), ∀ (hinb : ∀ a, (k0_off11 v1716) a + S2x64x640.size a ≤ S2x64x2560000.size a), (Rect.unit (s := S2x64x2560000) (k0_off11 v1716) S2x64x640.size hinb).WholeWords (EltTy.packing .i8)) ∧
  (∀ (k0_h1 : k0_cond1 i = 1#1), ∀ a, (k0_off12 v1716) a + S2x2x640.size a ≤ S2x2x2560000.size a)
theorem k0_mult6_dvd : ∀ (i : grid0.Coords) (v1716 : BitVec 32) (k0_hw6 : k0_chk6 i v1716), ∀ (k0_h1 : k0_cond1 i = 1#1), 128 ∣ (k0_mult6 v1716).toNat := fun i v1716 k0_hw6 k0_h1 => k0_hw6.1 k0_h1
theorem k0_off11_inb : ∀ (i : grid0.Coords) (v1716 : BitVec 32) (k0_hw6 : k0_chk6 i v1716), ∀ (k0_h1 : k0_cond1 i = 1#1), ∀ a, (k0_off11 v1716) a + S2x64x640.size a ≤ S2x64x2560000.size a := fun i v1716 k0_hw6 k0_h1 => k0_hw6.2.1 k0_h1
theorem k0_off11_wordsi8 : ∀ (i : grid0.Coords) (v1716 : BitVec 32) (k0_hw6 : k0_chk6 i v1716), ∀ (k0_h1 : k0_cond1 i = 1#1), (Rect.unit (s := S2x64x2560000) (k0_off11 v1716) S2x64x640.size (k0_off11_inb i v1716 k0_hw6 k0_h1)).WholeWords (EltTy.packing .i8) := fun i v1716 k0_hw6 k0_h1 => k0_hw6.2.2.1 k0_h1 (k0_off11_inb i v1716 k0_hw6 k0_h1)
theorem k0_off12_inb : ∀ (i : grid0.Coords) (v1716 : BitVec 32) (k0_hw6 : k0_chk6 i v1716), ∀ (k0_h1 : k0_cond1 i = 1#1), ∀ a, (k0_off12 v1716) a + S2x2x640.size a ≤ S2x2x2560000.size a := fun i v1716 k0_hw6 k0_h1 => k0_hw6.2.2.2 k0_h1

def k0_off13 (v1721 : BitVec 32) : Fin 3 → Nat :=
  let c0_i32_1239 : BitVec 32 := 0#32
  let c0_i32_1240 : BitVec 32 := 0#32
  let c7_i32_1034 : BitVec 32 := 7#32
  let v1722 : BitVec 32 := Scalar.shrui v1721 c7_i32_1034
  let c7_i32_1035 : BitVec 32 := 7#32
  let v1723 : BitVec 32 := Scalar.shli v1722 c7_i32_1035
  let c2559360_i32_1036 : BitVec 32 := 2559360#32
  let v1724 : BitVec 32 := Scalar.minsi v1723 c2559360_i32_1036
  let v1725 : BitVec 32 := v1724
  ![0, 0, v1725.toNat]
def k0_off14 (v1721 : BitVec 32) : Fin 3 → Nat :=
  let c0_i32_1247 : BitVec 32 := 0#32
  let c0_i32_1248 : BitVec 32 := 0#32
  let c7_i32_1034 : BitVec 32 := 7#32
  let v1722 : BitVec 32 := Scalar.shrui v1721 c7_i32_1034
  let c7_i32_1035 : BitVec 32 := 7#32
  let v1723 : BitVec 32 := Scalar.shli v1722 c7_i32_1035
  let c2559360_i32_1036 : BitVec 32 := 2559360#32
  let v1724 : BitVec 32 := Scalar.minsi v1723 c2559360_i32_1036
  let v1725 : BitVec 32 := v1724
  ![0, 0, v1725.toNat]

def k0_chk7 (i : grid0.Coords) (v1721 : BitVec 32) : Prop :=
  (∀ (k0_h1 : k0_cond1 i = 1#1), 128 ∣ (k0_mult7 v1721).toNat) ∧
  (∀ (k0_h1 : k0_cond1 i = 1#1), ∀ a, (k0_off13 v1721) a + S2x64x640.size a ≤ S2x64x2560000.size a) ∧
  (∀ (k0_h1 : k0_cond1 i = 1#1), ∀ (hinb : ∀ a, (k0_off13 v1721) a + S2x64x640.size a ≤ S2x64x2560000.size a), (Rect.unit (s := S2x64x2560000) (k0_off13 v1721) S2x64x640.size hinb).WholeWords (EltTy.packing .i8)) ∧
  (∀ (k0_h1 : k0_cond1 i = 1#1), ∀ a, (k0_off14 v1721) a + S2x2x640.size a ≤ S2x2x2560000.size a)
theorem k0_mult7_dvd : ∀ (i : grid0.Coords) (v1721 : BitVec 32) (k0_hw7 : k0_chk7 i v1721), ∀ (k0_h1 : k0_cond1 i = 1#1), 128 ∣ (k0_mult7 v1721).toNat := fun i v1721 k0_hw7 k0_h1 => k0_hw7.1 k0_h1
theorem k0_off13_inb : ∀ (i : grid0.Coords) (v1721 : BitVec 32) (k0_hw7 : k0_chk7 i v1721), ∀ (k0_h1 : k0_cond1 i = 1#1), ∀ a, (k0_off13 v1721) a + S2x64x640.size a ≤ S2x64x2560000.size a := fun i v1721 k0_hw7 k0_h1 => k0_hw7.2.1 k0_h1
theorem k0_off13_wordsi8 : ∀ (i : grid0.Coords) (v1721 : BitVec 32) (k0_hw7 : k0_chk7 i v1721), ∀ (k0_h1 : k0_cond1 i = 1#1), (Rect.unit (s := S2x64x2560000) (k0_off13 v1721) S2x64x640.size (k0_off13_inb i v1721 k0_hw7 k0_h1)).WholeWords (EltTy.packing .i8) := fun i v1721 k0_hw7 k0_h1 => k0_hw7.2.2.1 k0_h1 (k0_off13_inb i v1721 k0_hw7 k0_h1)
theorem k0_off14_inb : ∀ (i : grid0.Coords) (v1721 : BitVec 32) (k0_hw7 : k0_chk7 i v1721), ∀ (k0_h1 : k0_cond1 i = 1#1), ∀ a, (k0_off14 v1721) a + S2x2x640.size a ≤ S2x2x2560000.size a := fun i v1721 k0_hw7 k0_h1 => k0_hw7.2.2.2 k0_h1

def k0_off15 (v1726 : BitVec 32) : Fin 3 → Nat :=
  let c0_i32_1271 : BitVec 32 := 0#32
  let c0_i32_1272 : BitVec 32 := 0#32
  let c7_i32_1038 : BitVec 32 := 7#32
  let v1727 : BitVec 32 := Scalar.shrui v1726 c7_i32_1038
  let c7_i32_1039 : BitVec 32 := 7#32
  let v1728 : BitVec 32 := Scalar.shli v1727 c7_i32_1039
  let c2559360_i32_1040 : BitVec 32 := 2559360#32
  let v1729 : BitVec 32 := Scalar.minsi v1728 c2559360_i32_1040
  let v1730 : BitVec 32 := v1729
  ![0, 0, v1730.toNat]
def k0_off16 (v1726 : BitVec 32) : Fin 3 → Nat :=
  let c0_i32_1279 : BitVec 32 := 0#32
  let c0_i32_1280 : BitVec 32 := 0#32
  let c7_i32_1038 : BitVec 32 := 7#32
  let v1727 : BitVec 32 := Scalar.shrui v1726 c7_i32_1038
  let c7_i32_1039 : BitVec 32 := 7#32
  let v1728 : BitVec 32 := Scalar.shli v1727 c7_i32_1039
  let c2559360_i32_1040 : BitVec 32 := 2559360#32
  let v1729 : BitVec 32 := Scalar.minsi v1728 c2559360_i32_1040
  let v1730 : BitVec 32 := v1729
  ![0, 0, v1730.toNat]

def k0_chk8 (i : grid0.Coords) (v1726 : BitVec 32) : Prop :=
  (∀ (k0_h1 : k0_cond1 i = 1#1), 128 ∣ (k0_mult8 v1726).toNat) ∧
  (∀ (k0_h1 : k0_cond1 i = 1#1), ∀ a, (k0_off15 v1726) a + S2x64x640.size a ≤ S2x64x2560000.size a) ∧
  (∀ (k0_h1 : k0_cond1 i = 1#1), ∀ (hinb : ∀ a, (k0_off15 v1726) a + S2x64x640.size a ≤ S2x64x2560000.size a), (Rect.unit (s := S2x64x2560000) (k0_off15 v1726) S2x64x640.size hinb).WholeWords (EltTy.packing .i8)) ∧
  (∀ (k0_h1 : k0_cond1 i = 1#1), ∀ a, (k0_off16 v1726) a + S2x2x640.size a ≤ S2x2x2560000.size a)
theorem k0_mult8_dvd : ∀ (i : grid0.Coords) (v1726 : BitVec 32) (k0_hw8 : k0_chk8 i v1726), ∀ (k0_h1 : k0_cond1 i = 1#1), 128 ∣ (k0_mult8 v1726).toNat := fun i v1726 k0_hw8 k0_h1 => k0_hw8.1 k0_h1
theorem k0_off15_inb : ∀ (i : grid0.Coords) (v1726 : BitVec 32) (k0_hw8 : k0_chk8 i v1726), ∀ (k0_h1 : k0_cond1 i = 1#1), ∀ a, (k0_off15 v1726) a + S2x64x640.size a ≤ S2x64x2560000.size a := fun i v1726 k0_hw8 k0_h1 => k0_hw8.2.1 k0_h1
theorem k0_off15_wordsi8 : ∀ (i : grid0.Coords) (v1726 : BitVec 32) (k0_hw8 : k0_chk8 i v1726), ∀ (k0_h1 : k0_cond1 i = 1#1), (Rect.unit (s := S2x64x2560000) (k0_off15 v1726) S2x64x640.size (k0_off15_inb i v1726 k0_hw8 k0_h1)).WholeWords (EltTy.packing .i8) := fun i v1726 k0_hw8 k0_h1 => k0_hw8.2.2.1 k0_h1 (k0_off15_inb i v1726 k0_hw8 k0_h1)
theorem k0_off16_inb : ∀ (i : grid0.Coords) (v1726 : BitVec 32) (k0_hw8 : k0_chk8 i v1726), ∀ (k0_h1 : k0_cond1 i = 1#1), ∀ a, (k0_off16 v1726) a + S2x2x640.size a ≤ S2x2x2560000.size a := fun i v1726 k0_hw8 k0_h1 => k0_hw8.2.2.2 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c625_i32 : BitVec 32 := 625#32
  let v5 : BitVec 1 := Scalar.cmpi .slt v4 c625_i32
  let v6 : BitVec 32 := Scalar.extui v5
  let c0_i32_1 : BitVec 32 := 0#32
  let v7 : BitVec 1 := Scalar.cmpi .ne v6 c0_i32_1
  v7

def k0_off17 (i : grid0.Coords) : Fin 1 → Nat :=
  let arg0 : BitVec 32 := BitVec.ofNat 32 (i 0).val
  let c1_i32_1009 : BitVec 32 := 1#32
  let v1691 : BitVec 32 := Scalar.addi arg0 c1_i32_1009
  let c8_i32_1011 : BitVec 32 := 8#32
  let v1693 : BitVec 32 := Scalar.muli v1691 c8_i32_1011
  let c0_i32_1012 : BitVec 32 := 0#32
  let v1694 : BitVec 32 := Scalar.addi v1693 c0_i32_1012
  let v1695 : Index := Scalar.indexCast v1694
  ![v1695.toNat]
def k0_mult9 (v1696 : BitVec 32) : BitVec 32 :=
  let c7_i32_1013 : BitVec 32 := 7#32
  let v1697 : BitVec 32 := Scalar.shrui v1696 c7_i32_1013
  let c7_i32_1014 : BitVec 32 := 7#32
  let v1698 : BitVec 32 := Scalar.shli v1697 c7_i32_1014
  let c2559360_i32_1015 : BitVec 32 := 2559360#32
  let v1699 : BitVec 32 := Scalar.minsi v1698 c2559360_i32_1015
  v1699

def k0_off18 (i : grid0.Coords) : Fin 1 → Nat :=
  let arg0 : BitVec 32 := BitVec.ofNat 32 (i 0).val
  let c1_i32_1009 : BitVec 32 := 1#32
  let v1691 : BitVec 32 := Scalar.addi arg0 c1_i32_1009
  let c8_i32_1016 : BitVec 32 := 8#32
  let v1701 : BitVec 32 := Scalar.muli v1691 c8_i32_1016
  let c1_i32_1017 : BitVec 32 := 1#32
  let v1702 : BitVec 32 := Scalar.addi v1701 c1_i32_1017
  let v1703 : Index := Scalar.indexCast v1702
  ![v1703.toNat]
def k0_mult10 (v1704 : BitVec 32) : BitVec 32 :=
  let c7_i32_1018 : BitVec 32 := 7#32
  let v1705 : BitVec 32 := Scalar.shrui v1704 c7_i32_1018
  let c7_i32_1019 : BitVec 32 := 7#32
  let v1706 : BitVec 32 := Scalar.shli v1705 c7_i32_1019
  let c2559360_i32_1020 : BitVec 32 := 2559360#32
  let v1707 : BitVec 32 := Scalar.minsi v1706 c2559360_i32_1020
  v1707

def k0_off19 (i : grid0.Coords) : Fin 1 → Nat :=
  let arg0 : BitVec 32 := BitVec.ofNat 32 (i 0).val
  let c1_i32_1009 : BitVec 32 := 1#32
  let v1691 : BitVec 32 := Scalar.addi arg0 c1_i32_1009
  let c8_i32_1021 : BitVec 32 := 8#32
  let v1709 : BitVec 32 := Scalar.muli v1691 c8_i32_1021
  let c2_i32_1022 : BitVec 32 := 2#32
  let v1710 : BitVec 32 := Scalar.addi v1709 c2_i32_1022
  let v1711 : Index := Scalar.indexCast v1710
  ![v1711.toNat]
def k0_mult11 (v1712 : BitVec 32) : BitVec 32 :=
  let c7_i32_1023 : BitVec 32 := 7#32
  let v1713 : BitVec 32 := Scalar.shrui v1712 c7_i32_1023
  let c7_i32_1024 : BitVec 32 := 7#32
  let v1714 : BitVec 32 := Scalar.shli v1713 c7_i32_1024
  let c2559360_i32_1025 : BitVec 32 := 2559360#32
  let v1715 : BitVec 32 := Scalar.minsi v1714 c2559360_i32_1025
  v1715

def k0_off20 (i : grid0.Coords) : Fin 1 → Nat :=
  let arg0 : BitVec 32 := BitVec.ofNat 32 (i 0).val
  let c1_i32_1009 : BitVec 32 := 1#32
  let v1691 : BitVec 32 := Scalar.addi arg0 c1_i32_1009
  let c8_i32_1026 : BitVec 32 := 8#32
  let v1717 : BitVec 32 := Scalar.muli v1691 c8_i32_1026
  let c3_i32_1027 : BitVec 32 := 3#32
  let v1718 : BitVec 32 := Scalar.addi v1717 c3_i32_1027
  let v1719 : Index := Scalar.indexCast v1718
  ![v1719.toNat]
def k0_mult12 (v1720 : BitVec 32) : BitVec 32 :=
  let c7_i32_1028 : BitVec 32 := 7#32
  let v1721 : BitVec 32 := Scalar.shrui v1720 c7_i32_1028
  let c7_i32_1029 : BitVec 32 := 7#32
  let v1722 : BitVec 32 := Scalar.shli v1721 c7_i32_1029
  let c2559360_i32_1030 : BitVec 32 := 2559360#32
  let v1723 : BitVec 32 := Scalar.minsi v1722 c2559360_i32_1030
  v1723

def k0_off21 (i : grid0.Coords) : Fin 1 → Nat :=
  let arg0 : BitVec 32 := BitVec.ofNat 32 (i 0).val
  let c1_i32_1009 : BitVec 32 := 1#32
  let v1691 : BitVec 32 := Scalar.addi arg0 c1_i32_1009
  let c8_i32_1031 : BitVec 32 := 8#32
  let v1725 : BitVec 32 := Scalar.muli v1691 c8_i32_1031
  let c4_i32_1032 : BitVec 32 := 4#32
  let v1726 : BitVec 32 := Scalar.addi v1725 c4_i32_1032
  let v1727 : Index := Scalar.indexCast v1726
  ![v1727.toNat]
def k0_mult13 (v1728 : BitVec 32) : BitVec 32 :=
  let c7_i32_1033 : BitVec 32 := 7#32
  let v1729 : BitVec 32 := Scalar.shrui v1728 c7_i32_1033
  let c7_i32_1034 : BitVec 32 := 7#32
  let v1730 : BitVec 32 := Scalar.shli v1729 c7_i32_1034
  let c2559360_i32_1035 : BitVec 32 := 2559360#32
  let v1731 : BitVec 32 := Scalar.minsi v1730 c2559360_i32_1035
  v1731

def k0_off22 (i : grid0.Coords) : Fin 1 → Nat :=
  let arg0 : BitVec 32 := BitVec.ofNat 32 (i 0).val
  let c1_i32_1009 : BitVec 32 := 1#32
  let v1691 : BitVec 32 := Scalar.addi arg0 c1_i32_1009
  let c8_i32_1036 : BitVec 32 := 8#32
  let v1733 : BitVec 32 := Scalar.muli v1691 c8_i32_1036
  let c5_i32_1037 : BitVec 32 := 5#32
  let v1734 : BitVec 32 := Scalar.addi v1733 c5_i32_1037
  let v1735 : Index := Scalar.indexCast v1734
  ![v1735.toNat]
def k0_mult14 (v1736 : BitVec 32) : BitVec 32 :=
  let c7_i32_1038 : BitVec 32 := 7#32
  let v1737 : BitVec 32 := Scalar.shrui v1736 c7_i32_1038
  let c7_i32_1039 : BitVec 32 := 7#32
  let v1738 : BitVec 32 := Scalar.shli v1737 c7_i32_1039
  let c2559360_i32_1040 : BitVec 32 := 2559360#32
  let v1739 : BitVec 32 := Scalar.minsi v1738 c2559360_i32_1040
  v1739

def k0_off23 (i : grid0.Coords) : Fin 1 → Nat :=
  let arg0 : BitVec 32 := BitVec.ofNat 32 (i 0).val
  let c1_i32_1009 : BitVec 32 := 1#32
  let v1691 : BitVec 32 := Scalar.addi arg0 c1_i32_1009
  let c8_i32_1041 : BitVec 32 := 8#32
  let v1741 : BitVec 32 := Scalar.muli v1691 c8_i32_1041
  let c6_i32_1042 : BitVec 32 := 6#32
  let v1742 : BitVec 32 := Scalar.addi v1741 c6_i32_1042
  let v1743 : Index := Scalar.indexCast v1742
  ![v1743.toNat]
def k0_mult15 (v1744 : BitVec 32) : BitVec 32 :=
  let c7_i32_1043 : BitVec 32 := 7#32
  let v1745 : BitVec 32 := Scalar.shrui v1744 c7_i32_1043
  let c7_i32_1044 : BitVec 32 := 7#32
  let v1746 : BitVec 32 := Scalar.shli v1745 c7_i32_1044
  let c2559360_i32_1045 : BitVec 32 := 2559360#32
  let v1747 : BitVec 32 := Scalar.minsi v1746 c2559360_i32_1045
  v1747

def k0_off24 (i : grid0.Coords) : Fin 1 → Nat :=
  let arg0 : BitVec 32 := BitVec.ofNat 32 (i 0).val
  let c1_i32_1009 : BitVec 32 := 1#32
  let v1691 : BitVec 32 := Scalar.addi arg0 c1_i32_1009
  let c8_i32_1046 : BitVec 32 := 8#32
  let v1749 : BitVec 32 := Scalar.muli v1691 c8_i32_1046
  let c7_i32_1047 : BitVec 32 := 7#32
  let v1750 : BitVec 32 := Scalar.addi v1749 c7_i32_1047
  let v1751 : Index := Scalar.indexCast v1750
  ![v1751.toNat]
def k0_mult16 (v1752 : BitVec 32) : BitVec 32 :=
  let c7_i32_1048 : BitVec 32 := 7#32
  let v1753 : BitVec 32 := Scalar.shrui v1752 c7_i32_1048
  let c7_i32_1049 : BitVec 32 := 7#32
  let v1754 : BitVec 32 := Scalar.shli v1753 c7_i32_1049
  let c2559360_i32_1050 : BitVec 32 := 2559360#32
  let v1755 : BitVec 32 := Scalar.minsi v1754 c2559360_i32_1050
  v1755

def k0_off25 (i : grid0.Coords) : Fin 1 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  ![v1692.toNat]
def k0_off26 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c0_i32_1051 : BitVec 32 := 0#32
  let c0_i32_1052 : BitVec 32 := 0#32
  let c0_i32_1053 : BitVec 32 := 0#32
  let c0_i32_1054 : BitVec 32 := 0#32
  ![v1692.toNat, 0, 0, 0, 0]
def k0_off27 (v1696 : BitVec 32) : Fin 3 → Nat :=
  let c0_i32_1055 : BitVec 32 := 0#32
  let c0_i32_1056 : BitVec 32 := 0#32
  let c7_i32_1013 : BitVec 32 := 7#32
  let v1697 : BitVec 32 := Scalar.shrui v1696 c7_i32_1013
  let c7_i32_1014 : BitVec 32 := 7#32
  let v1698 : BitVec 32 := Scalar.shli v1697 c7_i32_1014
  let c2559360_i32_1015 : BitVec 32 := 2559360#32
  let v1699 : BitVec 32 := Scalar.minsi v1698 c2559360_i32_1015
  let v1700 : BitVec 32 := v1699
  ![0, 0, v1700.toNat]
def k0_off28 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c0_i32_1057 : BitVec 32 := 0#32
  let c0_i32_1058 : BitVec 32 := 0#32
  let c0_i32_1059 : BitVec 32 := 0#32
  let c0_i32_1060 : BitVec 32 := 0#32
  ![v1692.toNat, 0, 0, 0, 0]
def k0_off29 (v1696 : BitVec 32) : Fin 3 → Nat :=
  let c0_i32_1061 : BitVec 32 := 0#32
  let c0_i32_1062 : BitVec 32 := 0#32
  let c7_i32_1013 : BitVec 32 := 7#32
  let v1697 : BitVec 32 := Scalar.shrui v1696 c7_i32_1013
  let c7_i32_1014 : BitVec 32 := 7#32
  let v1698 : BitVec 32 := Scalar.shli v1697 c7_i32_1014
  let c2559360_i32_1015 : BitVec 32 := 2559360#32
  let v1699 : BitVec 32 := Scalar.minsi v1698 c2559360_i32_1015
  let v1700 : BitVec 32 := v1699
  ![0, 0, v1700.toNat]

def k0_chk9 (i : grid0.Coords) (v1696 : BitVec 32) : Prop :=
  (∀ (k0_h2 : k0_cond2 i = 1#1), 128 ∣ (k0_mult9 v1696).toNat) ∧
  (∀ (k0_h2 : k0_cond2 i = 1#1), ∀ a, (k0_off27 v1696) a + S2x64x640.size a ≤ S2x64x2560000.size a) ∧
  (∀ (k0_h2 : k0_cond2 i = 1#1), ∀ (hinb : ∀ a, (k0_off27 v1696) a + S2x64x640.size a ≤ S2x64x2560000.size a), (Rect.unit (s := S2x64x2560000) (k0_off27 v1696) S2x64x640.size hinb).WholeWords (EltTy.packing .i8)) ∧
  (∀ (k0_h2 : k0_cond2 i = 1#1), ∀ a, (k0_off29 v1696) a + S2x2x640.size a ≤ S2x2x2560000.size a)
theorem k0_mult9_dvd : ∀ (i : grid0.Coords) (v1696 : BitVec 32) (k0_hw9 : k0_chk9 i v1696), ∀ (k0_h2 : k0_cond2 i = 1#1), 128 ∣ (k0_mult9 v1696).toNat := fun i v1696 k0_hw9 k0_h2 => k0_hw9.1 k0_h2
theorem k0_off27_inb : ∀ (i : grid0.Coords) (v1696 : BitVec 32) (k0_hw9 : k0_chk9 i v1696), ∀ (k0_h2 : k0_cond2 i = 1#1), ∀ a, (k0_off27 v1696) a + S2x64x640.size a ≤ S2x64x2560000.size a := fun i v1696 k0_hw9 k0_h2 => k0_hw9.2.1 k0_h2
theorem k0_off27_wordsi8 : ∀ (i : grid0.Coords) (v1696 : BitVec 32) (k0_hw9 : k0_chk9 i v1696), ∀ (k0_h2 : k0_cond2 i = 1#1), (Rect.unit (s := S2x64x2560000) (k0_off27 v1696) S2x64x640.size (k0_off27_inb i v1696 k0_hw9 k0_h2)).WholeWords (EltTy.packing .i8) := fun i v1696 k0_hw9 k0_h2 => k0_hw9.2.2.1 k0_h2 (k0_off27_inb i v1696 k0_hw9 k0_h2)
theorem k0_off29_inb : ∀ (i : grid0.Coords) (v1696 : BitVec 32) (k0_hw9 : k0_chk9 i v1696), ∀ (k0_h2 : k0_cond2 i = 1#1), ∀ a, (k0_off29 v1696) a + S2x2x640.size a ≤ S2x2x2560000.size a := fun i v1696 k0_hw9 k0_h2 => k0_hw9.2.2.2 k0_h2

def k0_off30 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c1_i32_1075 : BitVec 32 := 1#32
  let c0_i32_1076 : BitVec 32 := 0#32
  let c0_i32_1077 : BitVec 32 := 0#32
  let c0_i32_1078 : BitVec 32 := 0#32
  ![v1692.toNat, 1, 0, 0, 0]
def k0_off31 (v1704 : BitVec 32) : Fin 3 → Nat :=
  let c0_i32_1079 : BitVec 32 := 0#32
  let c0_i32_1080 : BitVec 32 := 0#32
  let c7_i32_1018 : BitVec 32 := 7#32
  let v1705 : BitVec 32 := Scalar.shrui v1704 c7_i32_1018
  let c7_i32_1019 : BitVec 32 := 7#32
  let v1706 : BitVec 32 := Scalar.shli v1705 c7_i32_1019
  let c2559360_i32_1020 : BitVec 32 := 2559360#32
  let v1707 : BitVec 32 := Scalar.minsi v1706 c2559360_i32_1020
  let v1708 : BitVec 32 := v1707
  ![0, 0, v1708.toNat]
def k0_off32 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c1_i32_1081 : BitVec 32 := 1#32
  let c0_i32_1082 : BitVec 32 := 0#32
  let c0_i32_1083 : BitVec 32 := 0#32
  let c0_i32_1084 : BitVec 32 := 0#32
  ![v1692.toNat, 1, 0, 0, 0]
def k0_off33 (v1704 : BitVec 32) : Fin 3 → Nat :=
  let c0_i32_1085 : BitVec 32 := 0#32
  let c0_i32_1086 : BitVec 32 := 0#32
  let c7_i32_1018 : BitVec 32 := 7#32
  let v1705 : BitVec 32 := Scalar.shrui v1704 c7_i32_1018
  let c7_i32_1019 : BitVec 32 := 7#32
  let v1706 : BitVec 32 := Scalar.shli v1705 c7_i32_1019
  let c2559360_i32_1020 : BitVec 32 := 2559360#32
  let v1707 : BitVec 32 := Scalar.minsi v1706 c2559360_i32_1020
  let v1708 : BitVec 32 := v1707
  ![0, 0, v1708.toNat]

def k0_chk10 (i : grid0.Coords) (v1704 : BitVec 32) : Prop :=
  (∀ (k0_h2 : k0_cond2 i = 1#1), 128 ∣ (k0_mult10 v1704).toNat) ∧
  (∀ (k0_h2 : k0_cond2 i = 1#1), ∀ a, (k0_off31 v1704) a + S2x64x640.size a ≤ S2x64x2560000.size a) ∧
  (∀ (k0_h2 : k0_cond2 i = 1#1), ∀ (hinb : ∀ a, (k0_off31 v1704) a + S2x64x640.size a ≤ S2x64x2560000.size a), (Rect.unit (s := S2x64x2560000) (k0_off31 v1704) S2x64x640.size hinb).WholeWords (EltTy.packing .i8)) ∧
  (∀ (k0_h2 : k0_cond2 i = 1#1), ∀ a, (k0_off33 v1704) a + S2x2x640.size a ≤ S2x2x2560000.size a)
theorem k0_mult10_dvd : ∀ (i : grid0.Coords) (v1704 : BitVec 32) (k0_hw10 : k0_chk10 i v1704), ∀ (k0_h2 : k0_cond2 i = 1#1), 128 ∣ (k0_mult10 v1704).toNat := fun i v1704 k0_hw10 k0_h2 => k0_hw10.1 k0_h2
theorem k0_off31_inb : ∀ (i : grid0.Coords) (v1704 : BitVec 32) (k0_hw10 : k0_chk10 i v1704), ∀ (k0_h2 : k0_cond2 i = 1#1), ∀ a, (k0_off31 v1704) a + S2x64x640.size a ≤ S2x64x2560000.size a := fun i v1704 k0_hw10 k0_h2 => k0_hw10.2.1 k0_h2
theorem k0_off31_wordsi8 : ∀ (i : grid0.Coords) (v1704 : BitVec 32) (k0_hw10 : k0_chk10 i v1704), ∀ (k0_h2 : k0_cond2 i = 1#1), (Rect.unit (s := S2x64x2560000) (k0_off31 v1704) S2x64x640.size (k0_off31_inb i v1704 k0_hw10 k0_h2)).WholeWords (EltTy.packing .i8) := fun i v1704 k0_hw10 k0_h2 => k0_hw10.2.2.1 k0_h2 (k0_off31_inb i v1704 k0_hw10 k0_h2)
theorem k0_off33_inb : ∀ (i : grid0.Coords) (v1704 : BitVec 32) (k0_hw10 : k0_chk10 i v1704), ∀ (k0_h2 : k0_cond2 i = 1#1), ∀ a, (k0_off33 v1704) a + S2x2x640.size a ≤ S2x2x2560000.size a := fun i v1704 k0_hw10 k0_h2 => k0_hw10.2.2.2 k0_h2

def k0_off34 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c2_i32_1099 : BitVec 32 := 2#32
  let c0_i32_1100 : BitVec 32 := 0#32
  let c0_i32_1101 : BitVec 32 := 0#32
  let c0_i32_1102 : BitVec 32 := 0#32
  ![v1692.toNat, 2, 0, 0, 0]
def k0_off35 (v1712 : BitVec 32) : Fin 3 → Nat :=
  let c0_i32_1103 : BitVec 32 := 0#32
  let c0_i32_1104 : BitVec 32 := 0#32
  let c7_i32_1023 : BitVec 32 := 7#32
  let v1713 : BitVec 32 := Scalar.shrui v1712 c7_i32_1023
  let c7_i32_1024 : BitVec 32 := 7#32
  let v1714 : BitVec 32 := Scalar.shli v1713 c7_i32_1024
  let c2559360_i32_1025 : BitVec 32 := 2559360#32
  let v1715 : BitVec 32 := Scalar.minsi v1714 c2559360_i32_1025
  let v1716 : BitVec 32 := v1715
  ![0, 0, v1716.toNat]
def k0_off36 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c2_i32_1105 : BitVec 32 := 2#32
  let c0_i32_1106 : BitVec 32 := 0#32
  let c0_i32_1107 : BitVec 32 := 0#32
  let c0_i32_1108 : BitVec 32 := 0#32
  ![v1692.toNat, 2, 0, 0, 0]
def k0_off37 (v1712 : BitVec 32) : Fin 3 → Nat :=
  let c0_i32_1109 : BitVec 32 := 0#32
  let c0_i32_1110 : BitVec 32 := 0#32
  let c7_i32_1023 : BitVec 32 := 7#32
  let v1713 : BitVec 32 := Scalar.shrui v1712 c7_i32_1023
  let c7_i32_1024 : BitVec 32 := 7#32
  let v1714 : BitVec 32 := Scalar.shli v1713 c7_i32_1024
  let c2559360_i32_1025 : BitVec 32 := 2559360#32
  let v1715 : BitVec 32 := Scalar.minsi v1714 c2559360_i32_1025
  let v1716 : BitVec 32 := v1715
  ![0, 0, v1716.toNat]

def k0_chk11 (i : grid0.Coords) (v1712 : BitVec 32) : Prop :=
  (∀ (k0_h2 : k0_cond2 i = 1#1), 128 ∣ (k0_mult11 v1712).toNat) ∧
  (∀ (k0_h2 : k0_cond2 i = 1#1), ∀ a, (k0_off35 v1712) a + S2x64x640.size a ≤ S2x64x2560000.size a) ∧
  (∀ (k0_h2 : k0_cond2 i = 1#1), ∀ (hinb : ∀ a, (k0_off35 v1712) a + S2x64x640.size a ≤ S2x64x2560000.size a), (Rect.unit (s := S2x64x2560000) (k0_off35 v1712) S2x64x640.size hinb).WholeWords (EltTy.packing .i8)) ∧
  (∀ (k0_h2 : k0_cond2 i = 1#1), ∀ a, (k0_off37 v1712) a + S2x2x640.size a ≤ S2x2x2560000.size a)
theorem k0_mult11_dvd : ∀ (i : grid0.Coords) (v1712 : BitVec 32) (k0_hw11 : k0_chk11 i v1712), ∀ (k0_h2 : k0_cond2 i = 1#1), 128 ∣ (k0_mult11 v1712).toNat := fun i v1712 k0_hw11 k0_h2 => k0_hw11.1 k0_h2
theorem k0_off35_inb : ∀ (i : grid0.Coords) (v1712 : BitVec 32) (k0_hw11 : k0_chk11 i v1712), ∀ (k0_h2 : k0_cond2 i = 1#1), ∀ a, (k0_off35 v1712) a + S2x64x640.size a ≤ S2x64x2560000.size a := fun i v1712 k0_hw11 k0_h2 => k0_hw11.2.1 k0_h2
theorem k0_off35_wordsi8 : ∀ (i : grid0.Coords) (v1712 : BitVec 32) (k0_hw11 : k0_chk11 i v1712), ∀ (k0_h2 : k0_cond2 i = 1#1), (Rect.unit (s := S2x64x2560000) (k0_off35 v1712) S2x64x640.size (k0_off35_inb i v1712 k0_hw11 k0_h2)).WholeWords (EltTy.packing .i8) := fun i v1712 k0_hw11 k0_h2 => k0_hw11.2.2.1 k0_h2 (k0_off35_inb i v1712 k0_hw11 k0_h2)
theorem k0_off37_inb : ∀ (i : grid0.Coords) (v1712 : BitVec 32) (k0_hw11 : k0_chk11 i v1712), ∀ (k0_h2 : k0_cond2 i = 1#1), ∀ a, (k0_off37 v1712) a + S2x2x640.size a ≤ S2x2x2560000.size a := fun i v1712 k0_hw11 k0_h2 => k0_hw11.2.2.2 k0_h2

def k0_off38 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c3_i32_1123 : BitVec 32 := 3#32
  let c0_i32_1124 : BitVec 32 := 0#32
  let c0_i32_1125 : BitVec 32 := 0#32
  let c0_i32_1126 : BitVec 32 := 0#32
  ![v1692.toNat, 3, 0, 0, 0]
def k0_off39 (v1720 : BitVec 32) : Fin 3 → Nat :=
  let c0_i32_1127 : BitVec 32 := 0#32
  let c0_i32_1128 : BitVec 32 := 0#32
  let c7_i32_1028 : BitVec 32 := 7#32
  let v1721 : BitVec 32 := Scalar.shrui v1720 c7_i32_1028
  let c7_i32_1029 : BitVec 32 := 7#32
  let v1722 : BitVec 32 := Scalar.shli v1721 c7_i32_1029
  let c2559360_i32_1030 : BitVec 32 := 2559360#32
  let v1723 : BitVec 32 := Scalar.minsi v1722 c2559360_i32_1030
  let v1724 : BitVec 32 := v1723
  ![0, 0, v1724.toNat]
def k0_off40 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c3_i32_1129 : BitVec 32 := 3#32
  let c0_i32_1130 : BitVec 32 := 0#32
  let c0_i32_1131 : BitVec 32 := 0#32
  let c0_i32_1132 : BitVec 32 := 0#32
  ![v1692.toNat, 3, 0, 0, 0]
def k0_off41 (v1720 : BitVec 32) : Fin 3 → Nat :=
  let c0_i32_1133 : BitVec 32 := 0#32
  let c0_i32_1134 : BitVec 32 := 0#32
  let c7_i32_1028 : BitVec 32 := 7#32
  let v1721 : BitVec 32 := Scalar.shrui v1720 c7_i32_1028
  let c7_i32_1029 : BitVec 32 := 7#32
  let v1722 : BitVec 32 := Scalar.shli v1721 c7_i32_1029
  let c2559360_i32_1030 : BitVec 32 := 2559360#32
  let v1723 : BitVec 32 := Scalar.minsi v1722 c2559360_i32_1030
  let v1724 : BitVec 32 := v1723
  ![0, 0, v1724.toNat]

def k0_chk12 (i : grid0.Coords) (v1720 : BitVec 32) : Prop :=
  (∀ (k0_h2 : k0_cond2 i = 1#1), 128 ∣ (k0_mult12 v1720).toNat) ∧
  (∀ (k0_h2 : k0_cond2 i = 1#1), ∀ a, (k0_off39 v1720) a + S2x64x640.size a ≤ S2x64x2560000.size a) ∧
  (∀ (k0_h2 : k0_cond2 i = 1#1), ∀ (hinb : ∀ a, (k0_off39 v1720) a + S2x64x640.size a ≤ S2x64x2560000.size a), (Rect.unit (s := S2x64x2560000) (k0_off39 v1720) S2x64x640.size hinb).WholeWords (EltTy.packing .i8)) ∧
  (∀ (k0_h2 : k0_cond2 i = 1#1), ∀ a, (k0_off41 v1720) a + S2x2x640.size a ≤ S2x2x2560000.size a)
theorem k0_mult12_dvd : ∀ (i : grid0.Coords) (v1720 : BitVec 32) (k0_hw12 : k0_chk12 i v1720), ∀ (k0_h2 : k0_cond2 i = 1#1), 128 ∣ (k0_mult12 v1720).toNat := fun i v1720 k0_hw12 k0_h2 => k0_hw12.1 k0_h2
theorem k0_off39_inb : ∀ (i : grid0.Coords) (v1720 : BitVec 32) (k0_hw12 : k0_chk12 i v1720), ∀ (k0_h2 : k0_cond2 i = 1#1), ∀ a, (k0_off39 v1720) a + S2x64x640.size a ≤ S2x64x2560000.size a := fun i v1720 k0_hw12 k0_h2 => k0_hw12.2.1 k0_h2
theorem k0_off39_wordsi8 : ∀ (i : grid0.Coords) (v1720 : BitVec 32) (k0_hw12 : k0_chk12 i v1720), ∀ (k0_h2 : k0_cond2 i = 1#1), (Rect.unit (s := S2x64x2560000) (k0_off39 v1720) S2x64x640.size (k0_off39_inb i v1720 k0_hw12 k0_h2)).WholeWords (EltTy.packing .i8) := fun i v1720 k0_hw12 k0_h2 => k0_hw12.2.2.1 k0_h2 (k0_off39_inb i v1720 k0_hw12 k0_h2)
theorem k0_off41_inb : ∀ (i : grid0.Coords) (v1720 : BitVec 32) (k0_hw12 : k0_chk12 i v1720), ∀ (k0_h2 : k0_cond2 i = 1#1), ∀ a, (k0_off41 v1720) a + S2x2x640.size a ≤ S2x2x2560000.size a := fun i v1720 k0_hw12 k0_h2 => k0_hw12.2.2.2 k0_h2

def k0_off42 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c4_i32_1147 : BitVec 32 := 4#32
  let c0_i32_1148 : BitVec 32 := 0#32
  let c0_i32_1149 : BitVec 32 := 0#32
  let c0_i32_1150 : BitVec 32 := 0#32
  ![v1692.toNat, 4, 0, 0, 0]
def k0_off43 (v1728 : BitVec 32) : Fin 3 → Nat :=
  let c0_i32_1151 : BitVec 32 := 0#32
  let c0_i32_1152 : BitVec 32 := 0#32
  let c7_i32_1033 : BitVec 32 := 7#32
  let v1729 : BitVec 32 := Scalar.shrui v1728 c7_i32_1033
  let c7_i32_1034 : BitVec 32 := 7#32
  let v1730 : BitVec 32 := Scalar.shli v1729 c7_i32_1034
  let c2559360_i32_1035 : BitVec 32 := 2559360#32
  let v1731 : BitVec 32 := Scalar.minsi v1730 c2559360_i32_1035
  let v1732 : BitVec 32 := v1731
  ![0, 0, v1732.toNat]
def k0_off44 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c4_i32_1153 : BitVec 32 := 4#32
  let c0_i32_1154 : BitVec 32 := 0#32
  let c0_i32_1155 : BitVec 32 := 0#32
  let c0_i32_1156 : BitVec 32 := 0#32
  ![v1692.toNat, 4, 0, 0, 0]
def k0_off45 (v1728 : BitVec 32) : Fin 3 → Nat :=
  let c0_i32_1157 : BitVec 32 := 0#32
  let c0_i32_1158 : BitVec 32 := 0#32
  let c7_i32_1033 : BitVec 32 := 7#32
  let v1729 : BitVec 32 := Scalar.shrui v1728 c7_i32_1033
  let c7_i32_1034 : BitVec 32 := 7#32
  let v1730 : BitVec 32 := Scalar.shli v1729 c7_i32_1034
  let c2559360_i32_1035 : BitVec 32 := 2559360#32
  let v1731 : BitVec 32 := Scalar.minsi v1730 c2559360_i32_1035
  let v1732 : BitVec 32 := v1731
  ![0, 0, v1732.toNat]

def k0_chk13 (i : grid0.Coords) (v1728 : BitVec 32) : Prop :=
  (∀ (k0_h2 : k0_cond2 i = 1#1), 128 ∣ (k0_mult13 v1728).toNat) ∧
  (∀ (k0_h2 : k0_cond2 i = 1#1), ∀ a, (k0_off43 v1728) a + S2x64x640.size a ≤ S2x64x2560000.size a) ∧
  (∀ (k0_h2 : k0_cond2 i = 1#1), ∀ (hinb : ∀ a, (k0_off43 v1728) a + S2x64x640.size a ≤ S2x64x2560000.size a), (Rect.unit (s := S2x64x2560000) (k0_off43 v1728) S2x64x640.size hinb).WholeWords (EltTy.packing .i8)) ∧
  (∀ (k0_h2 : k0_cond2 i = 1#1), ∀ a, (k0_off45 v1728) a + S2x2x640.size a ≤ S2x2x2560000.size a)
theorem k0_mult13_dvd : ∀ (i : grid0.Coords) (v1728 : BitVec 32) (k0_hw13 : k0_chk13 i v1728), ∀ (k0_h2 : k0_cond2 i = 1#1), 128 ∣ (k0_mult13 v1728).toNat := fun i v1728 k0_hw13 k0_h2 => k0_hw13.1 k0_h2
theorem k0_off43_inb : ∀ (i : grid0.Coords) (v1728 : BitVec 32) (k0_hw13 : k0_chk13 i v1728), ∀ (k0_h2 : k0_cond2 i = 1#1), ∀ a, (k0_off43 v1728) a + S2x64x640.size a ≤ S2x64x2560000.size a := fun i v1728 k0_hw13 k0_h2 => k0_hw13.2.1 k0_h2
theorem k0_off43_wordsi8 : ∀ (i : grid0.Coords) (v1728 : BitVec 32) (k0_hw13 : k0_chk13 i v1728), ∀ (k0_h2 : k0_cond2 i = 1#1), (Rect.unit (s := S2x64x2560000) (k0_off43 v1728) S2x64x640.size (k0_off43_inb i v1728 k0_hw13 k0_h2)).WholeWords (EltTy.packing .i8) := fun i v1728 k0_hw13 k0_h2 => k0_hw13.2.2.1 k0_h2 (k0_off43_inb i v1728 k0_hw13 k0_h2)
theorem k0_off45_inb : ∀ (i : grid0.Coords) (v1728 : BitVec 32) (k0_hw13 : k0_chk13 i v1728), ∀ (k0_h2 : k0_cond2 i = 1#1), ∀ a, (k0_off45 v1728) a + S2x2x640.size a ≤ S2x2x2560000.size a := fun i v1728 k0_hw13 k0_h2 => k0_hw13.2.2.2 k0_h2

def k0_off46 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c5_i32_1171 : BitVec 32 := 5#32
  let c0_i32_1172 : BitVec 32 := 0#32
  let c0_i32_1173 : BitVec 32 := 0#32
  let c0_i32_1174 : BitVec 32 := 0#32
  ![v1692.toNat, 5, 0, 0, 0]
def k0_off47 (v1736 : BitVec 32) : Fin 3 → Nat :=
  let c0_i32_1175 : BitVec 32 := 0#32
  let c0_i32_1176 : BitVec 32 := 0#32
  let c7_i32_1038 : BitVec 32 := 7#32
  let v1737 : BitVec 32 := Scalar.shrui v1736 c7_i32_1038
  let c7_i32_1039 : BitVec 32 := 7#32
  let v1738 : BitVec 32 := Scalar.shli v1737 c7_i32_1039
  let c2559360_i32_1040 : BitVec 32 := 2559360#32
  let v1739 : BitVec 32 := Scalar.minsi v1738 c2559360_i32_1040
  let v1740 : BitVec 32 := v1739
  ![0, 0, v1740.toNat]
def k0_off48 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c5_i32_1177 : BitVec 32 := 5#32
  let c0_i32_1178 : BitVec 32 := 0#32
  let c0_i32_1179 : BitVec 32 := 0#32
  let c0_i32_1180 : BitVec 32 := 0#32
  ![v1692.toNat, 5, 0, 0, 0]
def k0_off49 (v1736 : BitVec 32) : Fin 3 → Nat :=
  let c0_i32_1181 : BitVec 32 := 0#32
  let c0_i32_1182 : BitVec 32 := 0#32
  let c7_i32_1038 : BitVec 32 := 7#32
  let v1737 : BitVec 32 := Scalar.shrui v1736 c7_i32_1038
  let c7_i32_1039 : BitVec 32 := 7#32
  let v1738 : BitVec 32 := Scalar.shli v1737 c7_i32_1039
  let c2559360_i32_1040 : BitVec 32 := 2559360#32
  let v1739 : BitVec 32 := Scalar.minsi v1738 c2559360_i32_1040
  let v1740 : BitVec 32 := v1739
  ![0, 0, v1740.toNat]

def k0_chk14 (i : grid0.Coords) (v1736 : BitVec 32) : Prop :=
  (∀ (k0_h2 : k0_cond2 i = 1#1), 128 ∣ (k0_mult14 v1736).toNat) ∧
  (∀ (k0_h2 : k0_cond2 i = 1#1), ∀ a, (k0_off47 v1736) a + S2x64x640.size a ≤ S2x64x2560000.size a) ∧
  (∀ (k0_h2 : k0_cond2 i = 1#1), ∀ (hinb : ∀ a, (k0_off47 v1736) a + S2x64x640.size a ≤ S2x64x2560000.size a), (Rect.unit (s := S2x64x2560000) (k0_off47 v1736) S2x64x640.size hinb).WholeWords (EltTy.packing .i8)) ∧
  (∀ (k0_h2 : k0_cond2 i = 1#1), ∀ a, (k0_off49 v1736) a + S2x2x640.size a ≤ S2x2x2560000.size a)
theorem k0_mult14_dvd : ∀ (i : grid0.Coords) (v1736 : BitVec 32) (k0_hw14 : k0_chk14 i v1736), ∀ (k0_h2 : k0_cond2 i = 1#1), 128 ∣ (k0_mult14 v1736).toNat := fun i v1736 k0_hw14 k0_h2 => k0_hw14.1 k0_h2
theorem k0_off47_inb : ∀ (i : grid0.Coords) (v1736 : BitVec 32) (k0_hw14 : k0_chk14 i v1736), ∀ (k0_h2 : k0_cond2 i = 1#1), ∀ a, (k0_off47 v1736) a + S2x64x640.size a ≤ S2x64x2560000.size a := fun i v1736 k0_hw14 k0_h2 => k0_hw14.2.1 k0_h2
theorem k0_off47_wordsi8 : ∀ (i : grid0.Coords) (v1736 : BitVec 32) (k0_hw14 : k0_chk14 i v1736), ∀ (k0_h2 : k0_cond2 i = 1#1), (Rect.unit (s := S2x64x2560000) (k0_off47 v1736) S2x64x640.size (k0_off47_inb i v1736 k0_hw14 k0_h2)).WholeWords (EltTy.packing .i8) := fun i v1736 k0_hw14 k0_h2 => k0_hw14.2.2.1 k0_h2 (k0_off47_inb i v1736 k0_hw14 k0_h2)
theorem k0_off49_inb : ∀ (i : grid0.Coords) (v1736 : BitVec 32) (k0_hw14 : k0_chk14 i v1736), ∀ (k0_h2 : k0_cond2 i = 1#1), ∀ a, (k0_off49 v1736) a + S2x2x640.size a ≤ S2x2x2560000.size a := fun i v1736 k0_hw14 k0_h2 => k0_hw14.2.2.2 k0_h2

def k0_off50 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c6_i32_1195 : BitVec 32 := 6#32
  let c0_i32_1196 : BitVec 32 := 0#32
  let c0_i32_1197 : BitVec 32 := 0#32
  let c0_i32_1198 : BitVec 32 := 0#32
  ![v1692.toNat, 6, 0, 0, 0]
def k0_off51 (v1744 : BitVec 32) : Fin 3 → Nat :=
  let c0_i32_1199 : BitVec 32 := 0#32
  let c0_i32_1200 : BitVec 32 := 0#32
  let c7_i32_1043 : BitVec 32 := 7#32
  let v1745 : BitVec 32 := Scalar.shrui v1744 c7_i32_1043
  let c7_i32_1044 : BitVec 32 := 7#32
  let v1746 : BitVec 32 := Scalar.shli v1745 c7_i32_1044
  let c2559360_i32_1045 : BitVec 32 := 2559360#32
  let v1747 : BitVec 32 := Scalar.minsi v1746 c2559360_i32_1045
  let v1748 : BitVec 32 := v1747
  ![0, 0, v1748.toNat]
def k0_off52 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c6_i32_1201 : BitVec 32 := 6#32
  let c0_i32_1202 : BitVec 32 := 0#32
  let c0_i32_1203 : BitVec 32 := 0#32
  let c0_i32_1204 : BitVec 32 := 0#32
  ![v1692.toNat, 6, 0, 0, 0]
def k0_off53 (v1744 : BitVec 32) : Fin 3 → Nat :=
  let c0_i32_1205 : BitVec 32 := 0#32
  let c0_i32_1206 : BitVec 32 := 0#32
  let c7_i32_1043 : BitVec 32 := 7#32
  let v1745 : BitVec 32 := Scalar.shrui v1744 c7_i32_1043
  let c7_i32_1044 : BitVec 32 := 7#32
  let v1746 : BitVec 32 := Scalar.shli v1745 c7_i32_1044
  let c2559360_i32_1045 : BitVec 32 := 2559360#32
  let v1747 : BitVec 32 := Scalar.minsi v1746 c2559360_i32_1045
  let v1748 : BitVec 32 := v1747
  ![0, 0, v1748.toNat]

def k0_chk15 (i : grid0.Coords) (v1744 : BitVec 32) : Prop :=
  (∀ (k0_h2 : k0_cond2 i = 1#1), 128 ∣ (k0_mult15 v1744).toNat) ∧
  (∀ (k0_h2 : k0_cond2 i = 1#1), ∀ a, (k0_off51 v1744) a + S2x64x640.size a ≤ S2x64x2560000.size a) ∧
  (∀ (k0_h2 : k0_cond2 i = 1#1), ∀ (hinb : ∀ a, (k0_off51 v1744) a + S2x64x640.size a ≤ S2x64x2560000.size a), (Rect.unit (s := S2x64x2560000) (k0_off51 v1744) S2x64x640.size hinb).WholeWords (EltTy.packing .i8)) ∧
  (∀ (k0_h2 : k0_cond2 i = 1#1), ∀ a, (k0_off53 v1744) a + S2x2x640.size a ≤ S2x2x2560000.size a)
theorem k0_mult15_dvd : ∀ (i : grid0.Coords) (v1744 : BitVec 32) (k0_hw15 : k0_chk15 i v1744), ∀ (k0_h2 : k0_cond2 i = 1#1), 128 ∣ (k0_mult15 v1744).toNat := fun i v1744 k0_hw15 k0_h2 => k0_hw15.1 k0_h2
theorem k0_off51_inb : ∀ (i : grid0.Coords) (v1744 : BitVec 32) (k0_hw15 : k0_chk15 i v1744), ∀ (k0_h2 : k0_cond2 i = 1#1), ∀ a, (k0_off51 v1744) a + S2x64x640.size a ≤ S2x64x2560000.size a := fun i v1744 k0_hw15 k0_h2 => k0_hw15.2.1 k0_h2
theorem k0_off51_wordsi8 : ∀ (i : grid0.Coords) (v1744 : BitVec 32) (k0_hw15 : k0_chk15 i v1744), ∀ (k0_h2 : k0_cond2 i = 1#1), (Rect.unit (s := S2x64x2560000) (k0_off51 v1744) S2x64x640.size (k0_off51_inb i v1744 k0_hw15 k0_h2)).WholeWords (EltTy.packing .i8) := fun i v1744 k0_hw15 k0_h2 => k0_hw15.2.2.1 k0_h2 (k0_off51_inb i v1744 k0_hw15 k0_h2)
theorem k0_off53_inb : ∀ (i : grid0.Coords) (v1744 : BitVec 32) (k0_hw15 : k0_chk15 i v1744), ∀ (k0_h2 : k0_cond2 i = 1#1), ∀ a, (k0_off53 v1744) a + S2x2x640.size a ≤ S2x2x2560000.size a := fun i v1744 k0_hw15 k0_h2 => k0_hw15.2.2.2 k0_h2

def k0_off54 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c7_i32_1219 : BitVec 32 := 7#32
  let c0_i32_1220 : BitVec 32 := 0#32
  let c0_i32_1221 : BitVec 32 := 0#32
  let c0_i32_1222 : BitVec 32 := 0#32
  ![v1692.toNat, 7, 0, 0, 0]
def k0_off55 (v1752 : BitVec 32) : Fin 3 → Nat :=
  let c0_i32_1223 : BitVec 32 := 0#32
  let c0_i32_1224 : BitVec 32 := 0#32
  let c7_i32_1048 : BitVec 32 := 7#32
  let v1753 : BitVec 32 := Scalar.shrui v1752 c7_i32_1048
  let c7_i32_1049 : BitVec 32 := 7#32
  let v1754 : BitVec 32 := Scalar.shli v1753 c7_i32_1049
  let c2559360_i32_1050 : BitVec 32 := 2559360#32
  let v1755 : BitVec 32 := Scalar.minsi v1754 c2559360_i32_1050
  let v1756 : BitVec 32 := v1755
  ![0, 0, v1756.toNat]
def k0_off56 (i : grid0.Coords) : Fin 5 → Nat :=
  let c1_i32_1010 : BitVec 32 := 1#32
  let arg0 : BitVec 32 := BitVec.ofNat 32 (i 0).val
  let c2_i32 : BitVec 32 := 2#32
  let v0 : BitVec 32 := Scalar.remsi arg0 c2_i32
  let v1692 : BitVec 32 := Scalar.subi c1_i32_1010 v0
  let c7_i32_1225 : BitVec 32 := 7#32
  let c0_i32_1226 : BitVec 32 := 0#32
  let c0_i32_1227 : BitVec 32 := 0#32
  let c0_i32_1228 : BitVec 32 := 0#32
  ![v1692.toNat, 7, 0, 0, 0]
def k0_off57 (v1752 : BitVec 32) : Fin 3 → Nat :=
  let c0_i32_1229 : BitVec 32 := 0#32
  let c0_i32_1230 : BitVec 32 := 0#32
  let c7_i32_1048 : BitVec 32 := 7#32
  let v1753 : BitVec 32 := Scalar.shrui v1752 c7_i32_1048
  let c7_i32_1049 : BitVec 32 := 7#32
  let v1754 : BitVec 32 := Scalar.shli v1753 c7_i32_1049
  let c2559360_i32_1050 : BitVec 32 := 2559360#32
  let v1755 : BitVec 32 := Scalar.minsi v1754 c2559360_i32_1050
  let v1756 : BitVec 32 := v1755
  ![0, 0, v1756.toNat]

def k0_chk16 (i : grid0.Coords) (v1752 : BitVec 32) : Prop :=
  (∀ (k0_h2 : k0_cond2 i = 1#1), 128 ∣ (k0_mult16 v1752).toNat) ∧
  (∀ (k0_h2 : k0_cond2 i = 1#1), ∀ a, (k0_off55 v1752) a + S2x64x640.size a ≤ S2x64x2560000.size a) ∧
  (∀ (k0_h2 : k0_cond2 i = 1#1), ∀ (hinb : ∀ a, (k0_off55 v1752) a + S2x64x640.size a ≤ S2x64x2560000.size a), (Rect.unit (s := S2x64x2560000) (k0_off55 v1752) S2x64x640.size hinb).WholeWords (EltTy.packing .i8)) ∧
  (∀ (k0_h2 : k0_cond2 i = 1#1), ∀ a, (k0_off57 v1752) a + S2x2x640.size a ≤ S2x2x2560000.size a)
theorem k0_mult16_dvd : ∀ (i : grid0.Coords) (v1752 : BitVec 32) (k0_hw16 : k0_chk16 i v1752), ∀ (k0_h2 : k0_cond2 i = 1#1), 128 ∣ (k0_mult16 v1752).toNat := fun i v1752 k0_hw16 k0_h2 => k0_hw16.1 k0_h2
theorem k0_off55_inb : ∀ (i : grid0.Coords) (v1752 : BitVec 32) (k0_hw16 : k0_chk16 i v1752), ∀ (k0_h2 : k0_cond2 i = 1#1), ∀ a, (k0_off55 v1752) a + S2x64x640.size a ≤ S2x64x2560000.size a := fun i v1752 k0_hw16 k0_h2 => k0_hw16.2.1 k0_h2
theorem k0_off55_wordsi8 : ∀ (i : grid0.Coords) (v1752 : BitVec 32) (k0_hw16 : k0_chk16 i v1752), ∀ (k0_h2 : k0_cond2 i = 1#1), (Rect.unit (s := S2x64x2560000) (k0_off55 v1752) S2x64x640.size (k0_off55_inb i v1752 k0_hw16 k0_h2)).WholeWords (EltTy.packing .i8) := fun i v1752 k0_hw16 k0_h2 => k0_hw16.2.2.1 k0_h2 (k0_off55_inb i v1752 k0_hw16 k0_h2)
theorem k0_off57_inb : ∀ (i : grid0.Coords) (v1752 : BitVec 32) (k0_hw16 : k0_chk16 i v1752), ∀ (k0_h2 : k0_cond2 i = 1#1), ∀ a, (k0_off57 v1752) a + S2x2x640.size a ≤ S2x2x2560000.size a := fun i v1752 k0_hw16 k0_h2 => k0_hw16.2.2.2 k0_h2

def k0_off58 (i : grid0.Coords) : Fin 1 → Nat :=
  let arg0 : BitVec 32 := BitVec.ofNat 32 (i 0).val
  let c8_i32 : BitVec 32 := 8#32
  let v134 : BitVec 32 := Scalar.muli arg0 c8_i32
  let c0_i32_53 : BitVec 32 := 0#32
  let v135 : BitVec 32 := Scalar.addi v134 c0_i32_53
  let v136 : Index := Scalar.indexCast v135
  ![v136.toNat]
def k0_mult17 (v137 : BitVec 32) : BitVec 32 :=
  let c7_i32 : BitVec 32 := 7#32
  let v138 : BitVec 32 := Scalar.shrui v137 c7_i32
  let c7_i32_54 : BitVec 32 := 7#32
  let v139 : BitVec 32 := Scalar.shli v138 c7_i32_54
  let c2559360_i32 : BitVec 32 := 2559360#32
  let v140 : BitVec 32 := Scalar.minsi v139 c2559360_i32
  v140

def k0_off59 (i : grid0.Coords) : Fin 1 → Nat :=
  let arg0 : BitVec 32 := BitVec.ofNat 32 (i 0).val
  let c8_i32_55 : BitVec 32 := 8#32
  let v142 : BitVec 32 := Scalar.muli arg0 c8_i32_55
  let c1_i32_56 : BitVec 32 := 1#32
  let v143 : BitVec 32 := Scalar.addi v142 c1_i32_56
  let v144 : Index := Scalar.indexCast v143
  ![v144.toNat]
def k0_mult18 (v145 : BitVec 32) : BitVec 32 :=
  let c7_i32_57 : BitVec 32 := 7#32
  let v146 : BitVec 32 := Scalar.shrui v145 c7_i32_57
  let c7_i32_58 : BitVec 32 := 7#32
  let v147 : BitVec 32 := Scalar.shli v146 c7_i32_58
  let c2559360_i32_59 : BitVec 32 := 2559360#32
  let v148 : BitVec 32 := Scalar.minsi v147 c2559360_i32_59
  v148

def k0_off60 (i : grid0.Coords) : Fin 1 → Nat :=
  let arg0 : BitVec 32 := BitVec.ofNat 32 (i 0).val
  let c8_i32_60 : BitVec 32 := 8#32
  let v150 : BitVec 32 := Scalar.muli arg0 c8_i32_60
  let c2_i32_61 : BitVec 32 := 2#32
  let v151 : BitVec 32 := Scalar.addi v150 c2_i32_61
  let v152 : Index := Scalar.indexCast v151
  ![v152.toNat]
def k0_mult19 (v153 : BitVec 32) : BitVec 32 :=
  let c7_i32_62 : BitVec 32 := 7#32
  let v154 : BitVec 32 := Scalar.shrui v153 c7_i32_62
  let c7_i32_63 : BitVec 32 := 7#32
  let v155 : BitVec 32 := Scalar.shli v154 c7_i32_63
  let c2559360_i32_64 : BitVec 32 := 2559360#32
  let v156 : BitVec 32 := Scalar.minsi v155 c2559360_i32_64
  v156

def k0_off61 (i : grid0.Coords) : Fin 1 → Nat :=
  let arg0 : BitVec 32 := BitVec.ofNat 32 (i 0).val
  let c8_i32_65 : BitVec 32 := 8#32
  let v158 : BitVec 32 := Scalar.muli arg0 c8_i32_65
  let c3_i32 : BitVec 32 := 3#32
  let v159 : BitVec 32 := Scalar.addi v158 c3_i32
  let v160 : Index := Scalar.indexCast v159
  ![v160.toNat]
def k0_mult20 (v161 : BitVec 32) : BitVec 32 :=
  let c7_i32_66 : BitVec 32 := 7#32
  let v162 : BitVec 32 := Scalar.shrui v161 c7_i32_66
  let c7_i32_67 : BitVec 32 := 7#32
  let v163 : BitVec 32 := Scalar.shli v162 c7_i32_67
  let c2559360_i32_68 : BitVec 32 := 2559360#32
  let v164 : BitVec 32 := Scalar.minsi v163 c2559360_i32_68
  v164

def k0_off62 (i : grid0.Coords) : Fin 1 → Nat :=
  let arg0 : BitVec 32 := BitVec.ofNat 32 (i 0).val
  let c8_i32_69 : BitVec 32 := 8#32
  let v166 : BitVec 32 := Scalar.muli arg0 c8_i32_69
  let c4_i32 : BitVec 32 := 4#32
  let v167 : BitVec 32 := Scalar.addi v166 c4_i32
  let v168 : Index := Scalar.indexCast v167
  ![v168.toNat]
def k0_mult21 (v169 : BitVec 32) : BitVec 32 :=
  let c7_i32_70 : BitVec 32 := 7#32
  let v170 : BitVec 32 := Scalar.shrui v169 c7_i32_70
  let c7_i32_71 : BitVec 32 := 7#32
  let v171 : BitVec 32 := Scalar.shli v170 c7_i32_71
  let c2559360_i32_72 : BitVec 32 := 2559360#32
  let v172 : BitVec 32 := Scalar.minsi v171 c2559360_i32_72
  v172

def k0_off63 (i : grid0.Coords) : Fin 1 → Nat :=
  let arg0 : BitVec 32 := BitVec.ofNat 32 (i 0).val
  let c8_i32_73 : BitVec 32 := 8#32
  let v174 : BitVec 32 := Scalar.muli arg0 c8_i32_73
  let c5_i32 : BitVec 32 := 5#32
  let v175 : BitVec 32 := Scalar.addi v174 c5_i32
  let v176 : Index := Scalar.indexCast v175
  ![v176.toNat]
def k0_mult22 (v177 : BitVec 32) : BitVec 32 :=
  let c7_i32_74 : BitVec 32 := 7#32
  let v178 : BitVec 32 := Scalar.shrui v177 c7_i32_74
  let c7_i32_75 : BitVec 32 := 7#32
  let v179 : BitVec 32 := Scalar.shli v178 c7_i32_75
  let c2559360_i32_76 : BitVec 32 := 2559360#32
  let v180 : BitVec 32 := Scalar.minsi v179 c2559360_i32_76
  v180

def k0_off64 (i : grid0.Coords) : Fin 1 → Nat :=
  let arg0 : BitVec 32 := BitVec.ofNat 32 (i 0).val
  let c8_i32_77 : BitVec 32 := 8#32
  let v182 : BitVec 32 := Scalar.muli arg0 c8_i32_77
  let c6_i32 : BitVec 32 := 6#32
  let v183 : BitVec 32 := Scalar.addi v182 c6_i32
  let v184 : Index := Scalar.indexCast v183
  ![v184.toNat]
def k0_mult23 (v185 : BitVec 32) : BitVec 32 :=
  let c7_i32_78 : BitVec 32 := 7#32
  let v186 : BitVec 32 := Scalar.shrui v185 c7_i32_78
  let c7_i32_79 : BitVec 32 := 7#32
  let v187 : BitVec 32 := Scalar.shli v186 c7_i32_79
  let c2559360_i32_80 : BitVec 32 := 2559360#32
  let v188 : BitVec 32 := Scalar.minsi v187 c2559360_i32_80
  v188

def k0_off65 (i : grid0.Coords) : Fin 1 → Nat :=
  let arg0 : BitVec 32 := BitVec.ofNat 32 (i 0).val
  let c8_i32_81 : BitVec 32 := 8#32
  let v190 : BitVec 32 := Scalar.muli arg0 c8_i32_81
  let c7_i32_82 : BitVec 32 := 7#32
  let v191 : BitVec 32 := Scalar.addi v190 c7_i32_82
  let v192 : Index := Scalar.indexCast v191
  ![v192.toNat]
def k0_mult24 (v193 : BitVec 32) : BitVec 32 :=
  let c7_i32_83 : BitVec 32 := 7#32
  let v194 : BitVec 32 := Scalar.shrui v193 c7_i32_83
  let c7_i32_84 : BitVec 32 := 7#32
  let v195 : BitVec 32 := Scalar.shli v194 c7_i32_84
  let c2559360_i32_85 : BitVec 32 := 2559360#32
  let v196 : BitVec 32 := Scalar.minsi v195 c2559360_i32_85
  v196

def k0_off66 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off67 (i : grid0.Coords) : Fin 5 → Nat :=
  let arg0 : BitVec 32 := BitVec.ofNat 32 (i 0).val
  let c2_i32 : BitVec 32 := 2#32
  let v0 : BitVec 32 := Scalar.remsi arg0 c2_i32
  let c0_i32_86 : BitVec 32 := 0#32
  let c0_i32_87 : BitVec 32 := 0#32
  let c0_i32_88 : BitVec 32 := 0#32
  let c0_i32_89 : BitVec 32 := 0#32
  ![v0.toNat, 0, 0, 0, 0]
def k0_off68 (v137 : BitVec 32) : Fin 3 → Nat :=
  let c0_i32_90 : BitVec 32 := 0#32
  let c0_i32_91 : BitVec 32 := 0#32
  let c7_i32 : BitVec 32 := 7#32
  let v138 : BitVec 32 := Scalar.shrui v137 c7_i32
  let c7_i32_54 : BitVec 32 := 7#32
  let v139 : BitVec 32 := Scalar.shli v138 c7_i32_54
  let c2559360_i32 : BitVec 32 := 2559360#32
  let v140 : BitVec 32 := Scalar.minsi v139 c2559360_i32
  let v141 : BitVec 32 := v140
  ![0, 0, v141.toNat]
def k0_off69 (i : grid0.Coords) : Fin 5 → Nat :=
  let arg0 : BitVec 32 := BitVec.ofNat 32 (i 0).val
  let c2_i32 : BitVec 32 := 2#32
  let v0 : BitVec 32 := Scalar.remsi arg0 c2_i32
  let c0_i32_92 : BitVec 32 := 0#32
  let c0_i32_93 : BitVec 32 := 0#32
  let c0_i32_94 : BitVec 32 := 0#32
  let c0_i32_95 : BitVec 32 := 0#32
  ![v0.toNat, 0, 0, 0, 0]
def k0_off70 (v137 : BitVec 32) : Fin 3 → Nat :=
  let c0_i32_96 : BitVec 32 := 0#32
  let c0_i32_97 : BitVec 32 := 0#32
  let c7_i32 : BitVec 32 := 7#32
  let v138 : BitVec 32 := Scalar.shrui v137 c7_i32
  let c7_i32_54 : BitVec 32 := 7#32
  let v139 : BitVec 32 := Scalar.shli v138 c7_i32_54
  let c2559360_i32 : BitVec 32 := 2559360#32
  let v140 : BitVec 32 := Scalar.minsi v139 c2559360_i32
  let v141 : BitVec 32 := v140
  ![0, 0, v141.toNat]

def k0_chk17 (v137 : BitVec 32) : Prop :=
  (128 ∣ (k0_mult17 v137).toNat) ∧
  (∀ a, (k0_off68 v137) a + S2x64x640.size a ≤ S2x64x2560000.size a) ∧
  (∀ (hinb : ∀ a, (k0_off68 v137) a + S2x64x640.size a ≤ S2x64x2560000.size a), (Rect.unit (s := S2x64x2560000) (k0_off68 v137) S2x64x640.size hinb).WholeWords (EltTy.packing .i8)) ∧
  (∀ a, (k0_off70 v137) a + S2x2x640.size a ≤ S2x2x2560000.size a)
theorem k0_mult17_dvd : ∀ (v137 : BitVec 32) (k0_hw17 : k0_chk17 v137), 128 ∣ (k0_mult17 v137).toNat := fun v137 k0_hw17 => k0_hw17.1
theorem k0_off68_inb : ∀ (v137 : BitVec 32) (k0_hw17 : k0_chk17 v137), ∀ a, (k0_off68 v137) a + S2x64x640.size a ≤ S2x64x2560000.size a := fun v137 k0_hw17 => k0_hw17.2.1
theorem k0_off68_wordsi8 : ∀ (v137 : BitVec 32) (k0_hw17 : k0_chk17 v137), (Rect.unit (s := S2x64x2560000) (k0_off68 v137) S2x64x640.size (k0_off68_inb v137 k0_hw17)).WholeWords (EltTy.packing .i8) := fun v137 k0_hw17 => k0_hw17.2.2.1 (k0_off68_inb v137 k0_hw17)
theorem k0_off70_inb : ∀ (v137 : BitVec 32) (k0_hw17 : k0_chk17 v137), ∀ a, (k0_off70 v137) a + S2x2x640.size a ≤ S2x2x2560000.size a := fun v137 k0_hw17 => k0_hw17.2.2.2

def k0_off71 (i : grid0.Coords) : Fin 5 → Nat :=
  let arg0 : BitVec 32 := BitVec.ofNat 32 (i 0).val
  let c2_i32 : BitVec 32 := 2#32
  let v0 : BitVec 32 := Scalar.remsi arg0 c2_i32
  let c1_i32_110 : BitVec 32 := 1#32
  let c0_i32_111 : BitVec 32 := 0#32
  let c0_i32_112 : BitVec 32 := 0#32
  let c0_i32_113 : BitVec 32 := 0#32
  ![v0.toNat, 1, 0, 0, 0]
def k0_off72 (v145 : BitVec 32) : Fin 3 → Nat :=
  let c0_i32_114 : BitVec 32 := 0#32
  let c0_i32_115 : BitVec 32 := 0#32
  let c7_i32_57 : BitVec 32 := 7#32
  let v146 : BitVec 32 := Scalar.shrui v145 c7_i32_57
  let c7_i32_58 : BitVec 32 := 7#32
  let v147 : BitVec 32 := Scalar.shli v146 c7_i32_58
  let c2559360_i32_59 : BitVec 32 := 2559360#32
  let v148 : BitVec 32 := Scalar.minsi v147 c2559360_i32_59
  let v149 : BitVec 32 := v148
  ![0, 0, v149.toNat]
def k0_off73 (i : grid0.Coords) : Fin 5 → Nat :=
  let arg0 : BitVec 32 := BitVec.ofNat 32 (i 0).val
  let c2_i32 : BitVec 32 := 2#32
  let v0 : BitVec 32 := Scalar.remsi arg0 c2_i32
  let c1_i32_116 : BitVec 32 := 1#32
  let c0_i32_117 : BitVec 32 := 0#32
  let c0_i32_118 : BitVec 32 := 0#32
  let c0_i32_119 : BitVec 32 := 0#32
  ![v0.toNat, 1, 0, 0, 0]
def k0_off74 (v145 : BitVec 32) : Fin 3 → Nat :=
  let c0_i32_120 : BitVec 32 := 0#32
  let c0_i32_121 : BitVec 32 := 0#32
  let c7_i32_57 : BitVec 32 := 7#32
  let v146 : BitVec 32 := Scalar.shrui v145 c7_i32_57
  let c7_i32_58 : BitVec 32 := 7#32
  let v147 : BitVec 32 := Scalar.shli v146 c7_i32_58
  let c2559360_i32_59 : BitVec 32 := 2559360#32
  let v148 : BitVec 32 := Scalar.minsi v147 c2559360_i32_59
  let v149 : BitVec 32 := v148
  ![0, 0, v149.toNat]

def k0_chk18 (v145 : BitVec 32) : Prop :=
  (128 ∣ (k0_mult18 v145).toNat) ∧
  (∀ a, (k0_off72 v145) a + S2x64x640.size a ≤ S2x64x2560000.size a) ∧
  (∀ (hinb : ∀ a, (k0_off72 v145) a + S2x64x640.size a ≤ S2x64x2560000.size a), (Rect.unit (s := S2x64x2560000) (k0_off72 v145) S2x64x640.size hinb).WholeWords (EltTy.packing .i8)) ∧
  (∀ a, (k0_off74 v145) a + S2x2x640.size a ≤ S2x2x2560000.size a)
theorem k0_mult18_dvd : ∀ (v145 : BitVec 32) (k0_hw18 : k0_chk18 v145), 128 ∣ (k0_mult18 v145).toNat := fun v145 k0_hw18 => k0_hw18.1
theorem k0_off72_inb : ∀ (v145 : BitVec 32) (k0_hw18 : k0_chk18 v145), ∀ a, (k0_off72 v145) a + S2x64x640.size a ≤ S2x64x2560000.size a := fun v145 k0_hw18 => k0_hw18.2.1
theorem k0_off72_wordsi8 : ∀ (v145 : BitVec 32) (k0_hw18 : k0_chk18 v145), (Rect.unit (s := S2x64x2560000) (k0_off72 v145) S2x64x640.size (k0_off72_inb v145 k0_hw18)).WholeWords (EltTy.packing .i8) := fun v145 k0_hw18 => k0_hw18.2.2.1 (k0_off72_inb v145 k0_hw18)
theorem k0_off74_inb : ∀ (v145 : BitVec 32) (k0_hw18 : k0_chk18 v145), ∀ a, (k0_off74 v145) a + S2x2x640.size a ≤ S2x2x2560000.size a := fun v145 k0_hw18 => k0_hw18.2.2.2

def k0_off75 (i : grid0.Coords) : Fin 5 → Nat :=
  let arg0 : BitVec 32 := BitVec.ofNat 32 (i 0).val
  let c2_i32 : BitVec 32 := 2#32
  let v0 : BitVec 32 := Scalar.remsi arg0 c2_i32
  let c2_i32_134 : BitVec 32 := 2#32
  let c0_i32_135 : BitVec 32 := 0#32
  let c0_i32_136 : BitVec 32 := 0#32
  let c0_i32_137 : BitVec 32 := 0#32
  ![v0.toNat, 2, 0, 0, 0]
def k0_off76 (v153 : BitVec 32) : Fin 3 → Nat :=
  let c0_i32_138 : BitVec 32 := 0#32
  let c0_i32_139 : BitVec 32 := 0#32
  let c7_i32_62 : BitVec 32 := 7#32
  let v154 : BitVec 32 := Scalar.shrui v153 c7_i32_62
  let c7_i32_63 : BitVec 32 := 7#32
  let v155 : BitVec 32 := Scalar.shli v154 c7_i32_63
  let c2559360_i32_64 : BitVec 32 := 2559360#32
  let v156 : BitVec 32 := Scalar.minsi v155 c2559360_i32_64
  let v157 : BitVec 32 := v156
  ![0, 0, v157.toNat]
def k0_off77 (i : grid0.Coords) : Fin 5 → Nat :=
  let arg0 : BitVec 32 := BitVec.ofNat 32 (i 0).val
  let c2_i32 : BitVec 32 := 2#32
  let v0 : BitVec 32 := Scalar.remsi arg0 c2_i32
  let c2_i32_140 : BitVec 32 := 2#32
  let c0_i32_141 : BitVec 32 := 0#32
  let c0_i32_142 : BitVec 32 := 0#32
  let c0_i32_143 : BitVec 32 := 0#32
  ![v0.toNat, 2, 0, 0, 0]
def k0_off78 (v153 : BitVec 32) : Fin 3 → Nat :=
  let c0_i32_144 : BitVec 32 := 0#32
  let c0_i32_145 : BitVec 32 := 0#32
  let c7_i32_62 : BitVec 32 := 7#32
  let v154 : BitVec 32 := Scalar.shrui v153 c7_i32_62
  let c7_i32_63 : BitVec 32 := 7#32
  let v155 : BitVec 32 := Scalar.shli v154 c7_i32_63
  let c2559360_i32_64 : BitVec 32 := 2559360#32
  let v156 : BitVec 32 := Scalar.minsi v155 c2559360_i32_64
  let v157 : BitVec 32 := v156
  ![0, 0, v157.toNat]

def k0_chk19 (v153 : BitVec 32) : Prop :=
  (128 ∣ (k0_mult19 v153).toNat) ∧
  (∀ a, (k0_off76 v153) a + S2x64x640.size a ≤ S2x64x2560000.size a) ∧
  (∀ (hinb : ∀ a, (k0_off76 v153) a + S2x64x640.size a ≤ S2x64x2560000.size a), (Rect.unit (s := S2x64x2560000) (k0_off76 v153) S2x64x640.size hinb).WholeWords (EltTy.packing .i8)) ∧
  (∀ a, (k0_off78 v153) a + S2x2x640.size a ≤ S2x2x2560000.size a)
theorem k0_mult19_dvd : ∀ (v153 : BitVec 32) (k0_hw19 : k0_chk19 v153), 128 ∣ (k0_mult19 v153).toNat := fun v153 k0_hw19 => k0_hw19.1
theorem k0_off76_inb : ∀ (v153 : BitVec 32) (k0_hw19 : k0_chk19 v153), ∀ a, (k0_off76 v153) a + S2x64x640.size a ≤ S2x64x2560000.size a := fun v153 k0_hw19 => k0_hw19.2.1
theorem k0_off76_wordsi8 : ∀ (v153 : BitVec 32) (k0_hw19 : k0_chk19 v153), (Rect.unit (s := S2x64x2560000) (k0_off76 v153) S2x64x640.size (k0_off76_inb v153 k0_hw19)).WholeWords (EltTy.packing .i8) := fun v153 k0_hw19 => k0_hw19.2.2.1 (k0_off76_inb v153 k0_hw19)
theorem k0_off78_inb : ∀ (v153 : BitVec 32) (k0_hw19 : k0_chk19 v153), ∀ a, (k0_off78 v153) a + S2x2x640.size a ≤ S2x2x2560000.size a := fun v153 k0_hw19 => k0_hw19.2.2.2

def k0_off79 (i : grid0.Coords) : Fin 5 → Nat :=
  let arg0 : BitVec 32 := BitVec.ofNat 32 (i 0).val
  let c2_i32 : BitVec 32 := 2#32
  let v0 : BitVec 32 := Scalar.remsi arg0 c2_i32
  let c3_i32_158 : BitVec 32 := 3#32
  let c0_i32_159 : BitVec 32 := 0#32
  let c0_i32_160 : BitVec 32 := 0#32
  let c0_i32_161 : BitVec 32 := 0#32
  ![v0.toNat, 3, 0, 0, 0]
def k0_off80 (v161 : BitVec 32) : Fin 3 → Nat :=
  let c0_i32_162 : BitVec 32 := 0#32
  let c0_i32_163 : BitVec 32 := 0#32
  let c7_i32_66 : BitVec 32 := 7#32
  let v162 : BitVec 32 := Scalar.shrui v161 c7_i32_66
  let c7_i32_67 : BitVec 32 := 7#32
  let v163 : BitVec 32 := Scalar.shli v162 c7_i32_67
  let c2559360_i32_68 : BitVec 32 := 2559360#32
  let v164 : BitVec 32 := Scalar.minsi v163 c2559360_i32_68
  let v165 : BitVec 32 := v164
  ![0, 0, v165.toNat]
def k0_off81 (i : grid0.Coords) : Fin 5 → Nat :=
  let arg0 : BitVec 32 := BitVec.ofNat 32 (i 0).val
  let c2_i32 : BitVec 32 := 2#32
  let v0 : BitVec 32 := Scalar.remsi arg0 c2_i32
  let c3_i32_164 : BitVec 32 := 3#32
  let c0_i32_165 : BitVec 32 := 0#32
  let c0_i32_166 : BitVec 32 := 0#32
  let c0_i32_167 : BitVec 32 := 0#32
  ![v0.toNat, 3, 0, 0, 0]
def k0_off82 (v161 : BitVec 32) : Fin 3 → Nat :=
  let c0_i32_168 : BitVec 32 := 0#32
  let c0_i32_169 : BitVec 32 := 0#32
  let c7_i32_66 : BitVec 32 := 7#32
  let v162 : BitVec 32 := Scalar.shrui v161 c7_i32_66
  let c7_i32_67 : BitVec 32 := 7#32
  let v163 : BitVec 32 := Scalar.shli v162 c7_i32_67
  let c2559360_i32_68 : BitVec 32 := 2559360#32
  let v164 : BitVec 32 := Scalar.minsi v163 c2559360_i32_68
  let v165 : BitVec 32 := v164
  ![0, 0, v165.toNat]

def k0_chk20 (v161 : BitVec 32) : Prop :=
  (128 ∣ (k0_mult20 v161).toNat) ∧
  (∀ a, (k0_off80 v161) a + S2x64x640.size a ≤ S2x64x2560000.size a) ∧
  (∀ (hinb : ∀ a, (k0_off80 v161) a + S2x64x640.size a ≤ S2x64x2560000.size a), (Rect.unit (s := S2x64x2560000) (k0_off80 v161) S2x64x640.size hinb).WholeWords (EltTy.packing .i8)) ∧
  (∀ a, (k0_off82 v161) a + S2x2x640.size a ≤ S2x2x2560000.size a)
theorem k0_mult20_dvd : ∀ (v161 : BitVec 32) (k0_hw20 : k0_chk20 v161), 128 ∣ (k0_mult20 v161).toNat := fun v161 k0_hw20 => k0_hw20.1
theorem k0_off80_inb : ∀ (v161 : BitVec 32) (k0_hw20 : k0_chk20 v161), ∀ a, (k0_off80 v161) a + S2x64x640.size a ≤ S2x64x2560000.size a := fun v161 k0_hw20 => k0_hw20.2.1
theorem k0_off80_wordsi8 : ∀ (v161 : BitVec 32) (k0_hw20 : k0_chk20 v161), (Rect.unit (s := S2x64x2560000) (k0_off80 v161) S2x64x640.size (k0_off80_inb v161 k0_hw20)).WholeWords (EltTy.packing .i8) := fun v161 k0_hw20 => k0_hw20.2.2.1 (k0_off80_inb v161 k0_hw20)
theorem k0_off82_inb : ∀ (v161 : BitVec 32) (k0_hw20 : k0_chk20 v161), ∀ a, (k0_off82 v161) a + S2x2x640.size a ≤ S2x2x2560000.size a := fun v161 k0_hw20 => k0_hw20.2.2.2

def k0_off83 (i : grid0.Coords) : Fin 5 → Nat :=
  let arg0 : BitVec 32 := BitVec.ofNat 32 (i 0).val
  let c2_i32 : BitVec 32 := 2#32
  let v0 : BitVec 32 := Scalar.remsi arg0 c2_i32
  let c4_i32_182 : BitVec 32 := 4#32
  let c0_i32_183 : BitVec 32 := 0#32
  let c0_i32_184 : BitVec 32 := 0#32
  let c0_i32_185 : BitVec 32 := 0#32
  ![v0.toNat, 4, 0, 0, 0]
def k0_off84 (v169 : BitVec 32) : Fin 3 → Nat :=
  let c0_i32_186 : BitVec 32 := 0#32
  let c0_i32_187 : BitVec 32 := 0#32
  let c7_i32_70 : BitVec 32 := 7#32
  let v170 : BitVec 32 := Scalar.shrui v169 c7_i32_70
  let c7_i32_71 : BitVec 32 := 7#32
  let v171 : BitVec 32 := Scalar.shli v170 c7_i32_71
  let c2559360_i32_72 : BitVec 32 := 2559360#32
  let v172 : BitVec 32 := Scalar.minsi v171 c2559360_i32_72
  let v173 : BitVec 32 := v172
  ![0, 0, v173.toNat]
def k0_off85 (i : grid0.Coords) : Fin 5 → Nat :=
  let arg0 : BitVec 32 := BitVec.ofNat 32 (i 0).val
  let c2_i32 : BitVec 32 := 2#32
  let v0 : BitVec 32 := Scalar.remsi arg0 c2_i32
  let c4_i32_188 : BitVec 32 := 4#32
  let c0_i32_189 : BitVec 32 := 0#32
  let c0_i32_190 : BitVec 32 := 0#32
  let c0_i32_191 : BitVec 32 := 0#32
  ![v0.toNat, 4, 0, 0, 0]
def k0_off86 (v169 : BitVec 32) : Fin 3 → Nat :=
  let c0_i32_192 : BitVec 32 := 0#32
  let c0_i32_193 : BitVec 32 := 0#32
  let c7_i32_70 : BitVec 32 := 7#32
  let v170 : BitVec 32 := Scalar.shrui v169 c7_i32_70
  let c7_i32_71 : BitVec 32 := 7#32
  let v171 : BitVec 32 := Scalar.shli v170 c7_i32_71
  let c2559360_i32_72 : BitVec 32 := 2559360#32
  let v172 : BitVec 32 := Scalar.minsi v171 c2559360_i32_72
  let v173 : BitVec 32 := v172
  ![0, 0, v173.toNat]

def k0_chk21 (v169 : BitVec 32) : Prop :=
  (128 ∣ (k0_mult21 v169).toNat) ∧
  (∀ a, (k0_off84 v169) a + S2x64x640.size a ≤ S2x64x2560000.size a) ∧
  (∀ (hinb : ∀ a, (k0_off84 v169) a + S2x64x640.size a ≤ S2x64x2560000.size a), (Rect.unit (s := S2x64x2560000) (k0_off84 v169) S2x64x640.size hinb).WholeWords (EltTy.packing .i8)) ∧
  (∀ a, (k0_off86 v169) a + S2x2x640.size a ≤ S2x2x2560000.size a)
theorem k0_mult21_dvd : ∀ (v169 : BitVec 32) (k0_hw21 : k0_chk21 v169), 128 ∣ (k0_mult21 v169).toNat := fun v169 k0_hw21 => k0_hw21.1
theorem k0_off84_inb : ∀ (v169 : BitVec 32) (k0_hw21 : k0_chk21 v169), ∀ a, (k0_off84 v169) a + S2x64x640.size a ≤ S2x64x2560000.size a := fun v169 k0_hw21 => k0_hw21.2.1
theorem k0_off84_wordsi8 : ∀ (v169 : BitVec 32) (k0_hw21 : k0_chk21 v169), (Rect.unit (s := S2x64x2560000) (k0_off84 v169) S2x64x640.size (k0_off84_inb v169 k0_hw21)).WholeWords (EltTy.packing .i8) := fun v169 k0_hw21 => k0_hw21.2.2.1 (k0_off84_inb v169 k0_hw21)
theorem k0_off86_inb : ∀ (v169 : BitVec 32) (k0_hw21 : k0_chk21 v169), ∀ a, (k0_off86 v169) a + S2x2x640.size a ≤ S2x2x2560000.size a := fun v169 k0_hw21 => k0_hw21.2.2.2

def k0_off87 (i : grid0.Coords) : Fin 5 → Nat :=
  let arg0 : BitVec 32 := BitVec.ofNat 32 (i 0).val
  let c2_i32 : BitVec 32 := 2#32
  let v0 : BitVec 32 := Scalar.remsi arg0 c2_i32
  let c5_i32_206 : BitVec 32 := 5#32
  let c0_i32_207 : BitVec 32 := 0#32
  let c0_i32_208 : BitVec 32 := 0#32
  let c0_i32_209 : BitVec 32 := 0#32
  ![v0.toNat, 5, 0, 0, 0]
def k0_off88 (v177 : BitVec 32) : Fin 3 → Nat :=
  let c0_i32_210 : BitVec 32 := 0#32
  let c0_i32_211 : BitVec 32 := 0#32
  let c7_i32_74 : BitVec 32 := 7#32
  let v178 : BitVec 32 := Scalar.shrui v177 c7_i32_74
  let c7_i32_75 : BitVec 32 := 7#32
  let v179 : BitVec 32 := Scalar.shli v178 c7_i32_75
  let c2559360_i32_76 : BitVec 32 := 2559360#32
  let v180 : BitVec 32 := Scalar.minsi v179 c2559360_i32_76
  let v181 : BitVec 32 := v180
  ![0, 0, v181.toNat]
def k0_off89 (i : grid0.Coords) : Fin 5 → Nat :=
  let arg0 : BitVec 32 := BitVec.ofNat 32 (i 0).val
  let c2_i32 : BitVec 32 := 2#32
  let v0 : BitVec 32 := Scalar.remsi arg0 c2_i32
  let c5_i32_212 : BitVec 32 := 5#32
  let c0_i32_213 : BitVec 32 := 0#32
  let c0_i32_214 : BitVec 32 := 0#32
  let c0_i32_215 : BitVec 32 := 0#32
  ![v0.toNat, 5, 0, 0, 0]
def k0_off90 (v177 : BitVec 32) : Fin 3 → Nat :=
  let c0_i32_216 : BitVec 32 := 0#32
  let c0_i32_217 : BitVec 32 := 0#32
  let c7_i32_74 : BitVec 32 := 7#32
  let v178 : BitVec 32 := Scalar.shrui v177 c7_i32_74
  let c7_i32_75 : BitVec 32 := 7#32
  let v179 : BitVec 32 := Scalar.shli v178 c7_i32_75
  let c2559360_i32_76 : BitVec 32 := 2559360#32
  let v180 : BitVec 32 := Scalar.minsi v179 c2559360_i32_76
  let v181 : BitVec 32 := v180
  ![0, 0, v181.toNat]

def k0_chk22 (v177 : BitVec 32) : Prop :=
  (128 ∣ (k0_mult22 v177).toNat) ∧
  (∀ a, (k0_off88 v177) a + S2x64x640.size a ≤ S2x64x2560000.size a) ∧
  (∀ (hinb : ∀ a, (k0_off88 v177) a + S2x64x640.size a ≤ S2x64x2560000.size a), (Rect.unit (s := S2x64x2560000) (k0_off88 v177) S2x64x640.size hinb).WholeWords (EltTy.packing .i8)) ∧
  (∀ a, (k0_off90 v177) a + S2x2x640.size a ≤ S2x2x2560000.size a)
theorem k0_mult22_dvd : ∀ (v177 : BitVec 32) (k0_hw22 : k0_chk22 v177), 128 ∣ (k0_mult22 v177).toNat := fun v177 k0_hw22 => k0_hw22.1
theorem k0_off88_inb : ∀ (v177 : BitVec 32) (k0_hw22 : k0_chk22 v177), ∀ a, (k0_off88 v177) a + S2x64x640.size a ≤ S2x64x2560000.size a := fun v177 k0_hw22 => k0_hw22.2.1
theorem k0_off88_wordsi8 : ∀ (v177 : BitVec 32) (k0_hw22 : k0_chk22 v177), (Rect.unit (s := S2x64x2560000) (k0_off88 v177) S2x64x640.size (k0_off88_inb v177 k0_hw22)).WholeWords (EltTy.packing .i8) := fun v177 k0_hw22 => k0_hw22.2.2.1 (k0_off88_inb v177 k0_hw22)
theorem k0_off90_inb : ∀ (v177 : BitVec 32) (k0_hw22 : k0_chk22 v177), ∀ a, (k0_off90 v177) a + S2x2x640.size a ≤ S2x2x2560000.size a := fun v177 k0_hw22 => k0_hw22.2.2.2

def k0_off91 (i : grid0.Coords) : Fin 5 → Nat :=
  let arg0 : BitVec 32 := BitVec.ofNat 32 (i 0).val
  let c2_i32 : BitVec 32 := 2#32
  let v0 : BitVec 32 := Scalar.remsi arg0 c2_i32
  let c6_i32_230 : BitVec 32 := 6#32
  let c0_i32_231 : BitVec 32 := 0#32
  let c0_i32_232 : BitVec 32 := 0#32
  let c0_i32_233 : BitVec 32 := 0#32
  ![v0.toNat, 6, 0, 0, 0]
def k0_off92 (v185 : BitVec 32) : Fin 3 → Nat :=
  let c0_i32_234 : BitVec 32 := 0#32
  let c0_i32_235 : BitVec 32 := 0#32
  let c7_i32_78 : BitVec 32 := 7#32
  let v186 : BitVec 32 := Scalar.shrui v185 c7_i32_78
  let c7_i32_79 : BitVec 32 := 7#32
  let v187 : BitVec 32 := Scalar.shli v186 c7_i32_79
  let c2559360_i32_80 : BitVec 32 := 2559360#32
  let v188 : BitVec 32 := Scalar.minsi v187 c2559360_i32_80
  let v189 : BitVec 32 := v188
  ![0, 0, v189.toNat]
def k0_off93 (i : grid0.Coords) : Fin 5 → Nat :=
  let arg0 : BitVec 32 := BitVec.ofNat 32 (i 0).val
  let c2_i32 : BitVec 32 := 2#32
  let v0 : BitVec 32 := Scalar.remsi arg0 c2_i32
  let c6_i32_236 : BitVec 32 := 6#32
  let c0_i32_237 : BitVec 32 := 0#32
  let c0_i32_238 : BitVec 32 := 0#32
  let c0_i32_239 : BitVec 32 := 0#32
  ![v0.toNat, 6, 0, 0, 0]
def k0_off94 (v185 : BitVec 32) : Fin 3 → Nat :=
  let c0_i32_240 : BitVec 32 := 0#32
  let c0_i32_241 : BitVec 32 := 0#32
  let c7_i32_78 : BitVec 32 := 7#32
  let v186 : BitVec 32 := Scalar.shrui v185 c7_i32_78
  let c7_i32_79 : BitVec 32 := 7#32
  let v187 : BitVec 32 := Scalar.shli v186 c7_i32_79
  let c2559360_i32_80 : BitVec 32 := 2559360#32
  let v188 : BitVec 32 := Scalar.minsi v187 c2559360_i32_80
  let v189 : BitVec 32 := v188
  ![0, 0, v189.toNat]

def k0_chk23 (v185 : BitVec 32) : Prop :=
  (128 ∣ (k0_mult23 v185).toNat) ∧
  (∀ a, (k0_off92 v185) a + S2x64x640.size a ≤ S2x64x2560000.size a) ∧
  (∀ (hinb : ∀ a, (k0_off92 v185) a + S2x64x640.size a ≤ S2x64x2560000.size a), (Rect.unit (s := S2x64x2560000) (k0_off92 v185) S2x64x640.size hinb).WholeWords (EltTy.packing .i8)) ∧
  (∀ a, (k0_off94 v185) a + S2x2x640.size a ≤ S2x2x2560000.size a)
theorem k0_mult23_dvd : ∀ (v185 : BitVec 32) (k0_hw23 : k0_chk23 v185), 128 ∣ (k0_mult23 v185).toNat := fun v185 k0_hw23 => k0_hw23.1
theorem k0_off92_inb : ∀ (v185 : BitVec 32) (k0_hw23 : k0_chk23 v185), ∀ a, (k0_off92 v185) a + S2x64x640.size a ≤ S2x64x2560000.size a := fun v185 k0_hw23 => k0_hw23.2.1
theorem k0_off92_wordsi8 : ∀ (v185 : BitVec 32) (k0_hw23 : k0_chk23 v185), (Rect.unit (s := S2x64x2560000) (k0_off92 v185) S2x64x640.size (k0_off92_inb v185 k0_hw23)).WholeWords (EltTy.packing .i8) := fun v185 k0_hw23 => k0_hw23.2.2.1 (k0_off92_inb v185 k0_hw23)
theorem k0_off94_inb : ∀ (v185 : BitVec 32) (k0_hw23 : k0_chk23 v185), ∀ a, (k0_off94 v185) a + S2x2x640.size a ≤ S2x2x2560000.size a := fun v185 k0_hw23 => k0_hw23.2.2.2

def k0_off95 (i : grid0.Coords) : Fin 5 → Nat :=
  let arg0 : BitVec 32 := BitVec.ofNat 32 (i 0).val
  let c2_i32 : BitVec 32 := 2#32
  let v0 : BitVec 32 := Scalar.remsi arg0 c2_i32
  let c7_i32_254 : BitVec 32 := 7#32
  let c0_i32_255 : BitVec 32 := 0#32
  let c0_i32_256 : BitVec 32 := 0#32
  let c0_i32_257 : BitVec 32 := 0#32
  ![v0.toNat, 7, 0, 0, 0]
def k0_off96 (v193 : BitVec 32) : Fin 3 → Nat :=
  let c0_i32_258 : BitVec 32 := 0#32
  let c0_i32_259 : BitVec 32 := 0#32
  let c7_i32_83 : BitVec 32 := 7#32
  let v194 : BitVec 32 := Scalar.shrui v193 c7_i32_83
  let c7_i32_84 : BitVec 32 := 7#32
  let v195 : BitVec 32 := Scalar.shli v194 c7_i32_84
  let c2559360_i32_85 : BitVec 32 := 2559360#32
  let v196 : BitVec 32 := Scalar.minsi v195 c2559360_i32_85
  let v197 : BitVec 32 := v196
  ![0, 0, v197.toNat]
def k0_off97 (i : grid0.Coords) : Fin 5 → Nat :=
  let arg0 : BitVec 32 := BitVec.ofNat 32 (i 0).val
  let c2_i32 : BitVec 32 := 2#32
  let v0 : BitVec 32 := Scalar.remsi arg0 c2_i32
  let c7_i32_260 : BitVec 32 := 7#32
  let c0_i32_261 : BitVec 32 := 0#32
  let c0_i32_262 : BitVec 32 := 0#32
  let c0_i32_263 : BitVec 32 := 0#32
  ![v0.toNat, 7, 0, 0, 0]
def k0_off98 (v193 : BitVec 32) : Fin 3 → Nat :=
  let c0_i32_264 : BitVec 32 := 0#32
  let c0_i32_265 : BitVec 32 := 0#32
  let c7_i32_83 : BitVec 32 := 7#32
  let v194 : BitVec 32 := Scalar.shrui v193 c7_i32_83
  let c7_i32_84 : BitVec 32 := 7#32
  let v195 : BitVec 32 := Scalar.shli v194 c7_i32_84
  let c2559360_i32_85 : BitVec 32 := 2559360#32
  let v196 : BitVec 32 := Scalar.minsi v195 c2559360_i32_85
  let v197 : BitVec 32 := v196
  ![0, 0, v197.toNat]

def k0_chk24 (v193 : BitVec 32) : Prop :=
  (128 ∣ (k0_mult24 v193).toNat) ∧
  (∀ a, (k0_off96 v193) a + S2x64x640.size a ≤ S2x64x2560000.size a) ∧
  (∀ (hinb : ∀ a, (k0_off96 v193) a + S2x64x640.size a ≤ S2x64x2560000.size a), (Rect.unit (s := S2x64x2560000) (k0_off96 v193) S2x64x640.size hinb).WholeWords (EltTy.packing .i8)) ∧
  (∀ a, (k0_off98 v193) a + S2x2x640.size a ≤ S2x2x2560000.size a)
theorem k0_mult24_dvd : ∀ (v193 : BitVec 32) (k0_hw24 : k0_chk24 v193), 128 ∣ (k0_mult24 v193).toNat := fun v193 k0_hw24 => k0_hw24.1
theorem k0_off96_inb : ∀ (v193 : BitVec 32) (k0_hw24 : k0_chk24 v193), ∀ a, (k0_off96 v193) a + S2x64x640.size a ≤ S2x64x2560000.size a := fun v193 k0_hw24 => k0_hw24.2.1
theorem k0_off96_wordsi8 : ∀ (v193 : BitVec 32) (k0_hw24 : k0_chk24 v193), (Rect.unit (s := S2x64x2560000) (k0_off96 v193) S2x64x640.size (k0_off96_inb v193 k0_hw24)).WholeWords (EltTy.packing .i8) := fun v193 k0_hw24 => k0_hw24.2.2.1 (k0_off96_inb v193 k0_hw24)
theorem k0_off98_inb : ∀ (v193 : BitVec 32) (k0_hw24 : k0_chk24 v193), ∀ a, (k0_off98 v193) a + S2x2x640.size a ≤ S2x2x2560000.size a := fun v193 k0_hw24 => k0_hw24.2.2.2

def k0_off99 (i : grid0.Coords) : Fin 1 → Nat :=
  let arg0 : BitVec 32 := BitVec.ofNat 32 (i 0).val
  let c8_i32_278 : BitVec 32 := 8#32
  let v359 : BitVec 32 := Scalar.muli arg0 c8_i32_278
  let c0_i32_279 : BitVec 32 := 0#32
  let v360 : BitVec 32 := Scalar.addi v359 c0_i32_279
  let v361 : Index := Scalar.indexCast v360
  ![v361.toNat]
def k0_mult25 (v364 : BitVec 32) : BitVec 32 :=
  let c7_i32_280 : BitVec 32 := 7#32
  let v365 : BitVec 32 := Scalar.shrui v364 c7_i32_280
  let c7_i32_281 : BitVec 32 := 7#32
  let v366 : BitVec 32 := Scalar.shli v365 c7_i32_281
  let c2559360_i32_282 : BitVec 32 := 2559360#32
  let v367 : BitVec 32 := Scalar.minsi v366 c2559360_i32_282
  v367

def k0_chk25 (v364 : BitVec 32) : Prop :=
  (128 ∣ (k0_mult25 v364).toNat)
theorem k0_mult25_dvd : ∀ (v364 : BitVec 32) (k0_hw25 : k0_chk25 v364), 128 ∣ (k0_mult25 v364).toNat := fun v364 k0_hw25 => k0_hw25

def k0_off100 (i : grid0.Coords) : Fin 1 → Nat :=
  let arg0 : BitVec 32 := BitVec.ofNat 32 (i 0).val
  let c8_i32_278 : BitVec 32 := 8#32
  let v359 : BitVec 32 := Scalar.muli arg0 c8_i32_278
  let c0_i32_279 : BitVec 32 := 0#32
  let v360 : BitVec 32 := Scalar.addi v359 c0_i32_279
  let c1_i32_283 : BitVec 32 := 1#32
  let v370 : BitVec 32 := Scalar.addi v360 c1_i32_283
  let v371 : Index := Scalar.indexCast v370
  ![v371.toNat]
def k0_off101 (i : grid0.Coords) : Fin 5 → Nat :=
  let arg0 : BitVec 32 := BitVec.ofNat 32 (i 0).val
  let c2_i32 : BitVec 32 := 2#32
  let v0 : BitVec 32 := Scalar.remsi arg0 c2_i32
  let v381 : Index := Scalar.indexCast v0
  let c0_286 : Index := 0#32
  let c0_287 : Index := 0#32
  let c0_288 : Index := 0#32
  let c0_289 : Index := 0#32
  ![v381.toNat, 0, 0, 0, 0]
def k0_off102 (i : grid0.Coords) : Fin 5 → Nat :=
  let arg0 : BitVec 32 := BitVec.ofNat 32 (i 0).val
  let c2_i32 : BitVec 32 := 2#32
  let v0 : BitVec 32 := Scalar.remsi arg0 c2_i32
  let v385 : Index := Scalar.indexCast v0
  let c0_290 : Index := 0#32
  let c0_291 : Index := 0#32
  let c0_292 : Index := 0#32
  let c0_293 : Index := 0#32
  ![v385.toNat, 0, 0, 0, 0]
def k0_off103 (i : grid0.Coords) : Fin 5 → Nat :=
  let arg0 : BitVec 32 := BitVec.ofNat 32 (i 0).val
  let c2_i32 : BitVec 32 := 2#32
  let v0 : BitVec 32 := Scalar.remsi arg0 c2_i32
  let v393 : Index := Scalar.indexCast v0
  let c0_294 : Index := 0#32
  let c0_295 : Index := 0#32
  let c32 : Index := 32#32
  let c0_296 : Index := 0#32
  ![v393.toNat, 0, 0, 32, 0]
def k0_off104 (i : grid0.Coords) : Fin 5 → Nat :=
  let arg0 : BitVec 32 := BitVec.ofNat 32 (i 0).val
  let c2_i32 : BitVec 32 := 2#32
  let v0 : BitVec 32 := Scalar.remsi arg0 c2_i32
  let v397 : Index := Scalar.indexCast v0
  let c0_297 : Index := 0#32
  let c0_298 : Index := 0#32
  let c1_299 : Index := 1#32
  let c0_300 : Index := 0#32
  ![v397.toNat, 0, 0, 1, 0]
def k0_off105 (i : grid0.Coords) : Fin 5 → Nat :=
  let arg0 : BitVec 32 := BitVec.ofNat 32 (i 0).val
  let c2_i32 : BitVec 32 := 2#32
  let v0 : BitVec 32 := Scalar.remsi arg0 c2_i32
  let v405 : Index := Scalar.indexCast v0
  let c0_301 : Index := 0#32
  let c1_302 : Index := 1#32
  let c0_303 : Index := 0#32
  let c0_304 : Index := 0#32
  ![v405.toNat, 0, 1, 0, 0]
def k0_off106 (i : grid0.Coords) : Fin 5 → Nat :=
  let arg0 : BitVec 32 := BitVec.ofNat 32 (i 0).val
  let c2_i32 : BitVec 32 := 2#32
  let v0 : BitVec 32 := Scalar.remsi arg0 c2_i32
  let v409 : Index := Scalar.indexCast v0
  let c0_305 : Index := 0#32
  let c1_306 : Index := 1#32
  let c0_307 : Index := 0#32
  let c0_308 : Index := 0#32
  ![v409.toNat, 0, 1, 0, 0]
def k0_off107 (i : grid0.Coords) : Fin 5 → Nat :=
  let arg0 : BitVec 32 := BitVec.ofNat 32 (i 0).val
  let c2_i32 : BitVec 32 := 2#32
  let v0 : BitVec 32 := Scalar.remsi arg0 c2_i32
  let v417 : Index := Scalar.indexCast v0
  let c0_309 : Index := 0#32
  let c1_310 : Index := 1#32
  let c32_311 : Index := 32#32
  let c0_312 : Index := 0#32
  ![v417.toNat, 0, 1, 32, 0]
def k0_off108 (i : grid0.Coords) : Fin 5 → Nat :=
  let arg0 : BitVec 32 := BitVec.ofNat 32 (i 0).val
  let c2_i32 : BitVec 32 := 2#32
  let v0 : BitVec 32 := Scalar.remsi arg0 c2_i32
  let v421 : Index := Scalar.indexCast v0
  let c0_313 : Index := 0#32
  let c1_314 : Index := 1#32
  let c1_315 : Index := 1#32
  let c0_316 : Index := 0#32
  ![v421.toNat, 0, 1, 1, 0]
def k0_off109 (i : grid0.Coords) : Fin 1 → Nat :=
  let arg0 : BitVec 32 := BitVec.ofNat 32 (i 0).val
  let c8_i32_364 : BitVec 32 := 8#32
  let v520 : BitVec 32 := Scalar.muli arg0 c8_i32_364
  let c1_i32_365 : BitVec 32 := 1#32
  let v521 : BitVec 32 := Scalar.addi v520 c1_i32_365
  let v522 : Index := Scalar.indexCast v521
  ![v522.toNat]
def k0_mult26 (v525 : BitVec 32) : BitVec 32 :=
  let c7_i32_366 : BitVec 32 := 7#32
  let v526 : BitVec 32 := Scalar.shrui v525 c7_i32_366
  let c7_i32_367 : BitVec 32 := 7#32
  let v527 : BitVec 32 := Scalar.shli v526 c7_i32_367
  let c2559360_i32_368 : BitVec 32 := 2559360#32
  let v528 : BitVec 32 := Scalar.minsi v527 c2559360_i32_368
  v528

def k0_chk26 (v525 : BitVec 32) : Prop :=
  (128 ∣ (k0_mult26 v525).toNat)
theorem k0_mult26_dvd : ∀ (v525 : BitVec 32) (k0_hw26 : k0_chk26 v525), 128 ∣ (k0_mult26 v525).toNat := fun v525 k0_hw26 => k0_hw26

def k0_off110 (i : grid0.Coords) : Fin 1 → Nat :=
  let arg0 : BitVec 32 := BitVec.ofNat 32 (i 0).val
  let c8_i32_364 : BitVec 32 := 8#32
  let v520 : BitVec 32 := Scalar.muli arg0 c8_i32_364
  let c1_i32_365 : BitVec 32 := 1#32
  let v521 : BitVec 32 := Scalar.addi v520 c1_i32_365
  let c1_i32_369 : BitVec 32 := 1#32
  let v531 : BitVec 32 := Scalar.addi v521 c1_i32_369
  let v532 : Index := Scalar.indexCast v531
  ![v532.toNat]
def k0_off111 (i : grid0.Coords) : Fin 5 → Nat :=
  let arg0 : BitVec 32 := BitVec.ofNat 32 (i 0).val
  let c2_i32 : BitVec 32 := 2#32
  let v0 : BitVec 32 := Scalar.remsi arg0 c2_i32
  let v542 : Index := Scalar.indexCast v0
  let c1_371 : Index := 1#32
  let c0_372 : Index := 0#32
  let c0_373 : Index := 0#32
  let c0_374 : Index := 0#32
  ![v542.toNat, 1, 0, 0, 0]
def k0_off112 (i : grid0.Coords) : Fin 5 → Nat :=
  let arg0 : BitVec 32 := BitVec.ofNat 32 (i 0).val
  let c2_i32 : BitVec 32 := 2#32
  let v0 : BitVec 32 := Scalar.remsi arg0 c2_i32
  let v546 : Index := Scalar.indexCast v0
  let c1_375 : Index := 1#32
  let c0_376 : Index := 0#32
  let c0_377 : Index := 0#32
  let c0_378 : Index := 0#32
  ![v546.toNat, 1, 0, 0, 0]
def k0_off113 (i : grid0.Coords) : Fin 5 → Nat :=
  let arg0 : BitVec 32 := BitVec.ofNat 32 (i 0).val
  let c2_i32 : BitVec 32 := 2#32
  let v0 : BitVec 32 := Scalar.remsi arg0 c2_i32
  let v554 : Index := Scalar.indexCast v0
  let c1_379 : Index := 1#32
  let c0_380 : Index := 0#32
  let c32_381 : Index := 32#32
  let c0_382 : Index := 0#32
  ![v554.toNat, 1, 0, 32, 0]
def k0_off114 (i : grid0.Coords) : Fin 5 → Nat :=
  let arg0 : BitVec 32 := BitVec.ofNat 32 (i 0).val
  let c2_i32 : BitVec 32 := 2#32
  let v0 : BitVec 32 := Scalar.remsi arg0 c2_i32
  let v558 : Index := Scalar.indexCast v0
  let c1_383 : Index := 1#32
  let c0_384 : Index := 0#32
  let c1_385 : Index := 1#32
  let c0_386 : Index := 0#32
  ![v558.toNat, 1, 0, 1, 0]
def k0_off115 (i : grid0.Coords) : Fin 5 → Nat :=
  let arg0 : BitVec 32 := BitVec.ofNat 32 (i 0).val
  let c2_i32 : BitVec 32 := 2#32
  let v0 : BitVec 32 := Scalar.remsi arg0 c2_i32
  let v566 : Index := Scalar.indexCast v0
  let c1_387 : Index := 1#32
  let c1_388 : Index := 1#32
  let c0_389 : Index := 0#32
  let c0_390 : Index := 0#32
  ![v566.toNat, 1, 1, 0, 0]
def k0_off116 (i : grid0.Coords) : Fin 5 → Nat :=
  let arg0 : BitVec 32 := BitVec.ofNat 32 (i 0).val
  let c2_i32 : BitVec 32 := 2#32
  let v0 : BitVec 32 := Scalar.remsi arg0 c2_i32
  let v570 : Index := Scalar.indexCast v0
  let c1_391 : Index := 1#32
  let c1_392 : Index := 1#32
  let c0_393 : Index := 0#32
  let c0_394 : Index := 0#32
  ![v570.toNat, 1, 1, 0, 0]
def k0_off117 (i : grid0.Coords) : Fin 5 → Nat :=
  let arg0 : BitVec 32 := BitVec.ofNat 32 (i 0).val
  let c2_i32 : BitVec 32 := 2#32
  let v0 : BitVec 32 := Scalar.remsi arg0 c2_i32
  let v578 : Index := Scalar.indexCast v0
  let c1_395 : Index := 1#32
  let c1_396 : Index := 1#32
  let c32_397 : Index := 32#32
  let c0_398 : Index := 0#32
  ![v578.toNat, 1, 1, 32, 0]
def k0_off118 (i : grid0.Coords) : Fin 5 → Nat :=
  let arg0 : BitVec 32 := BitVec.ofNat 32 (i 0).val
  let c2_i32 : BitVec 32 := 2#32
  let v0 : BitVec 32 := Scalar.remsi arg0 c2_i32
  let v582 : Index := Scalar.indexCast v0
  let c1_399 : Index := 1#32
  let c1_400 : Index := 1#32
  let c1_401 : Index := 1#32
  let c0_402 : Index := 0#32
  ![v582.toNat, 1, 1, 1, 0]
def k0_off119 (i : grid0.Coords) : Fin 1 → Nat :=
  let arg0 : BitVec 32 := BitVec.ofNat 32 (i 0).val
  let c8_i32_450 : BitVec 32 := 8#32
  let v681 : BitVec 32 := Scalar.muli arg0 c8_i32_450
  let c2_i32_451 : BitVec 32 := 2#32
  let v682 : BitVec 32 := Scalar.addi v681 c2_i32_451
  let v683 : Index := Scalar.indexCast v682
  ![v683.toNat]
def k0_mult27 (v686 : BitVec 32) : BitVec 32 :=
  let c7_i32_452 : BitVec 32 := 7#32
  let v687 : BitVec 32 := Scalar.shrui v686 c7_i32_452
  let c7_i32_453 : BitVec 32 := 7#32
  let v688 : BitVec 32 := Scalar.shli v687 c7_i32_453
  let c2559360_i32_454 : BitVec 32 := 2559360#32
  let v689 : BitVec 32 := Scalar.minsi v688 c2559360_i32_454
  v689

def k0_chk27 (v686 : BitVec 32) : Prop :=
  (128 ∣ (k0_mult27 v686).toNat)
theorem k0_mult27_dvd : ∀ (v686 : BitVec 32) (k0_hw27 : k0_chk27 v686), 128 ∣ (k0_mult27 v686).toNat := fun v686 k0_hw27 => k0_hw27

def k0_off120 (i : grid0.Coords) : Fin 1 → Nat :=
  let arg0 : BitVec 32 := BitVec.ofNat 32 (i 0).val
  let c8_i32_450 : BitVec 32 := 8#32
  let v681 : BitVec 32 := Scalar.muli arg0 c8_i32_450
  let c2_i32_451 : BitVec 32 := 2#32
  let v682 : BitVec 32 := Scalar.addi v681 c2_i32_451
  let c1_i32_455 : BitVec 32 := 1#32
  let v692 : BitVec 32 := Scalar.addi v682 c1_i32_455
  let v693 : Index := Scalar.indexCast v692
  ![v693.toNat]
def k0_off121 (i : grid0.Coords) : Fin 5 → Nat :=
  let arg0 : BitVec 32 := BitVec.ofNat 32 (i 0).val
  let c2_i32 : BitVec 32 := 2#32
  let v0 : BitVec 32 := Scalar.remsi arg0 c2_i32
  let v703 : Index := Scalar.indexCast v0
  let c2_458 : Index := 2#32
  let c0_459 : Index := 0#32
  let c0_460 : Index := 0#32
  let c0_461 : Index := 0#32
  ![v703.toNat, 2, 0, 0, 0]
def k0_off122 (i : grid0.Coords) : Fin 5 → Nat :=
  let arg0 : BitVec 32 := BitVec.ofNat 32 (i 0).val
  let c2_i32 : BitVec 32 := 2#32
  let v0 : BitVec 32 := Scalar.remsi arg0 c2_i32
  let v707 : Index := Scalar.indexCast v0
  let c2_462 : Index := 2#32
  let c0_463 : Index := 0#32
  let c0_464 : Index := 0#32
  let c0_465 : Index := 0#32
  ![v707.toNat, 2, 0, 0, 0]
def k0_off123 (i : grid0.Coords) : Fin 5 → Nat :=
  let arg0 : BitVec 32 := BitVec.ofNat 32 (i 0).val
  let c2_i32 : BitVec 32 := 2#32
  let v0 : BitVec 32 := Scalar.remsi arg0 c2_i32
  let v715 : Index := Scalar.indexCast v0
  let c2_466 : Index := 2#32
  let c0_467 : Index := 0#32
  let c32_468 : Index := 32#32
  let c0_469 : Index := 0#32
  ![v715.toNat, 2, 0, 32, 0]
def k0_off124 (i : grid0.Coords) : Fin 5 → Nat :=
  let arg0 : BitVec 32 := BitVec.ofNat 32 (i 0).val
  let c2_i32 : BitVec 32 := 2#32
  let v0 : BitVec 32 := Scalar.remsi arg0 c2_i32
  let v719 : Index := Scalar.indexCast v0
  let c2_470 : Index := 2#32
  let c0_471 : Index := 0#32
  let c1_472 : Index := 1#32
  let c0_473 : Index := 0#32
  ![v719.toNat, 2, 0, 1, 0]
def k0_off125 (i : grid0.Coords) : Fin 5 → Nat :=
  let arg0 : BitVec 32 := BitVec.ofNat 32 (i 0).val
  let c2_i32 : BitVec 32 := 2#32
  let v0 : BitVec 32 := Scalar.remsi arg0 c2_i32
  let v727 : Index := Scalar.indexCast v0
  let c2_474 : Index := 2#32
  let c1_475 : Index := 1#32
  let c0_476 : Index := 0#32
  let c0_477 : Index := 0#32
  ![v727.toNat, 2, 1, 0, 0]
def k0_off126 (i : grid0.Coords) : Fin 5 → Nat :=
  let arg0 : BitVec 32 := BitVec.ofNat 32 (i 0).val
  let c2_i32 : BitVec 32 := 2#32
  let v0 : BitVec 32 := Scalar.remsi arg0 c2_i32
  let v731 : Index := Scalar.indexCast v0
  let c2_478 : Index := 2#32
  let c1_479 : Index := 1#32
  let c0_480 : Index := 0#32
  let c0_481 : Index := 0#32
  ![v731.toNat, 2, 1, 0, 0]
def k0_off127 (i : grid0.Coords) : Fin 5 → Nat :=
  let arg0 : BitVec 32 := BitVec.ofNat 32 (i 0).val
  let c2_i32 : BitVec 32 := 2#32
  let v0 : BitVec 32 := Scalar.remsi arg0 c2_i32
  let v739 : Index := Scalar.indexCast v0
  let c2_482 : Index := 2#32
  let c1_483 : Index := 1#32
  let c32_484 : Index := 32#32
  let c0_485 : Index := 0#32
  ![v739.toNat, 2, 1, 32, 0]
def k0_off128 (i : grid0.Coords) : Fin 5 → Nat :=
  let arg0 : BitVec 32 := BitVec.ofNat 32 (i 0).val
  let c2_i32 : BitVec 32 := 2#32
  let v0 : BitVec 32 := Scalar.remsi arg0 c2_i32
  let v743 : Index := Scalar.indexCast v0
  let c2_486 : Index := 2#32
  let c1_487 : Index := 1#32
  let c1_488 : Index := 1#32
  let c0_489 : Index := 0#32
  ![v743.toNat, 2, 1, 1, 0]
def k0_off129 (i : grid0.Coords) : Fin 1 → Nat :=
  let arg0 : BitVec 32 := BitVec.ofNat 32 (i 0).val
  let c8_i32_537 : BitVec 32 := 8#32
  let v842 : BitVec 32 := Scalar.muli arg0 c8_i32_537
  let c3_i32_538 : BitVec 32 := 3#32
  let v843 : BitVec 32 := Scalar.addi v842 c3_i32_538
  let v844 : Index := Scalar.indexCast v843
  ![v844.toNat]
def k0_mult28 (v847 : BitVec 32) : BitVec 32 :=
  let c7_i32_539 : BitVec 32 := 7#32
  let v848 : BitVec 32 := Scalar.shrui v847 c7_i32_539
  let c7_i32_540 : BitVec 32 := 7#32
  let v849 : BitVec 32 := Scalar.shli v848 c7_i32_540
  let c2559360_i32_541 : BitVec 32 := 2559360#32
  let v850 : BitVec 32 := Scalar.minsi v849 c2559360_i32_541
  v850

def k0_chk28 (v847 : BitVec 32) : Prop :=
  (128 ∣ (k0_mult28 v847).toNat)
theorem k0_mult28_dvd : ∀ (v847 : BitVec 32) (k0_hw28 : k0_chk28 v847), 128 ∣ (k0_mult28 v847).toNat := fun v847 k0_hw28 => k0_hw28

def k0_off130 (i : grid0.Coords) : Fin 1 → Nat :=
  let arg0 : BitVec 32 := BitVec.ofNat 32 (i 0).val
  let c8_i32_537 : BitVec 32 := 8#32
  let v842 : BitVec 32 := Scalar.muli arg0 c8_i32_537
  let c3_i32_538 : BitVec 32 := 3#32
  let v843 : BitVec 32 := Scalar.addi v842 c3_i32_538
  let c1_i32_542 : BitVec 32 := 1#32
  let v853 : BitVec 32 := Scalar.addi v843 c1_i32_542
  let v854 : Index := Scalar.indexCast v853
  ![v854.toNat]
def k0_off131 (i : grid0.Coords) : Fin 5 → Nat :=
  let arg0 : BitVec 32 := BitVec.ofNat 32 (i 0).val
  let c2_i32 : BitVec 32 := 2#32
  let v0 : BitVec 32 := Scalar.remsi arg0 c2_i32
  let v864 : Index := Scalar.indexCast v0
  let c3_544 : Index := 3#32
  let c0_545 : Index := 0#32
  let c0_546 : Index := 0#32
  let c0_547 : Index := 0#32
  ![v864.toNat, 3, 0, 0, 0]
def k0_off132 (i : grid0.Coords) : Fin 5 → Nat :=
  let arg0 : BitVec 32 := BitVec.ofNat 32 (i 0).val
  let c2_i32 : BitVec 32 := 2#32
  let v0 : BitVec 32 := Scalar.remsi arg0 c2_i32
  let v868 : Index := Scalar.indexCast v0
  let c3_548 : Index := 3#32
  let c0_549 : Index := 0#32
  let c0_550 : Index := 0#32
  let c0_551 : Index := 0#32
  ![v868.toNat, 3, 0, 0, 0]
def k0_off133 (i : grid0.Coords) : Fin 5 → Nat :=
  let arg0 : BitVec 32 := BitVec.ofNat 32 (i 0).val
  let c2_i32 : BitVec 32 := 2#32
  let v0 : BitVec 32 := Scalar.remsi arg0 c2_i32
  let v876 : Index := Scalar.indexCast v0
  let c3_552 : Index := 3#32
  let c0_553 : Index := 0#32
  let c32_554 : Index := 32#32
  let c0_555 : Index := 0#32
  ![v876.toNat, 3, 0, 32, 0]
def k0_off134 (i : grid0.Coords) : Fin 5 → Nat :=
  let arg0 : BitVec 32 := BitVec.ofNat 32 (i 0).val
  let c2_i32 : BitVec 32 := 2#32
  let v0 : BitVec 32 := Scalar.remsi arg0 c2_i32
  let v880 : Index := Scalar.indexCast v0
  let c3_556 : Index := 3#32
  let c0_557 : Index := 0#32
  let c1_558 : Index := 1#32
  let c0_559 : Index := 0#32
  ![v880.toNat, 3, 0, 1, 0]
def k0_off135 (i : grid0.Coords) : Fin 5 → Nat :=
  let arg0 : BitVec 32 := BitVec.ofNat 32 (i 0).val
  let c2_i32 : BitVec 32 := 2#32
  let v0 : BitVec 32 := Scalar.remsi arg0 c2_i32
  let v888 : Index := Scalar.indexCast v0
  let c3_560 : Index := 3#32
  let c1_561 : Index := 1#32
  let c0_562 : Index := 0#32
  let c0_563 : Index := 0#32
  ![v888.toNat, 3, 1, 0, 0]
def k0_off136 (i : grid0.Coords) : Fin 5 → Nat :=
  let arg0 : BitVec 32 := BitVec.ofNat 32 (i 0).val
  let c2_i32 : BitVec 32 := 2#32
  let v0 : BitVec 32 := Scalar.remsi arg0 c2_i32
  let v892 : Index := Scalar.indexCast v0
  let c3_564 : Index := 3#32
  let c1_565 : Index := 1#32
  let c0_566 : Index := 0#32
  let c0_567 : Index := 0#32
  ![v892.toNat, 3, 1, 0, 0]
def k0_off137 (i : grid0.Coords) : Fin 5 → Nat :=
  let arg0 : BitVec 32 := BitVec.ofNat 32 (i 0).val
  let c2_i32 : BitVec 32 := 2#32
  let v0 : BitVec 32 := Scalar.remsi arg0 c2_i32
  let v900 : Index := Scalar.indexCast v0
  let c3_568 : Index := 3#32
  let c1_569 : Index := 1#32
  let c32_570 : Index := 32#32
  let c0_571 : Index := 0#32
  ![v900.toNat, 3, 1, 32, 0]
def k0_off138 (i : grid0.Coords) : Fin 5 → Nat :=
  let arg0 : BitVec 32 := BitVec.ofNat 32 (i 0).val
  let c2_i32 : BitVec 32 := 2#32
  let v0 : BitVec 32 := Scalar.remsi arg0 c2_i32
  let v904 : Index := Scalar.indexCast v0
  let c3_572 : Index := 3#32
  let c1_573 : Index := 1#32
  let c1_574 : Index := 1#32
  let c0_575 : Index := 0#32
  ![v904.toNat, 3, 1, 1, 0]
def k0_off139 (i : grid0.Coords) : Fin 1 → Nat :=
  let arg0 : BitVec 32 := BitVec.ofNat 32 (i 0).val
  let c8_i32_623 : BitVec 32 := 8#32
  let v1003 : BitVec 32 := Scalar.muli arg0 c8_i32_623
  let c4_i32_624 : BitVec 32 := 4#32
  let v1004 : BitVec 32 := Scalar.addi v1003 c4_i32_624
  let v1005 : Index := Scalar.indexCast v1004
  ![v1005.toNat]
def k0_mult29 (v1008 : BitVec 32) : BitVec 32 :=
  let c7_i32_625 : BitVec 32 := 7#32
  let v1009 : BitVec 32 := Scalar.shrui v1008 c7_i32_625
  let c7_i32_626 : BitVec 32 := 7#32
  let v1010 : BitVec 32 := Scalar.shli v1009 c7_i32_626
  let c2559360_i32_627 : BitVec 32 := 2559360#32
  let v1011 : BitVec 32 := Scalar.minsi v1010 c2559360_i32_627
  v1011

def k0_chk29 (v1008 : BitVec 32) : Prop :=
  (128 ∣ (k0_mult29 v1008).toNat)
theorem k0_mult29_dvd : ∀ (v1008 : BitVec 32) (k0_hw29 : k0_chk29 v1008), 128 ∣ (k0_mult29 v1008).toNat := fun v1008 k0_hw29 => k0_hw29

def k0_off140 (i : grid0.Coords) : Fin 1 → Nat :=
  let arg0 : BitVec 32 := BitVec.ofNat 32 (i 0).val
  let c8_i32_623 : BitVec 32 := 8#32
  let v1003 : BitVec 32 := Scalar.muli arg0 c8_i32_623
  let c4_i32_624 : BitVec 32 := 4#32
  let v1004 : BitVec 32 := Scalar.addi v1003 c4_i32_624
  let c1_i32_628 : BitVec 32 := 1#32
  let v1014 : BitVec 32 := Scalar.addi v1004 c1_i32_628
  let v1015 : Index := Scalar.indexCast v1014
  ![v1015.toNat]
def k0_off141 (i : grid0.Coords) : Fin 5 → Nat :=
  let arg0 : BitVec 32 := BitVec.ofNat 32 (i 0).val
  let c2_i32 : BitVec 32 := 2#32
  let v0 : BitVec 32 := Scalar.remsi arg0 c2_i32
  let v1025 : Index := Scalar.indexCast v0
  let c4_630 : Index := 4#32
  let c0_631 : Index := 0#32
  let c0_632 : Index := 0#32
  let c0_633 : Index := 0#32
  ![v1025.toNat, 4, 0, 0, 0]
def k0_off142 (i : grid0.Coords) : Fin 5 → Nat :=
  let arg0 : BitVec 32 := BitVec.ofNat 32 (i 0).val
  let c2_i32 : BitVec 32 := 2#32
  let v0 : BitVec 32 := Scalar.remsi arg0 c2_i32
  let v1029 : Index := Scalar.indexCast v0
  let c4_634 : Index := 4#32
  let c0_635 : Index := 0#32
  let c0_636 : Index := 0#32
  let c0_637 : Index := 0#32
  ![v1029.toNat, 4, 0, 0, 0]
def k0_off143 (i : grid0.Coords) : Fin 5 → Nat :=
  let arg0 : BitVec 32 := BitVec.ofNat 32 (i 0).val
  let c2_i32 : BitVec 32 := 2#32
  let v0 : BitVec 32 := Scalar.remsi arg0 c2_i32
  let v1037 : Index := Scalar.indexCast v0
  let c4_638 : Index := 4#32
  let c0_639 : Index := 0#32
  let c32_640 : Index := 32#32
  let c0_641 : Index := 0#32
  ![v1037.toNat, 4, 0, 32, 0]
def k0_off144 (i : grid0.Coords) : Fin 5 → Nat :=
  let arg0 : BitVec 32 := BitVec.ofNat 32 (i 0).val
  let c2_i32 : BitVec 32 := 2#32
  let v0 : BitVec 32 := Scalar.remsi arg0 c2_i32
  let v1041 : Index := Scalar.indexCast v0
  let c4_642 : Index := 4#32
  let c0_643 : Index := 0#32
  let c1_644 : Index := 1#32
  let c0_645 : Index := 0#32
  ![v1041.toNat, 4, 0, 1, 0]
def k0_off145 (i : grid0.Coords) : Fin 5 → Nat :=
  let arg0 : BitVec 32 := BitVec.ofNat 32 (i 0).val
  let c2_i32 : BitVec 32 := 2#32
  let v0 : BitVec 32 := Scalar.remsi arg0 c2_i32
  let v1049 : Index := Scalar.indexCast v0
  let c4_646 : Index := 4#32
  let c1_647 : Index := 1#32
  let c0_648 : Index := 0#32
  let c0_649 : Index := 0#32
  ![v1049.toNat, 4, 1, 0, 0]
def k0_off146 (i : grid0.Coords) : Fin 5 → Nat :=
  let arg0 : BitVec 32 := BitVec.ofNat 32 (i 0).val
  let c2_i32 : BitVec 32 := 2#32
  let v0 : BitVec 32 := Scalar.remsi arg0 c2_i32
  let v1053 : Index := Scalar.indexCast v0
  let c4_650 : Index := 4#32
  let c1_651 : Index := 1#32
  let c0_652 : Index := 0#32
  let c0_653 : Index := 0#32
  ![v1053.toNat, 4, 1, 0, 0]
def k0_off147 (i : grid0.Coords) : Fin 5 → Nat :=
  let arg0 : BitVec 32 := BitVec.ofNat 32 (i 0).val
  let c2_i32 : BitVec 32 := 2#32
  let v0 : BitVec 32 := Scalar.remsi arg0 c2_i32
  let v1061 : Index := Scalar.indexCast v0
  let c4_654 : Index := 4#32
  let c1_655 : Index := 1#32
  let c32_656 : Index := 32#32
  let c0_657 : Index := 0#32
  ![v1061.toNat, 4, 1, 32, 0]
def k0_off148 (i : grid0.Coords) : Fin 5 → Nat :=
  let arg0 : BitVec 32 := BitVec.ofNat 32 (i 0).val
  let c2_i32 : BitVec 32 := 2#32
  let v0 : BitVec 32 := Scalar.remsi arg0 c2_i32
  let v1065 : Index := Scalar.indexCast v0
  let c4_658 : Index := 4#32
  let c1_659 : Index := 1#32
  let c1_660 : Index := 1#32
  let c0_661 : Index := 0#32
  ![v1065.toNat, 4, 1, 1, 0]
def k0_off149 (i : grid0.Coords) : Fin 1 → Nat :=
  let arg0 : BitVec 32 := BitVec.ofNat 32 (i 0).val
  let c8_i32_709 : BitVec 32 := 8#32
  let v1164 : BitVec 32 := Scalar.muli arg0 c8_i32_709
  let c5_i32_710 : BitVec 32 := 5#32
  let v1165 : BitVec 32 := Scalar.addi v1164 c5_i32_710
  let v1166 : Index := Scalar.indexCast v1165
  ![v1166.toNat]
def k0_mult30 (v1169 : BitVec 32) : BitVec 32 :=
  let c7_i32_711 : BitVec 32 := 7#32
  let v1170 : BitVec 32 := Scalar.shrui v1169 c7_i32_711
  let c7_i32_712 : BitVec 32 := 7#32
  let v1171 : BitVec 32 := Scalar.shli v1170 c7_i32_712
  let c2559360_i32_713 : BitVec 32 := 2559360#32
  let v1172 : BitVec 32 := Scalar.minsi v1171 c2559360_i32_713
  v1172

def k0_chk30 (v1169 : BitVec 32) : Prop :=
  (128 ∣ (k0_mult30 v1169).toNat)
theorem k0_mult30_dvd : ∀ (v1169 : BitVec 32) (k0_hw30 : k0_chk30 v1169), 128 ∣ (k0_mult30 v1169).toNat := fun v1169 k0_hw30 => k0_hw30

def k0_off150 (i : grid0.Coords) : Fin 1 → Nat :=
  let arg0 : BitVec 32 := BitVec.ofNat 32 (i 0).val
  let c8_i32_709 : BitVec 32 := 8#32
  let v1164 : BitVec 32 := Scalar.muli arg0 c8_i32_709
  let c5_i32_710 : BitVec 32 := 5#32
  let v1165 : BitVec 32 := Scalar.addi v1164 c5_i32_710
  let c1_i32_714 : BitVec 32 := 1#32
  let v1175 : BitVec 32 := Scalar.addi v1165 c1_i32_714
  let v1176 : Index := Scalar.indexCast v1175
  ![v1176.toNat]
def k0_off151 (i : grid0.Coords) : Fin 5 → Nat :=
  let arg0 : BitVec 32 := BitVec.ofNat 32 (i 0).val
  let c2_i32 : BitVec 32 := 2#32
  let v0 : BitVec 32 := Scalar.remsi arg0 c2_i32
  let v1186 : Index := Scalar.indexCast v0
  let c5_716 : Index := 5#32
  let c0_717 : Index := 0#32
  let c0_718 : Index := 0#32
  let c0_719 : Index := 0#32
  ![v1186.toNat, 5, 0, 0, 0]
def k0_off152 (i : grid0.Coords) : Fin 5 → Nat :=
  let arg0 : BitVec 32 := BitVec.ofNat 32 (i 0).val
  let c2_i32 : BitVec 32 := 2#32
  let v0 : BitVec 32 := Scalar.remsi arg0 c2_i32
  let v1190 : Index := Scalar.indexCast v0
  let c5_720 : Index := 5#32
  let c0_721 : Index := 0#32
  let c0_722 : Index := 0#32
  let c0_723 : Index := 0#32
  ![v1190.toNat, 5, 0, 0, 0]
def k0_off153 (i : grid0.Coords) : Fin 5 → Nat :=
  let arg0 : BitVec 32 := BitVec.ofNat 32 (i 0).val
  let c2_i32 : BitVec 32 := 2#32
  let v0 : BitVec 32 := Scalar.remsi arg0 c2_i32
  let v1198 : Index := Scalar.indexCast v0
  let c5_724 : Index := 5#32
  let c0_725 : Index := 0#32
  let c32_726 : Index := 32#32
  let c0_727 : Index := 0#32
  ![v1198.toNat, 5, 0, 32, 0]
def k0_off154 (i : grid0.Coords) : Fin 5 → Nat :=
  let arg0 : BitVec 32 := BitVec.ofNat 32 (i 0).val
  let c2_i32 : BitVec 32 := 2#32
  let v0 : BitVec 32 := Scalar.remsi arg0 c2_i32
  let v1202 : Index := Scalar.indexCast v0
  let c5_728 : Index := 5#32
  let c0_729 : Index := 0#32
  let c1_730 : Index := 1#32
  let c0_731 : Index := 0#32
  ![v1202.toNat, 5, 0, 1, 0]
def k0_off155 (i : grid0.Coords) : Fin 5 → Nat :=
  let arg0 : BitVec 32 := BitVec.ofNat 32 (i 0).val
  let c2_i32 : BitVec 32 := 2#32
  let v0 : BitVec 32 := Scalar.remsi arg0 c2_i32
  let v1210 : Index := Scalar.indexCast v0
  let c5_732 : Index := 5#32
  let c1_733 : Index := 1#32
  let c0_734 : Index := 0#32
  let c0_735 : Index := 0#32
  ![v1210.toNat, 5, 1, 0, 0]
def k0_off156 (i : grid0.Coords) : Fin 5 → Nat :=
  let arg0 : BitVec 32 := BitVec.ofNat 32 (i 0).val
  let c2_i32 : BitVec 32 := 2#32
  let v0 : BitVec 32 := Scalar.remsi arg0 c2_i32
  let v1214 : Index := Scalar.indexCast v0
  let c5_736 : Index := 5#32
  let c1_737 : Index := 1#32
  let c0_738 : Index := 0#32
  let c0_739 : Index := 0#32
  ![v1214.toNat, 5, 1, 0, 0]
def k0_off157 (i : grid0.Coords) : Fin 5 → Nat :=
  let arg0 : BitVec 32 := BitVec.ofNat 32 (i 0).val
  let c2_i32 : BitVec 32 := 2#32
  let v0 : BitVec 32 := Scalar.remsi arg0 c2_i32
  let v1222 : Index := Scalar.indexCast v0
  let c5_740 : Index := 5#32
  let c1_741 : Index := 1#32
  let c32_742 : Index := 32#32
  let c0_743 : Index := 0#32
  ![v1222.toNat, 5, 1, 32, 0]
def k0_off158 (i : grid0.Coords) : Fin 5 → Nat :=
  let arg0 : BitVec 32 := BitVec.ofNat 32 (i 0).val
  let c2_i32 : BitVec 32 := 2#32
  let v0 : BitVec 32 := Scalar.remsi arg0 c2_i32
  let v1226 : Index := Scalar.indexCast v0
  let c5_744 : Index := 5#32
  let c1_745 : Index := 1#32
  let c1_746 : Index := 1#32
  let c0_747 : Index := 0#32
  ![v1226.toNat, 5, 1, 1, 0]
def k0_off159 (i : grid0.Coords) : Fin 1 → Nat :=
  let arg0 : BitVec 32 := BitVec.ofNat 32 (i 0).val
  let c8_i32_795 : BitVec 32 := 8#32
  let v1325 : BitVec 32 := Scalar.muli arg0 c8_i32_795
  let c6_i32_796 : BitVec 32 := 6#32
  let v1326 : BitVec 32 := Scalar.addi v1325 c6_i32_796
  let v1327 : Index := Scalar.indexCast v1326
  ![v1327.toNat]
def k0_mult31 (v1330 : BitVec 32) : BitVec 32 :=
  let c7_i32_797 : BitVec 32 := 7#32
  let v1331 : BitVec 32 := Scalar.shrui v1330 c7_i32_797
  let c7_i32_798 : BitVec 32 := 7#32
  let v1332 : BitVec 32 := Scalar.shli v1331 c7_i32_798
  let c2559360_i32_799 : BitVec 32 := 2559360#32
  let v1333 : BitVec 32 := Scalar.minsi v1332 c2559360_i32_799
  v1333

def k0_chk31 (v1330 : BitVec 32) : Prop :=
  (128 ∣ (k0_mult31 v1330).toNat)
theorem k0_mult31_dvd : ∀ (v1330 : BitVec 32) (k0_hw31 : k0_chk31 v1330), 128 ∣ (k0_mult31 v1330).toNat := fun v1330 k0_hw31 => k0_hw31

def k0_off160 (i : grid0.Coords) : Fin 1 → Nat :=
  let arg0 : BitVec 32 := BitVec.ofNat 32 (i 0).val
  let c8_i32_795 : BitVec 32 := 8#32
  let v1325 : BitVec 32 := Scalar.muli arg0 c8_i32_795
  let c6_i32_796 : BitVec 32 := 6#32
  let v1326 : BitVec 32 := Scalar.addi v1325 c6_i32_796
  let c1_i32_800 : BitVec 32 := 1#32
  let v1336 : BitVec 32 := Scalar.addi v1326 c1_i32_800
  let v1337 : Index := Scalar.indexCast v1336
  ![v1337.toNat]
def k0_off161 (i : grid0.Coords) : Fin 5 → Nat :=
  let arg0 : BitVec 32 := BitVec.ofNat 32 (i 0).val
  let c2_i32 : BitVec 32 := 2#32
  let v0 : BitVec 32 := Scalar.remsi arg0 c2_i32
  let v1347 : Index := Scalar.indexCast v0
  let c6_802 : Index := 6#32
  let c0_803 : Index := 0#32
  let c0_804 : Index := 0#32
  let c0_805 : Index := 0#32
  ![v1347.toNat, 6, 0, 0, 0]
def k0_off162 (i : grid0.Coords) : Fin 5 → Nat :=
  let arg0 : BitVec 32 := BitVec.ofNat 32 (i 0).val
  let c2_i32 : BitVec 32 := 2#32
  let v0 : BitVec 32 := Scalar.remsi arg0 c2_i32
  let v1351 : Index := Scalar.indexCast v0
  let c6_806 : Index := 6#32
  let c0_807 : Index := 0#32
  let c0_808 : Index := 0#32
  let c0_809 : Index := 0#32
  ![v1351.toNat, 6, 0, 0, 0]
def k0_off163 (i : grid0.Coords) : Fin 5 → Nat :=
  let arg0 : BitVec 32 := BitVec.ofNat 32 (i 0).val
  let c2_i32 : BitVec 32 := 2#32
  let v0 : BitVec 32 := Scalar.remsi arg0 c2_i32
  let v1359 : Index := Scalar.indexCast v0
  let c6_810 : Index := 6#32
  let c0_811 : Index := 0#32
  let c32_812 : Index := 32#32
  let c0_813 : Index := 0#32
  ![v1359.toNat, 6, 0, 32, 0]
def k0_off164 (i : grid0.Coords) : Fin 5 → Nat :=
  let arg0 : BitVec 32 := BitVec.ofNat 32 (i 0).val
  let c2_i32 : BitVec 32 := 2#32
  let v0 : BitVec 32 := Scalar.remsi arg0 c2_i32
  let v1363 : Index := Scalar.indexCast v0
  let c6_814 : Index := 6#32
  let c0_815 : Index := 0#32
  let c1_816 : Index := 1#32
  let c0_817 : Index := 0#32
  ![v1363.toNat, 6, 0, 1, 0]
def k0_off165 (i : grid0.Coords) : Fin 5 → Nat :=
  let arg0 : BitVec 32 := BitVec.ofNat 32 (i 0).val
  let c2_i32 : BitVec 32 := 2#32
  let v0 : BitVec 32 := Scalar.remsi arg0 c2_i32
  let v1371 : Index := Scalar.indexCast v0
  let c6_818 : Index := 6#32
  let c1_819 : Index := 1#32
  let c0_820 : Index := 0#32
  let c0_821 : Index := 0#32
  ![v1371.toNat, 6, 1, 0, 0]
def k0_off166 (i : grid0.Coords) : Fin 5 → Nat :=
  let arg0 : BitVec 32 := BitVec.ofNat 32 (i 0).val
  let c2_i32 : BitVec 32 := 2#32
  let v0 : BitVec 32 := Scalar.remsi arg0 c2_i32
  let v1375 : Index := Scalar.indexCast v0
  let c6_822 : Index := 6#32
  let c1_823 : Index := 1#32
  let c0_824 : Index := 0#32
  let c0_825 : Index := 0#32
  ![v1375.toNat, 6, 1, 0, 0]
def k0_off167 (i : grid0.Coords) : Fin 5 → Nat :=
  let arg0 : BitVec 32 := BitVec.ofNat 32 (i 0).val
  let c2_i32 : BitVec 32 := 2#32
  let v0 : BitVec 32 := Scalar.remsi arg0 c2_i32
  let v1383 : Index := Scalar.indexCast v0
  let c6_826 : Index := 6#32
  let c1_827 : Index := 1#32
  let c32_828 : Index := 32#32
  let c0_829 : Index := 0#32
  ![v1383.toNat, 6, 1, 32, 0]
def k0_off168 (i : grid0.Coords) : Fin 5 → Nat :=
  let arg0 : BitVec 32 := BitVec.ofNat 32 (i 0).val
  let c2_i32 : BitVec 32 := 2#32
  let v0 : BitVec 32 := Scalar.remsi arg0 c2_i32
  let v1387 : Index := Scalar.indexCast v0
  let c6_830 : Index := 6#32
  let c1_831 : Index := 1#32
  let c1_832 : Index := 1#32
  let c0_833 : Index := 0#32
  ![v1387.toNat, 6, 1, 1, 0]
def k0_off169 (i : grid0.Coords) : Fin 1 → Nat :=
  let arg0 : BitVec 32 := BitVec.ofNat 32 (i 0).val
  let c8_i32_881 : BitVec 32 := 8#32
  let v1486 : BitVec 32 := Scalar.muli arg0 c8_i32_881
  let c7_i32_882 : BitVec 32 := 7#32
  let v1487 : BitVec 32 := Scalar.addi v1486 c7_i32_882
  let v1488 : Index := Scalar.indexCast v1487
  ![v1488.toNat]
def k0_mult32 (v1491 : BitVec 32) : BitVec 32 :=
  let c7_i32_883 : BitVec 32 := 7#32
  let v1492 : BitVec 32 := Scalar.shrui v1491 c7_i32_883
  let c7_i32_884 : BitVec 32 := 7#32
  let v1493 : BitVec 32 := Scalar.shli v1492 c7_i32_884
  let c2559360_i32_885 : BitVec 32 := 2559360#32
  let v1494 : BitVec 32 := Scalar.minsi v1493 c2559360_i32_885
  v1494

def k0_chk32 (v1491 : BitVec 32) : Prop :=
  (128 ∣ (k0_mult32 v1491).toNat)
theorem k0_mult32_dvd : ∀ (v1491 : BitVec 32) (k0_hw32 : k0_chk32 v1491), 128 ∣ (k0_mult32 v1491).toNat := fun v1491 k0_hw32 => k0_hw32

def k0_off170 (i : grid0.Coords) : Fin 1 → Nat :=
  let arg0 : BitVec 32 := BitVec.ofNat 32 (i 0).val
  let c8_i32_881 : BitVec 32 := 8#32
  let v1486 : BitVec 32 := Scalar.muli arg0 c8_i32_881
  let c7_i32_882 : BitVec 32 := 7#32
  let v1487 : BitVec 32 := Scalar.addi v1486 c7_i32_882
  let c1_i32_886 : BitVec 32 := 1#32
  let v1497 : BitVec 32 := Scalar.addi v1487 c1_i32_886
  let v1498 : Index := Scalar.indexCast v1497
  ![v1498.toNat]
def k0_off171 (i : grid0.Coords) : Fin 5 → Nat :=
  let arg0 : BitVec 32 := BitVec.ofNat 32 (i 0).val
  let c2_i32 : BitVec 32 := 2#32
  let v0 : BitVec 32 := Scalar.remsi arg0 c2_i32
  let v1508 : Index := Scalar.indexCast v0
  let c7 : Index := 7#32
  let c0_888 : Index := 0#32
  let c0_889 : Index := 0#32
  let c0_890 : Index := 0#32
  ![v1508.toNat, 7, 0, 0, 0]
def k0_off172 (i : grid0.Coords) : Fin 5 → Nat :=
  let arg0 : BitVec 32 := BitVec.ofNat 32 (i 0).val
  let c2_i32 : BitVec 32 := 2#32
  let v0 : BitVec 32 := Scalar.remsi arg0 c2_i32
  let v1512 : Index := Scalar.indexCast v0
  let c7_891 : Index := 7#32
  let c0_892 : Index := 0#32
  let c0_893 : Index := 0#32
  let c0_894 : Index := 0#32
  ![v1512.toNat, 7, 0, 0, 0]
def k0_off173 (i : grid0.Coords) : Fin 5 → Nat :=
  let arg0 : BitVec 32 := BitVec.ofNat 32 (i 0).val
  let c2_i32 : BitVec 32 := 2#32
  let v0 : BitVec 32 := Scalar.remsi arg0 c2_i32
  let v1520 : Index := Scalar.indexCast v0
  let c7_895 : Index := 7#32
  let c0_896 : Index := 0#32
  let c32_897 : Index := 32#32
  let c0_898 : Index := 0#32
  ![v1520.toNat, 7, 0, 32, 0]
def k0_off174 (i : grid0.Coords) : Fin 5 → Nat :=
  let arg0 : BitVec 32 := BitVec.ofNat 32 (i 0).val
  let c2_i32 : BitVec 32 := 2#32
  let v0 : BitVec 32 := Scalar.remsi arg0 c2_i32
  let v1524 : Index := Scalar.indexCast v0
  let c7_899 : Index := 7#32
  let c0_900 : Index := 0#32
  let c1_901 : Index := 1#32
  let c0_902 : Index := 0#32
  ![v1524.toNat, 7, 0, 1, 0]
def k0_off175 (i : grid0.Coords) : Fin 5 → Nat :=
  let arg0 : BitVec 32 := BitVec.ofNat 32 (i 0).val
  let c2_i32 : BitVec 32 := 2#32
  let v0 : BitVec 32 := Scalar.remsi arg0 c2_i32
  let v1532 : Index := Scalar.indexCast v0
  let c7_903 : Index := 7#32
  let c1_904 : Index := 1#32
  let c0_905 : Index := 0#32
  let c0_906 : Index := 0#32
  ![v1532.toNat, 7, 1, 0, 0]
def k0_off176 (i : grid0.Coords) : Fin 5 → Nat :=
  let arg0 : BitVec 32 := BitVec.ofNat 32 (i 0).val
  let c2_i32 : BitVec 32 := 2#32
  let v0 : BitVec 32 := Scalar.remsi arg0 c2_i32
  let v1536 : Index := Scalar.indexCast v0
  let c7_907 : Index := 7#32
  let c1_908 : Index := 1#32
  let c0_909 : Index := 0#32
  let c0_910 : Index := 0#32
  ![v1536.toNat, 7, 1, 0, 0]
def k0_off177 (i : grid0.Coords) : Fin 5 → Nat :=
  let arg0 : BitVec 32 := BitVec.ofNat 32 (i 0).val
  let c2_i32 : BitVec 32 := 2#32
  let v0 : BitVec 32 := Scalar.remsi arg0 c2_i32
  let v1544 : Index := Scalar.indexCast v0
  let c7_911 : Index := 7#32
  let c1_912 : Index := 1#32
  let c32_913 : Index := 32#32
  let c0_914 : Index := 0#32
  ![v1544.toNat, 7, 1, 32, 0]
def k0_off178 (i : grid0.Coords) : Fin 5 → Nat :=
  let arg0 : BitVec 32 := BitVec.ofNat 32 (i 0).val
  let c2_i32 : BitVec 32 := 2#32
  let v0 : BitVec 32 := Scalar.remsi arg0 c2_i32
  let v1548 : Index := Scalar.indexCast v0
  let c7_915 : Index := 7#32
  let c1_916 : Index := 1#32
  let c1_917 : Index := 1#32
  let c0_918 : Index := 0#32
  ![v1548.toNat, 7, 1, 1, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S5000x1x896 : Shape := ⟨3, ![5000, 1, 896]⟩
abbrev S5000x1x2x64 : Shape := ⟨4, ![5000, 1, 2, 64]⟩
abbrev S2560000x2x64 : Shape := ⟨3, ![2560000, 2, 64]⟩
abbrev S2560000x2x2 : Shape := ⟨3, ![2560000, 2, 2]⟩
abbrev S5001 : Shape := ⟨1, ![5001]⟩
abbrev S5000x1x2x7x64 : Shape := ⟨5, ![5000, 1, 2, 7, 64]⟩
abbrev S5000 : Shape := ⟨1, ![5000]⟩
abbrev S512 : Shape := ⟨1, ![512]⟩
abbrev S1x512 : Shape := ⟨2, ![1, 512]⟩
abbrev S5000x1 : Shape := ⟨2, ![5000, 1]⟩
abbrev S5000x512 : Shape := ⟨2, ![5000, 512]⟩
abbrev S_ : Shape := ⟨0, ![]⟩
abbrev S5000x3 : Shape := ⟨2, ![5000, 3]⟩
abbrev S5000x512x2x64 : Shape := ⟨4, ![5000, 512, 2, 64]⟩
abbrev S5000x512x2x2 : Shape := ⟨4, ![5000, 512, 2, 2]⟩
abbrev S5000x512x2x2x32 : Shape := ⟨5, ![5000, 512, 2, 2, 32]⟩
abbrev S5000x512x2x2x1 : Shape := ⟨5, ![5000, 512, 2, 2, 1]⟩
abbrev S5000x2x512x1x7 : Shape := ⟨5, ![5000, 2, 512, 1, 7]⟩
abbrev S5000x1x2x7x512 : Shape := ⟨5, ![5000, 1, 2, 7, 512]⟩
abbrev S5000x1x1x1x512 : Shape := ⟨5, ![5000, 1, 1, 1, 512]⟩
abbrev S5000x1x2x7 : Shape := ⟨4, ![5000, 1, 2, 7]⟩
abbrev S5000x1x2x7x1 : Shape := ⟨5, ![5000, 1, 2, 7, 1]⟩
abbrev S5000x2x64x1x7 : Shape := ⟨5, ![5000, 2, 64, 1, 7]⟩
abbrev S5000x1x2x1x64 : Shape := ⟨5, ![5000, 1, 2, 1, 64]⟩
abbrev S5000x896 : Shape := ⟨2, ![5000, 896]⟩

abbrev nBuf : Space → Nat
  | .hbm => 138
  | .vmem => 0
  | .smem => 0
  | _ => 0

abbrev hbmTy0_0 (i : Nat) : BufTy := match i % 128 with
  | 0 => ⟨S5000x1x896, .bf16⟩
  | 1 => ⟨S5000x1x2x64, .bf16⟩
  | 2 => ⟨S5000x1x2x64, .bf16⟩
  | 3 => ⟨S2560000x2x64, .i8⟩
  | 4 => ⟨S2560000x2x2, .f32⟩
  | 5 => ⟨S2560000x2x64, .i8⟩
  | 6 => ⟨S2560000x2x2, .f32⟩
  | 7 => ⟨S5001, .i32⟩
  | 8 => ⟨S5000x1x2x7x64, .bf16⟩
  | 9 => ⟨S5000, .i32⟩
  | 10 => ⟨S5000, .i32⟩
  | 11 => ⟨S5000, .i32⟩
  | 12 => ⟨S512, .i32⟩
  | 13 => ⟨S1x512, .i32⟩
  | 14 => ⟨S5000x1, .i32⟩
  | 15 => ⟨S5000x512, .i32⟩
  | 16 => ⟨S5000x512, .i32⟩
  | 17 => ⟨S5000x512, .i1⟩
  | 18 => ⟨S_, .i32⟩
  | 19 => ⟨S5000, .i32⟩
  | 20 => ⟨S5000, .i1⟩
  | 21 => ⟨S_, .i32⟩
  | 22 => ⟨S5000, .i32⟩
  | 23 => ⟨S5000, .i32⟩
  | 24 => ⟨S5000, .i32⟩
  | 25 => ⟨S5000x1, .i32⟩
  | 26 => ⟨S_, .i32⟩
  | 27 => ⟨S5000x1, .i32⟩
  | 28 => ⟨S_, .i32⟩
  | 29 => ⟨S5000x1, .i32⟩
  | 30 => ⟨S5000x3, .i32⟩
  | 31 => ⟨S5000x512x2x64, .i8⟩
  | 32 => ⟨S_, .i32⟩
  | 33 => ⟨S5000, .i32⟩
  | 34 => ⟨S5000, .i1⟩
  | 35 => ⟨S_, .i32⟩
  | 36 => ⟨S5000, .i32⟩
  | 37 => ⟨S5000, .i32⟩
  | 38 => ⟨S5000, .i32⟩
  | 39 => ⟨S5000x1, .i32⟩
  | 40 => ⟨S_, .i32⟩
  | 41 => ⟨S5000x1, .i32⟩
  | 42 => ⟨S_, .i32⟩
  | 43 => ⟨S5000x1, .i32⟩
  | 44 => ⟨S5000x3, .i32⟩
  | 45 => ⟨S5000x512x2x2, .f32⟩
  | 46 => ⟨S5000x512x2x64, .i32⟩
  | 47 => ⟨S5000x512x2x64, .f32⟩
  | 48 => ⟨S5000x512x2x64, .bf16⟩
  | 49 => ⟨S5000x512x2x2x32, .bf16⟩
  | 50 => ⟨S5000x512x2x2, .bf16⟩
  | 51 => ⟨S5000x512x2x2x1, .bf16⟩
  | 52 => ⟨S5000x512x2x2x32, .bf16⟩
  | 53 => ⟨S5000x512x2x2x32, .bf16⟩
  | 54 => ⟨S5000x512x2x64, .bf16⟩
  | 55 => ⟨S_, .i32⟩
  | 56 => ⟨S5000, .i32⟩
  | 57 => ⟨S5000, .i1⟩
  | 58 => ⟨S_, .i32⟩
  | 59 => ⟨S5000, .i32⟩
  | 60 => ⟨S5000, .i32⟩
  | 61 => ⟨S5000, .i32⟩
  | 62 => ⟨S5000x1, .i32⟩
  | 63 => ⟨S_, .i32⟩
  | 64 => ⟨S5000x1, .i32⟩
  | 65 => ⟨S_, .i32⟩
  | 66 => ⟨S5000x1, .i32⟩
  | 67 => ⟨S5000x3, .i32⟩
  | 68 => ⟨S5000x512x2x64, .i8⟩
  | 69 => ⟨S_, .i32⟩
  | 70 => ⟨S5000, .i32⟩
  | 71 => ⟨S5000, .i1⟩
  | 72 => ⟨S_, .i32⟩
  | 73 => ⟨S5000, .i32⟩
  | 74 => ⟨S5000, .i32⟩
  | 75 => ⟨S5000, .i32⟩
  | 76 => ⟨S5000x1, .i32⟩
  | 77 => ⟨S_, .i32⟩
  | 78 => ⟨S5000x1, .i32⟩
  | 79 => ⟨S_, .i32⟩
  | 80 => ⟨S5000x1, .i32⟩
  | 81 => ⟨S5000x3, .i32⟩
  | 82 => ⟨S5000x512x2x2, .f32⟩
  | 83 => ⟨S5000x512x2x64, .i32⟩
  | 84 => ⟨S5000x512x2x64, .f32⟩
  | 85 => ⟨S5000x512x2x64, .bf16⟩
  | 86 => ⟨S5000x512x2x2x32, .bf16⟩
  | 87 => ⟨S5000x512x2x2, .bf16⟩
  | 88 => ⟨S5000x512x2x2x1, .bf16⟩
  | 89 => ⟨S5000x512x2x2x32, .bf16⟩
  | 90 => ⟨S5000x512x2x2x32, .bf16⟩
  | 91 => ⟨S5000x512x2x64, .bf16⟩
  | 92 => ⟨S5000x2x512x1x7, .f32⟩
  | 93 => ⟨S5000x1x2x7x512, .f32⟩
  | 94 => ⟨S_, .f32⟩
  | 95 => ⟨S5000x1x2x7x512, .f32⟩
  | 96 => ⟨S5000x1x2x7x512, .f32⟩
  | 97 => ⟨S5000x1x1x1x512, .i1⟩
  | 98 => ⟨S_, .f32⟩
  | 99 => ⟨S_, .f32⟩
  | 100 => ⟨S5000x1x2x7x512, .i1⟩
  | 101 => ⟨S5000x1x2x7x512, .f32⟩
  | 102 => ⟨S5000x1x2x7x512, .f32⟩
  | 103 => ⟨S5000x1x2x7, .f32⟩
  | 104 => ⟨S_, .f32⟩
  | 105 => ⟨S5000x1x2x7, .f32⟩
  | 106 => ⟨S5000x1x2x7, .f32⟩
  | 107 => ⟨S_, .f32⟩
  | 108 => ⟨S5000x1x2x7, .f32⟩
  | 109 => ⟨S5000x1x2x7, .f32⟩
  | 110 => ⟨S5000x1x2x7x1, .f32⟩
  | 111 => ⟨S5000x1x2x7x512, .f32⟩
  | 112 => ⟨S5000x1x2x7x512, .f32⟩
  | 113 => ⟨S5000x1x2x7x512, .f32⟩
  | 114 => ⟨S5000x1x2x7, .f32⟩
  | 115 => ⟨S5000x1x2x7, .f32⟩
  | 116 => ⟨S_, .f32⟩
  | 117 => ⟨S5000x1x2x7, .f32⟩
  | 118 => ⟨S5000x1x2x7, .f32⟩
  | 119 => ⟨S_, .f32⟩
  | 120 => ⟨S5000x1x2x7, .f32⟩
  | 121 => ⟨S5000x1x2x7, .f32⟩
  | 122 => ⟨S5000x1x2x7x1, .f32⟩
  | 123 => ⟨S5000x1x2x7x512, .f32⟩
  | 124 => ⟨S5000x1x2x7x512, .f32⟩
  | 125 => ⟨S5000x1x2x7, .f32⟩
  | 126 => ⟨S5000x1x2x7x512, .bf16⟩
  | 127 => ⟨S5000x2x64x1x7, .f32⟩
  | _ => ⟨S5000x1x896, .bf16⟩

abbrev hbmTy0_1 (i : Nat) : BufTy := match i % 128 with
  | 0 => ⟨S5000x1x2x7x64, .f32⟩
  | 1 => ⟨S5000x1x2x7x1, .f32⟩
  | 2 => ⟨S5000x1x2x64, .f32⟩
  | 3 => ⟨S5000x1x2x1x64, .f32⟩
  | 4 => ⟨S5000x1x2x7x64, .f32⟩
  | 5 => ⟨S5000x1x2x7x64, .f32⟩
  | 6 => ⟨S5000x1x2x7x64, .f32⟩
  | 7 => ⟨S5000x1x2x7x64, .f32⟩
  | 8 => ⟨S5000x896, .f32⟩
  | 9 => ⟨S5000x896, .bf16⟩
  | _ => ⟨S5000x1x896, .bf16⟩

abbrev hbmTy (i : Nat) : BufTy := match i / 128 with
  | 0 => hbmTy0_0 i
  | 1 => hbmTy0_1 i
  | _ => ⟨S5000x1x896, .bf16⟩

abbrev bufTy : (tb : Table) → Fin (tcTables nBuf tb) → BufTy
  | .hbm, ⟨i, _⟩ => hbmTy i
  | _, _ => ⟨S5000x1x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_c_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_cst_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Proof.Model.lean ====
module
public import proofs.«01_k».proof.Proof.Gen.KernelIdeal.Skeleton
public import Idealize.ShloMosaic.Lib.Pipeline.Regions
public import Mathlib.Tactic.IntervalCases
public import Mathlib.Tactic.FinCases
@[expose] public section
/-!
The kernel's body written a second time, by pieces: the copies of one sequence's window (`issue`), the waits for
them (`await`), the arithmetic of one sequence (`seqStep`), the rows of queries (`queries`) and the reassembly of the
block (`assemble`).  Each piece is written once, over the slot `s` of the double buffer and the place `k` of the
sequence in its group of eight.  `body_eq` says that the printed body is these pieces in order.
-/
namespace Cert.KernelIdeal
open Idealize.ShloMosaic Idealize.SL.Sem
open Gen

variable {F : FTy → Type} [FloatOps F]

theorem lt_2_8 {s k : ℕ} (hs : s < 2) (hk : k < 8) : ∀ a, (![s, k, 0, 0, 0] : Fin 5 → ℕ) a + S1x1x2x64x640.size a ≤ S2x8x2x64x640.size a := by
  interval_cases s <;> interval_cases k <;> decide

theorem words_2_8 {s k : ℕ} (hs : s < 2) (hk : k < 8) :
    (Rect.unit (s := S2x8x2x64x640) ![s, k, 0, 0, 0] S1x1x2x64x640.size (lt_2_8 hs hk)).WholeWords (EltTy.packing .i8) := by
  interval_cases s <;> interval_cases k <;> exact (by decide +revert)

theorem lt_2_8_scale {s k : ℕ} (hs : s < 2) (hk : k < 8) : ∀ a, (![s, k, 0, 0, 0] : Fin 5 → ℕ) a + S1x1x2x2x640.size a ≤ S2x8x2x2x640.size a := by
  interval_cases s <;> interval_cases k <;> decide

theorem lt_half {s k j h : ℕ} (hs : s < 2) (hk : k < 8) (hj : j < 2) (hh : h < 2) :
    ∀ a, (![s, k, j, 32 * h, 0] : Fin 5 → ℕ) a + S1x1x1x32x640.size a ≤ S2x8x2x64x640.size a := by
  interval_cases s <;> interval_cases k <;> interval_cases j <;> interval_cases h <;> decide

theorem lt_half_scale {s k j h : ℕ} (hs : s < 2) (hk : k < 8) (hj : j < 2) (hh : h < 2) :
    ∀ a, (![s, k, j, h, 0] : Fin 5 → ℕ) a + S1x1x1x1x640.size a ≤ S2x8x2x2x640.size a := by
  interval_cases s <;> interval_cases k <;> interval_cases j <;> interval_cases h <;> decide

theorem lt_sem {s : ℕ} (hs : s < 2) : ∀ a, (![s] : Fin 1 → ℕ) a + S1.size a ≤ S2.size a := by
  interval_cases s <;> decide

theorem lt_cu {n : ℕ} (hn : n < 5001) : ∀ a, (![n] : Fin 1 → ℕ) a + S1.size a ≤ S5001.size a := by
  intro a; fin_cases a; show n + 1 ≤ 5001; omega

theorem lt_row {k : ℕ} (hk : k < 8) : ∀ a, (![k, 0] : Fin 2 → ℕ) a + S1x128.size a ≤ S8x128.size a := by
  interval_cases k <;> decide

theorem lt_rows {k : ℕ} (hk : k < 8) : ∀ a, (![16 * k, 0] : Fin 2 → ℕ) a + S16x128.size a ≤ S128x128.size a := by
  interval_cases k <;> decide

theorem lt_stride {r : ℕ} (hr : r < 16) : ∀ a, S8x128.size a = 0 ∨ (![r, 0] : Fin 2 → ℕ) a + (![16, 1] : Fin 2 → ℕ) a * (S8x128.size a - 1) < S128x128.size a := by
  interval_cases r <;> decide

/-- Every sixteenth row from row `r`: head row `r` of the group's eight sequences. -/
abbrev strideRect (r : ℕ) (hr : r < 16) : LoadRect S128x128 := ⟨![r, 0], S8x128.size, ![16, 1], lt_stride hr⟩

section
variable (arg1 : Memref sig .tc .smem S5001 .i32) (arg2 : Memref sig .tc .vmem S8x896 .bf16)
  (arg3 arg4 : Memref sig .tc .vmem S8x128 .f32)
  (arg5 : Memref sig .tc .hbm S2x64x2560000 .i8) (harg5 : arg5.IsWhole) (arg6 : Memref sig .tc .hbm S2x2x2560000 .f32)
  (arg7 : Memref sig .tc .hbm S2x64x2560000 .i8) (harg7 : arg7.IsWhole) (arg8 : Memref sig .tc .hbm S2x2x2560000 .f32)
  (arg9 : Memref sig .tc .vmem S8x896 .bf16) (harg9 : arg9.IsWhole)
  (arg10 : Memref sig .tc .vmem S2x8x2x64x640 .i8) (harg10 : arg10.IsWhole) (arg11 : Memref sig .tc .vmem S2x8x2x2x640 .f32)
  (arg12 : Memref sig .tc .vmem S2x8x2x64x640 .i8) (harg12 : arg12.IsWhole) (arg13 : Memref sig .tc .vmem S2x8x2x2x640 .f32)
  (arg14 arg15 : Memref sig .tc .vmem S128x128 .f32) (arg16 arg17 : DmaSems sig S2)

/-! ### The pieces -/

/-- Read entry `n` of the table of starts and check that the window it names is one. -/
noncomputable def start (n : ℕ) (hn : n < 5001) (P : BitVec 32 → Prop) (dec : ∀ v, Decidable (P v)) :
    Prog (TpuEff nD τ sig (Elt F) Λ₀ .tc) (Σ' v : Elt F .i32, P v) := do
  let v : Elt F .i32 ← smemLoad arg1 (Rect.unit (s := S5001) ![n] S1.size (lt_cu hn)) numel1_S1 (show EltTy.packing .i32 = 1 from rfl)
  have h : P v := (← Prog.lift (TpuEff.assume (P v) (dec v))).down
  pure ⟨v, h⟩

/-- Start one copy of codes into window `k` of slot `s`. -/
noncomputable def issueCodes (src : Memref sig .tc .hbm S2x64x2560000 .i8) (hsrc : src.IsWhole)
    (dst : Memref sig .tc .vmem S2x8x2x64x640 .i8) (hdst : dst.IsWhole) {s k : ℕ} (hs : s < 2) (hk : k < 8) (v : BitVec 32) (hv : k0_chk17 v) :
    Prog (TpuEff nD τ sig (Elt F) Λ₀ .tc) PUnit :=
  Prog.lift (.enqueueDma
    (src.slice (Rect.unit (s := S2x64x2560000) (k0_off68 v) S2x64x640.size (k0_off68_inb v hv)) (fun _ => rfl))
    (.here ((dst.slice (Rect.unit (s := S2x8x2x64x640) ![s, k, 0, 0, 0] S1x1x2x64x640.size (lt_2_8 hs hk)) (fun _ => rfl)).squeeze
      S2x64x640 squeezes_S1x1x2x64x640_S2x64x640))
    (.dma ((arg16.slice (Rect.unit (s := S2) ![s] S1.size (lt_sem hs))).squeeze S_ squeezes_S1_S_).sem)
    (hsrc.wordExact_slice rfl _ (k0_off68_wordsi8 v hv)) ((hdst.wordExact_slice rfl _ (words_2_8 hs hk)).reshape _ _) ⟨Or.inl rfl, trivial⟩)

/-- Start one copy of scales into window `k` of slot `s`. -/
noncomputable def issueScales (src : Memref sig .tc .hbm S2x2x2560000 .f32)
    (dst : Memref sig .tc .vmem S2x8x2x2x640 .f32) {s k : ℕ} (hs : s < 2) (hk : k < 8) (v : BitVec 32) (hv : k0_chk17 v) :
    Prog (TpuEff nD τ sig (Elt F) Λ₀ .tc) PUnit :=
  Prog.lift (.enqueueDma
    (src.slice (Rect.unit (s := S2x2x2560000) (k0_off70 v) S2x2x640.size (k0_off70_inb v hv)) (fun _ => rfl))
    (.here ((dst.slice (Rect.unit (s := S2x8x2x2x640) ![s, k, 0, 0, 0] S1x1x2x2x640.size (lt_2_8_scale hs hk)) (fun _ => rfl)).squeeze
      S2x2x640 squeezes_S1x1x2x2x640_S2x2x640))
    (.dma ((arg17.slice (Rect.unit (s := S2) ![s] S1.size (lt_sem hs))).squeeze S_ squeezes_S1_S_).sem)
    (View.wordExact_bits rfl) ((View.wordExact_bits rfl).reshape _ _) ⟨Or.inl rfl, trivial⟩)

/-- Start the four copies of sequence `k`: the codes and scales of its keys, then of its values. -/
noncomputable def issue {s k : ℕ} (hs : s < 2) (hk : k < 8) (v : BitVec 32) (hv : k0_chk17 v) :
    Prog (TpuEff nD τ sig (Elt F) Λ₀ .tc) PUnit := do
  issueCodes arg16 arg5 harg5 arg10 harg10 hs hk v hv
  issueScales arg17 arg6 arg11 hs hk v hv
  issueCodes arg16 arg7 harg7 arg12 harg12 hs hk v hv
  issueScales arg17 arg8 arg13 hs hk v hv

/-- Wait for one copy of codes. -/
noncomputable def awaitCodes (src : Memref sig .tc .hbm S2x64x2560000 .i8) (hsrc : src.IsWhole)
    (dst : Memref sig .tc .vmem S2x8x2x64x640 .i8) (hdst : dst.IsWhole) {s k : ℕ} (hs : s < 2) (hk : k < 8) (v : BitVec 32) (hv : k0_chk17 v) :
    Prog (TpuEff nD τ sig (Elt F) Λ₀ .tc) PUnit :=
  Prog.lift (.waitDma2 ((arg16.slice (Rect.unit (s := S2) ![s] S1.size (lt_sem hs))).squeeze S_ squeezes_S1_S_).sem
    (src.slice (Rect.unit (s := S2x64x2560000) (k0_off68 v) S2x64x640.size (k0_off68_inb v hv)) (fun _ => rfl))
    ((dst.slice (Rect.unit (s := S2x8x2x64x640) ![s, k, 0, 0, 0] S1x1x2x64x640.size (lt_2_8 hs hk)) (fun _ => rfl)).squeeze
      S2x64x640 squeezes_S1x1x2x64x640_S2x64x640)
    (hsrc.wordExact_slice rfl _ (k0_off68_wordsi8 v hv)) ((hdst.wordExact_slice rfl _ (words_2_8 hs hk)).reshape _ _))

/-- Wait for one copy of scales. -/
noncomputable def awaitScales (src : Memref sig .tc .hbm S2x2x2560000 .f32)
    (dst : Memref sig .tc .vmem S2x8x2x2x640 .f32) {s k : ℕ} (hs : s < 2) (hk : k < 8) (v : BitVec 32) (hv : k0_chk17 v) :
    Prog (TpuEff nD τ sig (Elt F) Λ₀ .tc) PUnit :=
  Prog.lift (.waitDma2 ((arg17.slice (Rect.unit (s := S2) ![s] S1.size (lt_sem hs))).squeeze S_ squeezes_S1_S_).sem
    (src.slice (Rect.unit (s := S2x2x2560000) (k0_off70 v) S2x2x640.size (k0_off70_inb v hv)) (fun _ => rfl))
    ((dst.slice (Rect.unit (s := S2x8x2x2x640) ![s, k, 0, 0, 0] S1x1x2x2x640.size (lt_2_8_scale hs hk)) (fun _ => rfl)).squeeze
      S2x2x640 squeezes_S1x1x2x2x640_S2x2x640)
    (View.wordExact_bits rfl) ((View.wordExact_bits rfl).reshape _ _))

/-- Wait for the four copies of sequence `k`. -/
noncomputable def await {s k : ℕ} (hs : s < 2) (hk : k < 8) (v : BitVec 32) (hv : k0_chk17 v) :
    Prog (TpuEff nD τ sig (Elt F) Λ₀ .tc) PUnit := do
  awaitCodes arg16 arg5 harg5 arg10 harg10 hs hk v hv
  awaitScales arg17 arg6 arg11 hs hk v hv
  awaitCodes arg16 arg7 harg7 arg12 harg12 hs hk v hv
  awaitScales arg17 arg8 arg13 hs hk v hv

/-- Start the copies of the eight sequences whose starts are the table's entries `n 0 … n 7`. -/
noncomputable def issueAll {s : ℕ} (hs : s < 2) (n : ℕ → ℕ) (hn : ∀ k, k < 8 → n k < 5001) (P : BitVec 32 → Prop)
    (dec : ∀ v, Decidable (P v)) (hP : ∀ v, P v → k0_chk17 v) : Prog (TpuEff nD τ sig (Elt F) Λ₀ .tc) PUnit := do
  let ⟨v0, h0⟩ ← start arg1 (n 0) (hn 0 (by decide)) P dec
  let ⟨v1, h1⟩ ← start arg1 (n 1) (hn 1 (by decide)) P dec
  let ⟨v2, h2⟩ ← start arg1 (n 2) (hn 2 (by decide)) P dec
  let ⟨v3, h3⟩ ← start arg1 (n 3) (hn 3 (by decide)) P dec
  let ⟨v4, h4⟩ ← start arg1 (n 4) (hn 4 (by decide)) P dec
  let ⟨v5, h5⟩ ← start arg1 (n 5) (hn 5 (by decide)) P dec
  let ⟨v6, h6⟩ ← start arg1 (n 6) (hn 6 (by decide)) P dec
  let ⟨v7, h7⟩ ← start arg1 (n 7) (hn 7 (by decide)) P dec
  issue arg5 harg5 arg6 arg7 harg7 arg8 arg10 harg10 arg11 arg12 harg12 arg13 arg16 arg17 hs (k := 0) (by decide) v0 (hP v0 h0)
  issue arg5 harg5 arg6 arg7 harg7 arg8 arg10 harg10 arg11 arg12 harg12 arg13 arg16 arg17 hs (k := 1) (by decide) v1 (hP v1 h1)
  issue arg5 harg5 arg6 arg7 harg7 arg8 arg10 harg10 arg11 arg12 harg12 arg13 arg16 arg17 hs (k := 2) (by decide) v2 (hP v2 h2)
  issue arg5 harg5 arg6 arg7 harg7 arg8 arg10 harg10 arg11 arg12 harg12 arg13 arg16 arg17 hs (k := 3) (by decide) v3 (hP v3 h3)
  issue arg5 harg5 arg6 arg7 harg7 arg8 arg10 harg10 arg11 arg12 harg12 arg13 arg16 arg17 hs (k := 4) (by decide) v4 (hP v4 h4)
  issue arg5 harg5 arg6 arg7 harg7 arg8 arg10 harg10 arg11 arg12 harg12 arg13 arg16 arg17 hs (k := 5) (by decide) v5 (hP v5 h5)
  issue arg5 harg5 arg6 arg7 harg7 arg8 arg10 harg10 arg11 arg12 harg12 arg13 arg16 arg17 hs (k := 6) (by decide) v6 (hP v6 h6)
  issue arg5 harg5 arg6 arg7 harg7 arg8 arg10 harg10 arg11 arg12 harg12 arg13 arg16 arg17 hs (k := 7) (by decide) v7 (hP v7 h7)

/-- Wait for the copies of the eight sequences. -/
noncomputable def awaitAll {s : ℕ} (hs : s < 2) (n : ℕ → ℕ) (hn : ∀ k, k < 8 → n k < 5001) : Prog (TpuEff nD τ sig (Elt F) Λ₀ .tc) PUnit := do
  let ⟨v0, h0⟩ ← start arg1 (n 0) (hn 0 (by decide)) k0_chk17 k0_chk17.dec
  let ⟨v1, h1⟩ ← start arg1 (n 1) (hn 1 (by decide)) k0_chk17 k0_chk17.dec
  let ⟨v2, h2⟩ ← start arg1 (n 2) (hn 2 (by decide)) k0_chk17 k0_chk17.dec
  let ⟨v3, h3⟩ ← start arg1 (n 3) (hn 3 (by decide)) k0_chk17 k0_chk17.dec
  let ⟨v4, h4⟩ ← start arg1 (n 4) (hn 4 (by decide)) k0_chk17 k0_chk17.dec
  let ⟨v5, h5⟩ ← start arg1 (n 5) (hn 5 (by decide)) k0_chk17 k0_chk17.dec
  let ⟨v6, h6⟩ ← start arg1 (n 6) (hn 6 (by decide)) k0_chk17 k0_chk17.dec
  let ⟨v7, h7⟩ ← start arg1 (n 7) (hn 7 (by decide)) k0_chk17 k0_chk17.dec
  await arg5 harg5 arg6 arg7 harg7 arg8 arg10 harg10 arg11 arg12 harg12 arg13 arg16 arg17 hs (k := 0) (by decide) v0 h0
  await arg5 harg5 arg6 arg7 harg7 arg8 arg10 harg10 arg11 arg12 harg12 arg13 arg16 arg17 hs (k := 1) (by decide) v1 h1
  await arg5 harg5 arg6 arg7 harg7 arg8 arg10 harg10 arg11 arg12 harg12 arg13 arg16 arg17 hs (k := 2) (by decide) v2 h2
  await arg5 harg5 arg6 arg7 harg7 arg8 arg10 harg10 arg11 arg12 harg12 arg13 arg16 arg17 hs (k := 3) (by decide) v3 h3
  await arg5 harg5 arg6 arg7 harg7 arg8 arg10 harg10 arg11 arg12 harg12 arg13 arg16 arg17 hs (k := 4) (by decide) v4 h4
  await arg5 harg5 arg6 arg7 harg7 arg8 arg10 harg10 arg11 arg12 harg12 arg13 arg16 arg17 hs (k := 5) (by decide) v5 h5
  await arg5 harg5 arg6 arg7 harg7 arg8 arg10 harg10 arg11 arg12 harg12 arg13 arg16 arg17 hs (k := 6) (by decide) v6 h6
  await arg5 harg5 arg6 arg7 harg7 arg8 arg10 harg10 arg11 arg12 harg12 arg13 arg16 arg17 hs (k := 7) (by decide) v7 h7

/-- Read half `h` of head `j`'s codes in window `k` of slot `s`. -/
noncomputable def loadHalf (buf : Memref sig .tc .vmem S2x8x2x64x640 .i8) {s k j h : ℕ} (hs : s < 2) (hk : k < 8) (hj : j < 2) (hh : h < 2) :
    Prog (TpuEff nD τ sig (Elt F) Λ₀ .tc) (Vec F S1x1x1x32x640 .i8) :=
  Prog.lift (.load buf (Rect.unit (s := S2x8x2x64x640) ![s, k, j, 32 * h, 0] S1x1x1x32x640.size (lt_half hs hk hj hh)).toLoadRect
    (View.loadsAt_vmem h_S1x1x1x32x640))

/-- Read half `h`'s scales of head `j` in window `k` of slot `s`. -/
noncomputable def loadScale (buf : Memref sig .tc .vmem S2x8x2x2x640 .f32) {s k j h : ℕ} (hs : s < 2) (hk : k < 8) (hj : j < 2) (hh : h < 2) :
    Prog (TpuEff nD τ sig (Elt F) Λ₀ .tc) (Vec F S1x1x1x1x640 .f32) :=
  Prog.lift (.load buf (Rect.unit (s := S2x8x2x2x640) ![s, k, j, h, 0] S1x1x1x1x640.size (lt_half_scale hs hk hj hh)).toLoadRect
    (View.loadsAt_vmem h_S1x1x1x1x640))

/-- The four half heads of a window, codes and scales. -/
structure Halves (F : FTy → Type) where
  c00 : Vec F S1x1x1x32x640 .i8
  s00 : Vec F S1x1x1x1x640 .f32
  c01 : Vec F S1x1x1x32x640 .i8
  s01 : Vec F S1x1x1x1x640 .f32
  c10 : Vec F S1x1x1x32x640 .i8
  s10 : Vec F S1x1x1x1x640 .f32
  c11 : Vec F S1x1x1x32x640 .i8
  s11 : Vec F S1x1x1x1x640 .f32

/-- Read the whole of window `k` of slot `s`. -/
noncomputable def loadHalves (cb : Memref sig .tc .vmem S2x8x2x64x640 .i8) (sb : Memref sig .tc .vmem S2x8x2x2x640 .f32) {s k : ℕ} (hs : s < 2) (hk : k < 8) :
    Prog (TpuEff nD τ sig (Elt F) Λ₀ .tc) (Halves F) := do
  let c00 ← loadHalf cb hs hk (j := 0) (h := 0) (by decide) (by decide)
  let s00 ← loadScale sb hs hk (j := 0) (h := 0) (by decide) (by decide)
  let c01 ← loadHalf cb hs hk (j := 0) (h := 1) (by decide) (by decide)
  let s01 ← loadScale sb hs hk (j := 0) (h := 1) (by decide) (by decide)
  let c10 ← loadHalf cb hs hk (j := 1) (h := 0) (by decide) (by decide)
  let s10 ← loadScale sb hs hk (j := 1) (h := 0) (by decide) (by decide)
  let c11 ← loadHalf cb hs hk (j := 1) (h := 1) (by decide) (by decide)
  let s11 ← loadScale sb hs hk (j := 1) (h := 1) (by decide) (by decide)
  pure ⟨c00, s00, c01, s01, c10, s10, c11, s11⟩

/-- The scores of the rows `q` of queries against the window, before the mask. -/
noncomputable def scores (q : Vec F S16x128 .f32) (K : Halves F) : FVec F S16x640 .f32 :=
  k0_pay25 q (k0_pay23 K.c00 K.s00) (k0_pay24 K.c01) K.s01 K.c10 K.s10 K.c11 K.s11

/-- What one sequence leaves in its sixteen rows. -/
noncomputable def seqVal (lo wd hi : BitVec 32) (q : Vec F S16x128 .f32) (K : Halves F) (kn : Vec F S1x128 .f32) (V : Halves F) (vn : Vec F S1x128 .f32) :
    FVec F S16x128 .f32 :=
  k0_pay36
    (k0_pay34 (k0_pay32 (k0_pay22 (F := F) lo wd hi) q (scores q K) kn) (k0_pay33 V.c00 V.s00) V.c01 V.s01 V.c10 V.s10 V.c11 V.s11)
    (k0_pay35 (k0_pay30 (k0_pay22 (F := F) lo wd hi) q (scores q K) kn) (k0_pay31 (k0_pay22 (F := F) lo wd hi) q (scores q K) kn)) vn

/-- One sequence: its window read, its scores masked, the softmax, the weighted values, its sixteen rows written. -/
noncomputable def seqStep {s k : ℕ} (hs : s < 2) (hk : k < 8) (n n' : ℕ) (hn : n < 5001) (hn' : n' < 5001) :
    Prog (TpuEff nD τ sig (Elt F) Λ₀ .tc) PUnit := do
  let lo : Elt F .i32 ← smemLoad arg1 (Rect.unit (s := S5001) ![n] S1.size (lt_cu hn)) numel1_S1 (show EltTy.packing .i32 = 1 from rfl)
  let ⟨wd, hwd⟩ ← start arg1 n hn k0_chk25 k0_chk25.dec
  let hi : Elt F .i32 ← smemLoad arg1 (Rect.unit (s := S5001) ![n'] S1.size (lt_cu hn')) numel1_S1 (show EltTy.packing .i32 = 1 from rfl)
  let q : Vec F S16x128 .f32 ← Prog.lift (.load arg14 (Rect.unit (s := S128x128) ![16 * k, 0] S16x128.size (lt_rows hk)).toLoadRect (View.loadsAt_vmem h_S16x128))
  let K ← loadHalves arg10 arg11 hs hk
  let kn : Vec F S1x128 .f32 ← Prog.lift (.load arg3 (Rect.unit (s := S8x128) ![k, 0] S1x128.size (lt_row hk)).toLoadRect (View.loadsAt_vmem h_S1x128))
  let V ← loadHalves arg12 arg13 hs hk
  let vn : Vec F S1x128 .f32 ← Prog.lift (.load arg4 (Rect.unit (s := S8x128) ![k, 0] S1x128.size (lt_row hk)).toLoadRect (View.loadsAt_vmem h_S1x128))
  let _old : Vec F S16x128 .f32 ← Prog.lift (.load arg15 (Rect.unit (s := S128x128) ![16 * k, 0] S16x128.size (lt_rows hk)).toLoadRect (View.loadsAt_vmem h_S16x128))
  Prog.lift (.store arg15 (Rect.unit (s := S128x128) ![16 * k, 0] S16x128.size (lt_rows hk)) (seqVal lo wd hi q K kn V vn) Finset.univ
    (View.stores_vmem_bits_univ h_S16x128 rfl) (.inl rfl))

/-- Write head row `r` of the eight sequences' queries. -/
noncomputable def queryRow (r : ℕ) (hr : r < 16) (pay : FVec F S8x128 .f32) : Prog (TpuEff nD τ sig (Elt F) Λ₀ .tc) PUnit := do
  let _old : Vec F S8x128 .f32 ← Prog.lift (.load arg14 (strideRect r hr) (View.loadsAt_vmem h_S8x128))
  Prog.lift (.store arg14 ⟨strideRect r hr, spos_16_1⟩ pay Finset.univ (View.stores_vmem_bits_univ h_S8x128 rfl) (.inl rfl))

/-- The lane numbers of a block of eight rows. -/
abbrev lanes : IVec S8x128 32 := iota .tc S8x128 32 [1] iota_S8x128_d1_w32

/-- The rows of queries: zero, then the fourteen head rows, each in its half of the lanes. -/
noncomputable def queries : Prog (TpuEff nD τ sig (Elt F) Λ₀ .tc) PUnit := do
  let x : Vec F S8x896 .bf16 ← Prog.lift (.load arg2 (Rect.unit (s := S8x896) ![0, 0] S8x896.size inb_S8x896_S8x896_0_0).toLoadRect (View.loadsAt_vmem h_S8x896))
  let _old : Vec F S128x128 .f32 ← Prog.lift (.load arg14 (Rect.unit (s := S128x128) ![0, 0] S128x128.size inb_S128x128_S128x128_0_0).toLoadRect (View.loadsAt_vmem h_S128x128))
  Prog.lift (.store arg14 (Rect.unit (s := S128x128) ![0, 0] S128x128.size inb_S128x128_S128x128_0_0) (k0_pay3 (F := F)) Finset.univ (View.stores_vmem_bits_univ h_S128x128 rfl) (.inl rfl))
  queryRow arg14 0 (by decide) (k0_pay4 x)
  queryRow arg14 1 (by decide) (k0_pay5 x)
  queryRow arg14 2 (by decide) (k0_pay7 lanes (k0_pay6 x))
  queryRow arg14 3 (by decide) (k0_pay8 (k0_pay2 x) lanes)
  queryRow arg14 4 (by decide) (k0_pay9 (k0_pay2 x) lanes)
  queryRow arg14 5 (by decide) (k0_pay10 (k0_pay2 x) lanes)
  queryRow arg14 6 (by decide) (k0_pay13 (k0_pay11 (k0_pay2 x)) (k0_pay12 lanes) (Scalar.ofBits .f32 0x00000000#32))
  queryRow arg14 8 (by decide) (k0_pay14 (k0_pay2 x) lanes)
  queryRow arg14 9 (by decide) (k0_pay15 (k0_pay2 x) lanes)
  queryRow arg14 10 (by decide) (k0_pay16 (k0_pay2 x) lanes)
  queryRow arg14 11 (by decide) (k0_pay18 (k0_pay17 (k0_pay2 x) lanes))
  queryRow arg14 12 (by decide) (k0_pay19 (k0_pay2 x) lanes)
  queryRow arg14 13 (by decide) (k0_pay20 (k0_pay2 x) lanes)
  queryRow arg14 14 (by decide) (k0_pay21 (k0_pay2 x) lanes)

/-- Read head row `r` of the eight sequences' results. -/
noncomputable def resultRow (r : ℕ) (hr : r < 16) : Prog (TpuEff nD τ sig (Elt F) Λ₀ .tc) (Vec F S8x128 .f32) :=
  Prog.lift (.load arg15 (strideRect r hr) (View.loadsAt_vmem h_S8x128))

/-- The block of results: the fourteen head rows, two to a block of 128 lanes. -/
noncomputable def outVal (o : Fin 16 → Vec F S8x128 .f32) : FVec F S8x896 .bf16 :=
  k0_pay1 lanes (k0_pay166 lanes (o 0) (o 1)) (k0_pay167 lanes (o 2) (o 3)) (k0_pay168 lanes (o 4) (o 5)) (k0_pay169 lanes (o 6) (o 8))
    (k0_pay170 (o 9)) (o 10) (o 11) (o 12) (o 13) (o 14)

/-- The fourteen head rows read back and the block of results written. -/
noncomputable def assemble : Prog (TpuEff nD τ sig (Elt F) Λ₀ .tc) PUnit := do
  let o0 ← resultRow arg15 0 (by decide)
  let o1 ← resultRow arg15 1 (by decide)
  let o2 ← resultRow arg15 2 (by decide)
  let o3 ← resultRow arg15 3 (by decide)
  let o4 ← resultRow arg15 4 (by decide)
  let o5 ← resultRow arg15 5 (by decide)
  let o6 ← resultRow arg15 6 (by decide)
  let o8 ← resultRow arg15 8 (by decide)
  let o9 ← resultRow arg15 9 (by decide)
  let o10 ← resultRow arg15 10 (by decide)
  let o11 ← resultRow arg15 11 (by decide)
  let o12 ← resultRow arg15 12 (by decide)
  let o13 ← resultRow arg15 13 (by decide)
  let o14 ← resultRow arg15 14 (by decide)
  let _old : Vec F S8x896 .bf16 ← Prog.lift (.load arg9 (Rect.unit (s := S8x896) ![0, 0] S8x896.size inb_S8x896_S8x896_0_0).toLoadRect (View.loadsAt_vmem h_S8x896))
  Prog.lift (.store arg9 (Rect.unit (s := S8x896) ![0, 0] S8x896.size inb_S8x896_S8x896_0_0)
    (outVal ![o0, o1, o2, o3, o4, o5, o6, o6, o8, o9, o10, o11, o12, o13, o14, o14])
    Finset.univ (View.stores_vmem h_S8x896 (harg9.storeExact_slice rfl _ packedbf16_S8x896_S8x896_0_0) (fun _ => rfl)) (.inl rfl))

/-! ### The slots and the table's entries of a grid point -/

/-- The slot a grid point works in. -/
abbrev slotW (i : grid0.Coords) : BitVec 32 := Scalar.remsi (BitVec.ofNat 32 (i 0).val) 2#32
/-- The slot the next grid point works in. -/
abbrev nextSlotW (i : grid0.Coords) : BitVec 32 := Scalar.subi 1#32 (slotW i)
/-- The number of the first of the grid point's eight sequences. -/
abbrev seqW (i : grid0.Coords) (k : ℕ) : BitVec 32 := Scalar.addi (Scalar.muli (BitVec.ofNat 32 (i 0).val) 8#32) (BitVec.ofNat 32 k)
/-- The same of the next grid point. -/
abbrev nextSeqW (i : grid0.Coords) (k : ℕ) : BitVec 32 :=
  Scalar.addi (Scalar.muli (Scalar.addi (BitVec.ofNat 32 (i 0).val) 1#32) 8#32) (BitVec.ofNat 32 k)

theorem slotW_toNat (i : grid0.Coords) : (slotW i).toNat = (i 0).val % 2 := by
  have h : (i 0).val < 625 := (i 0).isLt
  have e : ∀ g : Fin 625, (Scalar.remsi (BitVec.ofNat 32 g.val) 2#32).toNat = g.val % 2 := by decide +kernel
  exact e ⟨_, h⟩

theorem nextSlotW_toNat (i : grid0.Coords) : (nextSlotW i).toNat = 1 - (i 0).val % 2 := by
  have h : (i 0).val < 625 := (i 0).isLt
  have e : ∀ g : Fin 625, (Scalar.subi 1#32 (Scalar.remsi (BitVec.ofNat 32 g.val) 2#32)).toNat = 1 - g.val % 2 := by decide +kernel
  exact e ⟨_, h⟩

theorem seqW_toNat (i : grid0.Coords) {k : ℕ} (hk : k < 9) : (seqW i k).toNat = 8 * (i 0).val + k := by
  have h : (i 0).val < 625 := (i 0).isLt
  show ((BitVec.ofNat 32 (i 0).val * 8#32) + BitVec.ofNat 32 k).toNat = _
  simp only [BitVec.toNat_add, BitVec.toNat_mul, BitVec.toNat_ofNat]
  omega

theorem nextSeqW_toNat (i : grid0.Coords) {k : ℕ} (hk : k < 9) : (nextSeqW i k).toNat = 8 * ((i 0).val + 1) + k := by
  have h : (i 0).val < 625 := (i 0).isLt
  show (((BitVec.ofNat 32 (i 0).val + 1#32) * 8#32) + BitVec.ofNat 32 k).toNat = _
  simp only [BitVec.toNat_add, BitVec.toNat_mul, BitVec.toNat_ofNat]
  omega

theorem cond1_iff (i : grid0.Coords) : k0_cond1 i = 1#1 ↔ (i 0).val = 0 := by
  have h : (i 0).val < 625 := (i 0).isLt
  have e : ∀ g : Fin 625, (Scalar.cmpi .ne (Scalar.extui (Scalar.cmpi .eq (BitVec.ofNat 32 g.val) 0#32) : BitVec 32) 0#32 = 1#1) ↔ g.val = 0 := by decide +kernel
  exact e ⟨_, h⟩

theorem cond2_iff (i : grid0.Coords) : k0_cond2 i = 1#1 ↔ (i 0).val + 1 < 625 := by
  have h : (i 0).val < 625 := (i 0).isLt
  have e : ∀ g : Fin 625, (Scalar.cmpi .ne (Scalar.extui (Scalar.cmpi .slt (Scalar.addi (BitVec.ofNat 32 g.val) 1#32) 625#32) : BitVec 32) 0#32 = 1#1) ↔ g.val + 1 < 625 := by decide +kernel
  exact e ⟨_, h⟩

theorem slot_lt (i : grid0.Coords) : (slotW i).toNat < 2 := by rw [slotW_toNat]; omega
theorem nextSlot_lt (i : grid0.Coords) : (nextSlotW i).toNat < 2 := by rw [nextSlotW_toNat]; omega
theorem seqW_lt (i : grid0.Coords) {k : ℕ} (hk : k < 9) : (seqW i k).toNat < 5001 := by
  rw [seqW_toNat i hk]; have h : (i 0).val < 625 := (i 0).isLt; omega
theorem nextSeqW_lt (i : grid0.Coords) (h2 : k0_cond2 i = 1#1) {k : ℕ} (hk : k < 8) : (nextSeqW i k).toNat < 5001 := by
  rw [nextSeqW_toNat i (by omega)]; have h := (cond2_iff i).1 h2; omega
theorem seqW1_lt (i : grid0.Coords) {k : ℕ} (hk : k < 8) : (Scalar.addi (seqW i k) 1#32).toNat < 5001 := by
  have h : (i 0).val < 625 := (i 0).isLt
  show (seqW i k + 1#32).toNat < 5001
  rw [BitVec.toNat_add, seqW_toNat i (by omega)]
  simp only [BitVec.toNat_ofNat]
  omega

/-! ### The body -/

/-- The grid's first point starts its own copies, into slot 0. -/
noncomputable def issueFirst (i : grid0.Coords) : Prog (TpuEff nD τ sig (Elt F) Λ₀ .tc) PUnit :=
  if h1 : k0_cond1 i = 1#1 then
    issueAll arg1 arg5 harg5 arg6 arg7 harg7 arg8 arg10 harg10 arg11 arg12 harg12 arg13 arg16 arg17 (s := 0) (by decide) (fun k => k) (fun k hk => by omega)
      (k0_chk1 i) (k0_chk1.dec i) (fun v h => ⟨h.1 h1, h.2.1 h1, h.2.2.1 h1, h.2.2.2 h1⟩)
  else pure ⟨⟩

/-- Every point but the last starts the next point's copies, into the other slot. -/
noncomputable def issueNext (i : grid0.Coords) : Prog (TpuEff nD τ sig (Elt F) Λ₀ .tc) PUnit :=
  if h2 : k0_cond2 i = 1#1 then
    issueAll arg1 arg5 harg5 arg6 arg7 harg7 arg8 arg10 harg10 arg11 arg12 harg12 arg13 arg16 arg17 (nextSlot_lt i) (fun k => (nextSeqW i k).toNat)
      (fun k hk => nextSeqW_lt i h2 hk) (k0_chk9 i) (k0_chk9.dec i) (fun v h => ⟨h.1 h2, h.2.1 h2, h.2.2.1 h2, h.2.2.2 h2⟩)
  else pure ⟨⟩

/-- One sequence of the grid point. -/
noncomputable abbrev seqAt (i : grid0.Coords) (k : ℕ) (hk : k < 8) : Prog (TpuEff nD τ sig (Elt F) Λ₀ .tc) PUnit :=
  seqStep arg1 arg3 arg4 arg10 arg11 arg12 arg13 arg14 arg15 (slot_lt i) hk (seqW i k).toNat (Scalar.addi (seqW i k) 1#32).toNat
    (seqW_lt i (by omega)) (seqW1_lt i hk)

/-- What a point does with the windows once they are asked for. -/
noncomputable def work (i : grid0.Coords) : Prog (TpuEff nD τ sig (Elt F) Λ₀ .tc) PUnit := do
  queries arg2 arg14
  awaitAll arg1 arg5 harg5 arg6 arg7 harg7 arg8 arg10 harg10 arg11 arg12 harg12 arg13 arg16 arg17 (slot_lt i) (fun k => (seqW i k).toNat) (fun k hk => seqW_lt i (by omega))
  seqAt arg1 arg3 arg4 arg10 arg11 arg12 arg13 arg14 arg15 i 0 (by decide)
  seqAt arg1 arg3 arg4 arg10 arg11 arg12 arg13 arg14 arg15 i 1 (by decide)
  seqAt arg1 arg3 arg4 arg10 arg11 arg12 arg13 arg14 arg15 i 2 (by decide)
  seqAt arg1 arg3 arg4 arg10 arg11 arg12 arg13 arg14 arg15 i 3 (by decide)
  seqAt arg1 arg3 arg4 arg10 arg11 arg12 arg13 arg14 arg15 i 4 (by decide)
  seqAt arg1 arg3 arg4 arg10 arg11 arg12 arg13 arg14 arg15 i 5 (by decide)
  seqAt arg1 arg3 arg4 arg10 arg11 arg12 arg13 arg14 arg15 i 6 (by decide)
  seqAt arg1 arg3 arg4 arg10 arg11 arg12 arg13 arg14 arg15 i 7 (by decide)
  assemble arg9 harg9 arg15

end

/-- The part of the printed body that holds the two conditionals, after them. -/
noncomputable def afterIssue (i : grid0.Coords) (arg2 : Memref sig .tc .vmem S8x896 .bf16) (arg14 : Memref sig .tc .vmem S128x128 .f32) :
    Prog (TpuEff nD τ sig (Elt F) Λ₀ .tc) (Σ' (arg0 : BitVec 32) (v0 : BitVec 32) (v10 : FVec F S8x896 .f32) (v11 : IVec S8x128 32), FVec F S8x128 .f32) := do
  let x : Vec F S8x896 .bf16 ← Prog.lift (.load arg2 (Rect.unit (s := S8x896) ![0, 0] S8x896.size inb_S8x896_S8x896_0_0).toLoadRect (View.loadsAt_vmem h_S8x896))
  let _old : Vec F S128x128 .f32 ← Prog.lift (.load arg14 (Rect.unit (s := S128x128) ![0, 0] S128x128.size inb_S128x128_S128x128_0_0).toLoadRect (View.loadsAt_vmem h_S128x128))
  Prog.lift (.store arg14 (Rect.unit (s := S128x128) ![0, 0] S128x128.size inb_S128x128_S128x128_0_0) (k0_pay3 (F := F)) Finset.univ (View.stores_vmem_bits_univ h_S128x128 rfl) (.inl rfl))
  queryRow arg14 0 (by decide) (k0_pay4 x)
  queryRow arg14 1 (by decide) (k0_pay5 x)
  pure ⟨BitVec.ofNat 32 (i 0).val, slotW i, k0_pay2 x, lanes, k0_pay6 x⟩

set_option maxHeartbeats 4000000 in
set_option maxRecDepth 65536 in
theorem part17_eq (i : grid0.Coords) (arg1 : Memref sig .tc .smem S5001 .i32) (harg1 : arg1.IsWhole) (arg2 : Memref sig .tc .vmem S8x896 .bf16) (harg2 : arg2.IsWhole)
    (arg3 : Memref sig .tc .vmem S8x128 .f32) (harg3 : arg3.IsWhole) (arg4 : Memref sig .tc .vmem S8x128 .f32) (harg4 : arg4.IsWhole)
    (arg5 : Memref sig .tc .hbm S2x64x2560000 .i8) (harg5 : arg5.IsWhole) (arg6 : Memref sig .tc .hbm S2x2x2560000 .f32) (harg6 : arg6.IsWhole)
    (arg7 : Memref sig .tc .hbm S2x64x2560000 .i8) (harg7 : arg7.IsWhole) (arg8 : Memref sig .tc .hbm S2x2x2560000 .f32) (harg8 : arg8.IsWhole)
    (arg9 : Memref sig .tc .vmem S8x896 .bf16) (harg9 : arg9.IsWhole) (arg10 : Memref sig .tc .vmem S2x8x2x64x640 .i8) (harg10 : arg10.IsWhole)
    (arg11 : Memref sig .tc .vmem S2x8x2x2x640 .f32) (harg11 : arg11.IsWhole) (arg12 : Memref sig .tc .vmem S2x8x2x64x640 .i8) (harg12 : arg12.IsWhole)
    (arg13 : Memref sig .tc .vmem S2x8x2x2x640 .f32) (harg13 : arg13.IsWhole) (arg14 : Memref sig .tc .vmem S128x128 .f32) (harg14 : arg14.IsWhole)
    (arg15 : Memref sig .tc .vmem S128x128 .f32) (harg15 : arg15.IsWhole) (arg16 arg17 : DmaSems sig S2) :
    k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17
      = (issueFirst arg1 arg5 harg5 arg6 arg7 harg7 arg8 arg10 harg10 arg11 arg12 harg12 arg13 arg16 arg17 i >>= fun _ => issueNext arg1 arg5 harg5 arg6 arg7 harg7 arg8 arg10 harg10 arg11 arg12 harg12 arg13 arg16 arg17 i >>= fun _ => afterIssue i arg2 arg14) := by
  rw [k0_part17_eq_skeleton]
  unfold k0_part17_skel issueFirst issueNext
  by_cases h1 : k0_cond1 i = 1#1 <;> by_cases h2 : k0_cond2 i = 1#1
  · simp only [dif_pos h1, dif_pos h2]
    chain_rfl
  · simp only [dif_pos h1, dif_neg h2]
    chain_rfl
  · simp only [dif_neg h1, dif_pos h2]
    chain_rfl
  · simp only [dif_neg h1, dif_neg h2]
    chain_rfl

set_option maxHeartbeats 4000000 in
set_option maxRecDepth 65536 in
/-- The printed body is the composition of the pieces above. -/
theorem body_eq (i : grid0.Coords) (arg1 : Memref sig .tc .smem S5001 .i32) (harg1 : arg1.IsWhole) (arg2 : Memref sig .tc .vmem S8x896 .bf16) (harg2 : arg2.IsWhole)
    (arg3 : Memref sig .tc .vmem S8x128 .f32) (harg3 : arg3.IsWhole) (arg4 : Memref sig .tc .vmem S8x128 .f32) (harg4 : arg4.IsWhole)
    (arg5 : Memref sig .tc .hbm S2x64x2560000 .i8) (harg5 : arg5.IsWhole) (arg6 : Memref sig .tc .hbm S2x2x2560000 .f32) (harg6 : arg6.IsWhole)
    (arg7 : Memref sig .tc .hbm S2x64x2560000 .i8) (harg7 : arg7.IsWhole) (arg8 : Memref sig .tc .hbm S2x2x2560000 .f32) (harg8 : arg8.IsWhole)
    (arg9 : Memref sig .tc .vmem S8x896 .bf16) (harg9 : arg9.IsWhole) (arg10 : Memref sig .tc .vmem S2x8x2x64x640 .i8) (harg10 : arg10.IsWhole)
    (arg11 : Memref sig .tc .vmem S2x8x2x2x640 .f32) (harg11 : arg11.IsWhole) (arg12 : Memref sig .tc .vmem S2x8x2x64x640 .i8) (harg12 : arg12.IsWhole)
    (arg13 : Memref sig .tc .vmem S2x8x2x2x640 .f32) (harg13 : arg13.IsWhole) (arg14 : Memref sig .tc .vmem S128x128 .f32) (harg14 : arg14.IsWhole)
    (arg15 : Memref sig .tc .vmem S128x128 .f32) (harg15 : arg15.IsWhole) (arg16 arg17 : DmaSems sig S2) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17
      = (issueFirst arg1 arg5 harg5 arg6 arg7 harg7 arg8 arg10 harg10 arg11 arg12 harg12 arg13 arg16 arg17 i >>= fun _ => issueNext arg1 arg5 harg5 arg6 arg7 harg7 arg8 arg10 harg10 arg11 arg12 harg12 arg13 arg16 arg17 i >>= fun _ =>
          work arg1 arg2 arg3 arg4 arg5 harg5 arg6 arg7 harg7 arg8 arg9 harg9 arg10 harg10 arg11 arg12 harg12 arg13 arg14 arg15 arg16 arg17 i) := by
  rw [cc0__body_eq_skeleton]
  unfold cc0__body_skel
  rw [k0_part63_eq_skeleton]
  unfold k0_part63_skel
  rw [part17_eq]
  simp only [Prog.bind_assoc]
  refine congrArg (_ >>= ·) (funext fun _ => congrArg (_ >>= ·) (funext fun _ => ?_))
  chain_rfl

end Cert.KernelIdeal
-- ==== Proof.Steps.lean ====
module
public import proofs.«01_k».proof.Proof.Model
public import proofs.«01_k».proof.Proof.Gen.KernelIdeal.Launch
public import Idealize.ShloMosaic.Lib.Pipeline.FrameBody
public import Idealize.ShloMosaic.Lib.Batch
public import Idealize.ShloMosaic.Lib.Memref
public import Idealize.ShloMosaic.Lib.ValueLayout
public import Idealize.ShloMosaic.Lib.Tactic
@[expose] public section
/-!
Rules for the single steps the kernel takes, each over memrefs owned at stated values: a load, a store, a word of the
table, a copy started, a copy waited for.  Each is stated for an arbitrary continuation `K` of the step's result.
-/
noncomputable section
namespace Cert.KernelIdeal
open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

/-- The proof's algebra: the pipeline library's beside the transfers' counters. -/
local notation "𝕄" => MT nD τ sig Unit (Elt F) ℕ (Pipeline.UD sig nD τ) ℕ
/-- The transfers' counters. -/
abbrev EC {F : FTy → Type} : UEmb Counters (MT nD τ sig Unit (Elt F) ℕ (Pipeline.UD sig nD τ) ℕ) := countersEmb
/-- The weakest precondition of a piece of the kernel's body on core `c`. -/
abbrev wpB (c : Dev nD) {α : Type} (p : Prog (TpuEff nD τ sig (Elt F) Λ₀ .tc) α) (K : α → sProp 𝕄) : sProp 𝕄 :=
  wp frame (wpE (defs₀ (F := F)) Variants.none (c : Thread nD τ) none) Set.univ p K

variable (c : Dev nD)

theorem wpB_bind {α β : Type} (p : Prog (TpuEff nD τ sig (Elt F) Λ₀ .tc) α) (k : α → Prog (TpuEff nD τ sig (Elt F) Λ₀ .tc) β) (K : β → sProp 𝕄) :
    wpB c (p >>= k) K = wpB c p (fun a => wpB c (k a) K) := wp_bind ..

/-- A load of some coordinates of an owned memref gives the owned value there. -/
theorem load_owns {sp : CoreSpace} {s : Shape} {e : EltTy} (m : Memref sig .tc sp s e) (r : LoadRect s) (hl : m.view.LoadsAt r) (q : PosShare TreeShare)
    (X : s.Idx → Elt F e) (K : (r.shape.Idx → Elt F e) → sProp 𝕄) :
    iprop(owns (c : Thread nD τ) m q X ∗ (owns (c : Thread nD τ) m q X -∗ K (fun x => X (r.idx x))))
      ⊢ wpB c (Prog.lift (.load m r hl)) K := by
  unfold owns
  iintro ⟨⟨%f, %hf, H⟩, Hk⟩
  iapply (wp_load (defs := defs₀ (F := F)) Variants.none (c : Thread nD τ) none Set.univ (S := m.view.set) (q := q) (f := f) (View.setOn_subset_set _ _)) $$ H
  iintro H
  rw [wp_ret]
  imodintro
  rw [show m.view.readAt (Elt F) r f = fun x => X (r.idx x) from funext fun x => by rw [View.readAt_apply, hf]]
  iapply Hk
  iexists f
  isplitr; · ipureintro; exact hf
  iexact H

/-- The same of a memref that covers only a window of the loaded one's buffer. -/
theorem load_window {sp : CoreSpace} {s s' : Shape} {e : EltTy} (m : Memref sig .tc sp s e) (r : LoadRect s) (hl : m.view.LoadsAt r) (q : PosShare TreeShare)
    (r₀ : Rect s) (hr₀ : ∀ a, r₀.stride a = 1) (hsq : r₀.shape.Squeezes s') (X : s'.Idx → Elt F e)
    (g : r.shape.Idx → s'.Idx) (hg : ∀ x, r.idx x = r₀.emb (Shape.reshapeEquiv hsq.numel_eq (g x))) (K : (r.shape.Idx → Elt F e) → sProp 𝕄) :
    iprop(owns (c : Thread nD τ) ((m.slice r₀ hr₀).squeeze s' hsq) q X
        ∗ (owns (c : Thread nD τ) ((m.slice r₀ hr₀).squeeze s' hsq) q X -∗ K (fun x => X (g x))))
      ⊢ wpB c (Prog.lift (.load m r hl)) K := by
  unfold owns
  iintro ⟨⟨%f, %hf, H⟩, Hk⟩
  have hS : m.view.setOn r.set ⊆ ((m.slice r₀ hr₀).squeeze s' hsq).view.set := by
    intro i hi
    obtain ⟨y, hy, rfl⟩ := Finset.mem_map.mp hi
    obtain ⟨x, rfl⟩ := r.exists_idx_of_mem hy
    rw [hg x]
    exact View.emb_mem_set ((m.slice r₀ hr₀).squeeze s' hsq).view (g x)
  iapply (wp_load (defs := defs₀ (F := F)) Variants.none (c : Thread nD τ) none Set.univ (q := q) (f := f) hS) $$ H
  iintro H
  rw [wp_ret]
  imodintro
  rw [show m.view.readAt (Elt F) r f = fun x => X (g x) from funext fun x => by
    rw [View.readAt_apply, hg x, ← hf]; rfl]
  iapply Hk
  iexists f
  isplitr; · ipureintro; exact hf
  iexact H

/-- A store over a rectangle of an owned memref lays the payload over the owned value. -/
theorem store_owns {sp : CoreSpace} {s : Shape} {e : EltTy} (m : Memref sig .tc sp s e) (r : Rect s) (w : r.shape.Idx → Elt F e)
    (hx : (m.access r).Stores Finset.univ) (hm : Finset.univ = Finset.univ ∨ _)
    (X : s.Idx → Elt F e) (K : PUnit → sProp 𝕄) :
    iprop(owns (c : Thread nD τ) m fullShare X ∗ (owns (c : Thread nD τ) m fullShare (r.overlay X w) -∗ K ⟨⟩))
      ⊢ wpB c (Prog.lift (.store m r w Finset.univ hx hm)) K := by
  unfold owns
  iintro ⟨⟨%f, %hf, H⟩, Hk⟩
  iapply (wp_store (defs := defs₀ (F := F)) Variants.none (c : Thread nD τ) none Set.univ (m := m) (r := r) (S := m.view.set) (f := f)
    (by rw [View.setOn_univ]; exact View.set_slice_subset _ _)) $$ H
  iintro H
  rw [wp_ret]
  imodintro
  iapply Hk
  iexists ((m.access r).write (Elt F) f w Finset.univ)
  isplitr
  · ipureintro
    funext x
    by_cases hx : x ∈ r.set
    · rw [← Rect.map_emb_univ, Finset.mem_map] at hx
      obtain ⟨y, -, rfl⟩ := hx
      rw [Rect.overlay_emb]
      have := View.read_write_univ (Val := Elt F) (v := m.access r) f w
      exact congrFun this y
    · rw [Rect.overlay_of_not_mem _ _ _ hx, ← hf]
      rw [View.read_apply, View.read_apply, View.write_of_not_mem]
      rw [View.setOn_univ]
      show m.view.emb x ∉ (m.view.slice r).set
      rw [View.set_slice]
      exact fun h => hx ((Finset.mem_map' _).mp h)
  iexact H

/-- The word of a table at entry `n`. -/
def tbl (T : Vec F S5001 .i32) (n : ℕ) : BitVec 32 := if h : n < 5001 then T (ix1 ⟨n, h⟩) else 0#32

/-- A word of the table. -/
theorem smemLoad_owns (m : Memref sig .tc .smem S5001 .i32) {n : ℕ} (hn : n < 5001) (q : PosShare TreeShare)
    (T : Vec F S5001 .i32) (K : Elt F .i32 → sProp 𝕄) :
    iprop(owns (c : Thread nD τ) m q T ∗ (owns (c : Thread nD τ) m q T -∗ K (tbl T n)))
      ⊢ wpB c (smemLoad m (Rect.unit (s := S5001) ![n] S1.size (lt_cu hn)) numel1_S1 (show EltTy.packing .i32 = 1 from rfl)) K := by
  unfold owns
  iintro ⟨⟨%f, %hf, H⟩, Hk⟩
  unfold smemLoad
  iapply (wp_smemLoadElt (defs := defs₀ (F := F)) Variants.none (c : Thread nD τ) none Set.univ (m := m) (r := Rect.unit (s := S5001) ![n] S1.size (lt_cu hn)) (S := m.view.set) (q := q) (f := f) (View.set_slice_subset _ _)) $$ H
  iintro H
  rw [wp_ret]
  imodintro
  rw [show ∀ x, (m.access (Rect.unit (s := S5001) ![n] S1.size (lt_cu hn))).read (Elt F) f x = tbl T n from fun x => by
    rw [← hf, tbl, dif_pos hn]
    show m.view.read (Elt F) f ((Rect.unit (s := S5001) ![n] S1.size (lt_cu hn)).emb x) = _
    congr 1
    funext a; apply Fin.ext; fin_cases a
    have hx : ((x 0 : Fin 1) : ℕ) = 0 := by have := (x 0).isLt; exact Nat.lt_one_iff.mp this
    show n + 1 * ((x 0 : Fin 1) : ℕ) = n
    rw [hx]; omega]
  iapply Hk
  iexists f
  isplitr; · ipureintro; exact hf
  iexact H

/-- A word of the table, checked. -/
theorem start_spec (m : Memref sig .tc .smem S5001 .i32) {n : ℕ} (hn : n < 5001) (q : PosShare TreeShare)
    (T : Vec F S5001 .i32) (P : BitVec 32 → Prop) (dec : ∀ v, Decidable (P v)) (h : P (tbl T n)) (K : (Σ' v : Elt F .i32, P v) → sProp 𝕄) :
    iprop(owns (c : Thread nD τ) m q T ∗ (owns (c : Thread nD τ) m q T -∗ K ⟨tbl T n, h⟩))
      ⊢ wpB c (start m n hn P dec) K := by
  unfold start
  rw [wpB_bind]
  iintro ⟨H, Hk⟩
  iapply (smemLoad_owns c m hn q T)
  isplitl [H]; · iexact H
  iintro H
  rw [wpB_bind]
  iapply (wp_assume (defs := defs₀ (F := F)) Variants.none (c : Thread nD τ) none Set.univ h)
  rw [wp_ret]
  imodintro
  simp only [wpB, wp_pure]
  imodintro
  iapply Hk
  iexact H

/-- Starting a batch's next copy from a rectangle of an owned source into an owned destination: the delivery is the
    destination at the values read and the source back. -/
theorem enqueue_spec {sp sp' : Space} {s : Shape} {e : EltTy} {n : ℕ} (src : Memref sig .tc sp s e) (r : Rect s) (hr : ∀ a, r.stride a = 1)
    (dst : Memref sig .tc sp' r.shape e) (sem : DmaSem sig) (h1 : (src.slice r hr).view.WordExact) (h2 : (DmaTarget.here (nD := nD) (τ := τ) (p := .tc) dst).view.WordExact)
    (h3 : DmaTarget.Typed (nD := nD) (τ := τ) (p := .tc) sp (.dma sem) (.here dst)) (q : PosShare TreeShare) (X : s.Idx → Elt F e)
    {N : ℕ} (hN : dst.view.dmaCredit = N) {D : Fin n → sProp 𝕄} {j : ℕ} (hj : j < n)
    (hD : iprop(owns (c : Thread nD τ) dst fullShare (fun x => X (r.emb x)) ∗ owns (c : Thread nD τ) src q X) ⊢ D ⟨j, hj⟩) (K : PUnit → sProp 𝕄) :
    iprop((∃ p, owns (c : Thread nD τ) dst fullShare p) ∗ owns (c : Thread nD τ) src q X ∗ Batch EC (c : Thread nD τ) (.dma sem) () N D j 0
        ∗ (Batch EC (c : Thread nD τ) (.dma sem) () N D (j + 1) 0 -∗ K ⟨⟩))
      ⊢ wpB c (Prog.lift (.enqueueDma (src.slice r hr) (.here dst) (.dma sem) h1 h2 h3)) K := by
  have hD' := hD
  unfold owns at hD ⊢
  iintro ⟨⟨%p, %fd, %hp, Hd⟩, ⟨%fs, %hX, Hs⟩, HB, Hk⟩
  have hsub : (src.slice r hr).view.set ⊆ src.view.set := View.set_slice_subset _ _
  have hdis : Disjoint (src.slice r hr).view.set (src.view.set \ (src.slice r hr).view.set) := Finset.disjoint_sdiff
  have hun := pointsTo_union (Ix := Unit) (Name := ℕ) (U := Pipeline.UD sig nD τ) (Lvl := ℕ) (ℓ := src.view.loc (c : Thread nD τ)) (q := q) (f := fs) hdis
  rw [Finset.union_sdiff_of_subset hsub] at hun
  ihave Hs' := hun.1 $$ Hs
  icases Hs' with ⟨Hs, Hrem⟩
  unfold Batch
  icases HB with ⟨%γ, %γ₀, %κ, #Hinv, HI, H0, Hcred⟩
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  iapply (wp_enqueueDmaAs (defs := defs₀ (F := F)) Variants.none (c : Thread nD τ) none Set.univ () (dst := dst) (sem := .dma sem) N hN) $$ [Hs Hd] [Ht Hrem]
  · isplitl [Hs]; · iexact Hs
    iapply (pointsTo_writeUpdate (c : Thread nD τ) (S := dst.view.set) subset_rfl) $$ Hd
  · iapply (batch_creditUpdate_with EC (put := (src.view.loc (c : Thread nD τ) ↦[src.view.set \ (src.slice r hr).view.set]{q} fs)) ⟨j, hj⟩ ?_)
    rotate_left
    · isplitr; · iexact Hinv
      isplitl [Ht]; · iexact Ht
      iexact Hrem
    · refine BIBase.Entails.trans ?_ hD
      iintro ⟨Hrem, Hd, Hs⟩
      isplitl [Hd]
      · iexists _
        isplitr; swap; · iexact Hd
        ipureintro
        rw [View.read_write_univ]
        funext x
        rw [← hX]
        rfl
      iexists fs
      isplitr; · ipureintro; exact hX
      iapply hun.2
      isplitl [Hs]; · iexact Hs
      iexact Hrem
  iintro Hcred'
  rw [wp_ret]
  imodintro
  iapply Hk
  iexists γ, γ₀, κ
  isplitr; · iexact Hinv
  isplitl [HI]; · iexact HI
  isplitl [H0]; · iexact H0
  rw [show (j + 1) * N - 0 = (j * N - 0) + N by rw [Nat.succ_mul]; omega, ← tallyAt_add]
  icombine Hcred Hcred' as H
  iexact H

/-- Waiting for one copy's worth of a batch wholly started. -/
theorem wait_spec {sp sp' : Space} {s s' : Shape} {e e' : EltTy} {n : ℕ} (src : Memref sig .tc sp s' e') (dst : Memref sig .tc sp' s e) (sem : DmaSem sig)
    (h1 : src.view.WordExact) (h2 : dst.view.WordExact) {N : ℕ} (hN : dst.view.dmaCredit = N) {D : Fin n → sProp 𝕄} {u : ℕ} (hu : u < n)
    (K : PUnit → sProp 𝕄) :
    iprop(Batch EC (c : Thread nD τ) (.dma sem) () N D n (N * u) ∗ (∃ W, owes (c : Thread nD τ) 0 W)
        ∗ (Batch EC (c : Thread nD τ) (.dma sem) () N D n (N * (u + 1)) -∗ (∃ W, owes (c : Thread nD τ) 0 W) -∗ K ⟨⟩))
      ⊢ wpB c (Prog.lift (.waitDma2 sem src dst h1 h2)) K := by
  iintro ⟨HB, ⟨%W, HW⟩, Hk⟩
  iapply (wp_waitBatchMulO EC Variants.none (c : Thread nD τ) none (defs := defs₀ (F := F)) () (N := N) (u := N * u) (j := n) (O := 0) (W := W) 1 (by rw [hN, one_mul])
    (by rw [one_mul]; rw [← Nat.mul_succ]; exact Nat.mul_le_mul_left _ hu)) $$ [HB HW]
  · isplitl [HB]; · iexact HB
    isplitl [HW]; · iexact HW
    rw [MayWait_zero]; iempintro
  iintro ⟨HB, HW⟩
  rw [wp_ret]
  imodintro
  rw [show N * u + 1 * N = N * (u + 1) by rw [one_mul, ← Nat.mul_succ]]
  iapply Hk $$ HB
  iexists _; iexact HW

end Cert.KernelIdeal
-- ==== Proof.Flight.lean ====
module
public import proofs.«01_k».proof.Proof.Steps
@[expose] public section
/-!
The double buffer.  A slot holds eight windows of each of the four buffers (codes and scales, of keys and of values).
A slot is *idle* when its windows are owned at anything and its two counters are zero; *in flight* when every copy of a
group of eight sequences has been started into it; *landed* when they have all been waited for, and each window holds
the 640 positions of its sequence.  `issueAll_spec` takes a slot from idle to in flight, `awaitAll_spec` from in flight
to landed.
-/
noncomputable section
namespace Cert.KernelIdeal
open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-- What the body reads from memory of its own accord: the codes and scales of the cache, of keys (`false`) and of
    values (`true`), and the table of starts, each of which names a window inside the cache. -/
structure Cache (F : FTy → Type) where
  codes : Bool → Vec F S2x64x2560000 .i8
  scales : Bool → Vec F S2x2x2560000 .f32
  table : Vec F S5001 .i32
  ok : ∀ n, n < 5000 → k0_chk17 (tbl table n)

/-- The start of sequence `n`. -/
def Cache.start (C : Cache F) (n : ℕ) : BitVec 32 := if n < 5000 then tbl C.table n else 0#32

theorem chk17_zero : k0_chk17 0#32 := by
  refine ⟨?_, ?_, ?_, ?_⟩ <;> first | (simp only [Function.Embedding.toFun_eq_coe]; decide) | decide

theorem Cache.start_ok (C : Cache F) (n : ℕ) : k0_chk17 (C.start n) := by
  unfold Cache.start; split
  · exact C.ok n ‹_›
  · exact chk17_zero

theorem Cache.start_eq (C : Cache F) {n : ℕ} (hn : n < 5000) : C.start n = tbl C.table n := if_pos hn

/-- The window of codes that starts at word `v`. -/
def codesAt (X : Vec F S2x64x2560000 .i8) (v : BitVec 32) (hv : k0_chk17 v) : Vec F S2x64x640 .i8 :=
  fun x => X ((Rect.unit (s := S2x64x2560000) (k0_off68 v) S2x64x640.size (k0_off68_inb v hv)).emb x)

/-- The window of scales that starts at word `v`. -/
def scalesAt (X : Vec F S2x2x2560000 .f32) (v : BitVec 32) (hv : k0_chk17 v) : Vec F S2x2x640 .f32 :=
  fun x => X ((Rect.unit (s := S2x2x2560000) (k0_off70 v) S2x2x640.size (k0_off70_inb v hv)).emb x)

/-- The windows of sequence `n`. -/
def Cache.codesOf (C : Cache F) (b : Bool) (n : ℕ) : Vec F S2x64x640 .i8 := codesAt (C.codes b) (C.start n) (C.start_ok n)
def Cache.scalesOf (C : Cache F) (b : Bool) (n : ℕ) : Vec F S2x2x640 .f32 := scalesAt (C.scales b) (C.start n) (C.start_ok n)

/-! ### The buffers -/

def codesSrc : Bool → Memref sig .tc .hbm S2x64x2560000 .i8
  | false => Memref.whole main_v0
  | true => Memref.whole main_v1
def scalesSrc : Bool → Memref sig .tc .hbm S2x2x2560000 .f32
  | false => Memref.whole main_v2
  | true => Memref.whole main_v3
def codesBuf : Bool → Memref sig .tc .vmem S2x8x2x64x640 .i8
  | false => Memref.whole cc0_scratch0
  | true => Memref.whole cc0_scratch2
def scalesBuf : Bool → Memref sig .tc .vmem S2x8x2x2x640 .f32
  | false => Memref.whole cc0_scratch1
  | true => Memref.whole cc0_scratch3

theorem codesSrc_whole (b : Bool) : (codesSrc b).IsWhole := by cases b <;> exact Memref.isWhole_whole _
theorem codesBuf_whole (b : Bool) : (codesBuf b).IsWhole := by cases b <;> exact Memref.isWhole_whole _

/-- Window `k` of slot `s`. -/
abbrev codesRect {s k : ℕ} (hs : s < 2) (hk : k < 8) : Rect S2x8x2x64x640 :=
  Rect.unit (s := S2x8x2x64x640) ![s, k, 0, 0, 0] S1x1x2x64x640.size (lt_2_8 hs hk)
abbrev scalesRect {s k : ℕ} (hs : s < 2) (hk : k < 8) : Rect S2x8x2x2x640 :=
  Rect.unit (s := S2x8x2x2x640) ![s, k, 0, 0, 0] S1x1x2x2x640.size (lt_2_8_scale hs hk)
abbrev codesWin (b : Bool) {s k : ℕ} (hs : s < 2) (hk : k < 8) : Memref sig .tc .vmem S2x64x640 .i8 :=
  ((codesBuf b).slice (codesRect hs hk) (fun _ => rfl)).squeeze S2x64x640 squeezes_S1x1x2x64x640_S2x64x640
abbrev scalesWin (b : Bool) {s k : ℕ} (hs : s < 2) (hk : k < 8) : Memref sig .tc .vmem S2x2x640 .f32 :=
  ((scalesBuf b).slice (scalesRect hs hk) (fun _ => rfl)).squeeze S2x2x640 squeezes_S1x1x2x2x640_S2x2x640

/-- The counters of a slot. -/
abbrev codesSem {s : ℕ} (hs : s < 2) : DmaSem sig := ((cc0_scratch6.slice (Rect.unit (s := S2) ![s] S1.size (lt_sem hs))).squeeze S_ squeezes_S1_S_).sem
abbrev scalesSem {s : ℕ} (hs : s < 2) : DmaSem sig := ((cc0_scratch7.slice (Rect.unit (s := S2) ![s] S1.size (lt_sem hs))).squeeze S_ squeezes_S1_S_).sem

/-- What one copy of codes, and one of scales, adds to its counter. -/
def codesAmt : ℕ := (codesWin false (s := 0) (k := 0) (by decide) (by decide)).view.dmaCredit
def scalesAmt : ℕ := (scalesWin false (s := 0) (k := 0) (by decide) (by decide)).view.dmaCredit

theorem codesAmt_eq (b : Bool) {s k : ℕ} (hs : s < 2) (hk : k < 8) : (codesWin b hs hk).view.dmaCredit = codesAmt := by
  cases b <;> rfl
theorem scalesAmt_eq (b : Bool) {s k : ℕ} (hs : s < 2) (hk : k < 8) : (scalesWin b hs hk).view.dmaCredit = scalesAmt := by
  cases b <;> rfl
theorem codesAmt_pos : 0 < codesAmt := View.dmaCredit_pos _ (by decide)
theorem scalesAmt_pos : 0 < scalesAmt := View.dmaCredit_pos _ (by decide)

/-! ### The states of a slot -/

variable (c : Dev nD) (C : Cache F)

/-- A share of the cache's codes (scales) for the copies into window `k` of slot `s`. -/
abbrev codesTok (b : Bool) (s k : ℕ) : sProp 𝕄 := owns (c : Thread nD τ) (codesSrc b) (shareTokN fullShare (8 * s + k)) (C.codes b)
abbrev scalesTok (b : Bool) (s k : ℕ) : sProp 𝕄 := owns (c : Thread nD τ) (scalesSrc b) (shareTokN fullShare (8 * s + k)) (C.scales b)

/-- A window at anything, and the share of the cache its copy reads under. -/
abbrev idleCodes (s : ℕ) (hs : s < 2) (b : Bool) (k : ℕ) (hk : k < 8) : sProp 𝕄 :=
  iprop((∃ p, owns (c : Thread nD τ) (codesWin b hs hk) fullShare p) ∗ codesTok c C b s k)
abbrev idleScales (s : ℕ) (hs : s < 2) (b : Bool) (k : ℕ) (hk : k < 8) : sProp 𝕄 :=
  iprop((∃ p, owns (c : Thread nD τ) (scalesWin b hs hk) fullShare p) ∗ scalesTok c C b s k)
/-- A window at its sequence's codes (scales), and the share. -/
abbrev landCodes (s : ℕ) (hs : s < 2) (g : ℕ) (b : Bool) (k : ℕ) (hk : k < 8) : sProp 𝕄 :=
  iprop(owns (c : Thread nD τ) (codesWin b hs hk) fullShare (C.codesOf b (8 * g + k)) ∗ codesTok c C b s k)
abbrev landScales (s : ℕ) (hs : s < 2) (g : ℕ) (b : Bool) (k : ℕ) (hk : k < 8) : sProp 𝕄 :=
  iprop(owns (c : Thread nD τ) (scalesWin b hs hk) fullShare (C.scalesOf b (8 * g + k)) ∗ scalesTok c C b s k)

instance (s : ℕ) (hs : s < 2) (g : ℕ) (b : Bool) (k : ℕ) (hk : k < 8) : Storable (upEmb : UEmb _ 𝕄) (landCodes c C s hs g b k hk) := by
  unfold landCodes; infer_instance
instance (s : ℕ) (hs : s < 2) (g : ℕ) (b : Bool) (k : ℕ) (hk : k < 8) : Storable (upEmb : UEmb _ 𝕄) (landScales c C s hs g b k hk) := by
  unfold landScales; infer_instance

/-- The sixteen copies on one counter, in the order they are started: of each window the keys, then the values. -/
def byCopy (P : Bool → (k : ℕ) → k < 8 → sProp 𝕄) (t : Fin 16) : sProp 𝕄 := P (decide (t.val % 2 = 1)) (t.val / 2) (by omega)

instance byCopy_storable (P : Bool → (k : ℕ) → k < 8 → sProp 𝕄) [∀ b k hk, Storable (upEmb : UEmb _ 𝕄) (P b k hk)] (t : Fin 16) :
    Storable (upEmb : UEmb _ 𝕄) (byCopy P t) := by unfold byCopy; infer_instance

theorem byCopy_even (P : Bool → (k : ℕ) → k < 8 → sProp 𝕄) {k : ℕ} (hk : k < 8) : byCopy P ⟨2 * k, by omega⟩ = P false k hk := by
  unfold byCopy
  have h1 : (2 * k) % 2 = 0 := by omega
  have h2 : (2 * k) / 2 = k := by omega
  simp only [h1, h2]; rfl
theorem byCopy_odd (P : Bool → (k : ℕ) → k < 8 → sProp 𝕄) {k : ℕ} (hk : k < 8) : byCopy P ⟨2 * k + 1, by omega⟩ = P true k hk := by
  unfold byCopy
  have h1 : (2 * k + 1) % 2 = 1 := by omega
  have h2 : (2 * k + 1) / 2 = k := by omega
  simp only [h1, h2]; rfl

/-- Nothing in flight. -/
def idle (s : ℕ) (hs : s < 2) : sProp 𝕄 :=
  iprop((semVal ((c : Thread nD τ), .dma (codesSem hs)) 0 ∗ bigSep Finset.univ (byCopy (idleCodes c C s hs)))
    ∗ (semVal ((c : Thread nD τ), .dma (scalesSem hs)) 0 ∗ bigSep Finset.univ (byCopy (idleScales c C s hs))))
/-- `j` of group `g`'s copies started on each counter and `u` waited for. -/
def flight (s : ℕ) (hs : s < 2) (g j u : ℕ) : sProp 𝕄 :=
  iprop(Batch EC (c : Thread nD τ) (.dma (codesSem hs)) () codesAmt (byCopy (landCodes c C s hs g)) j (codesAmt * u)
    ∗ Batch EC (c : Thread nD τ) (.dma (scalesSem hs)) () scalesAmt (byCopy (landScales c C s hs g)) j (scalesAmt * u))
/-- Every window of group `g` landed. -/
def landed (s : ℕ) (hs : s < 2) (g : ℕ) : sProp 𝕄 :=
  iprop((semVal ((c : Thread nD τ), .dma (codesSem hs)) 0 ∗ bigSep Finset.univ (byCopy (landCodes c C s hs g)))
    ∗ (semVal ((c : Thread nD τ), .dma (scalesSem hs)) 0 ∗ bigSep Finset.univ (byCopy (landScales c C s hs g))))

/-- A landed slot may be used again. -/
theorem landed_idle (s : ℕ) (hs : s < 2) (g : ℕ) : landed c C s hs g ⊢ idle c C s hs := by
  have h1 : ∀ t ∈ (Finset.univ : Finset (Fin 16)), byCopy (landCodes c C s hs g) t ⊢ byCopy (idleCodes c C s hs) t := fun t _ => by
    unfold byCopy
    show iprop(_ ∗ _) ⊢ iprop(_ ∗ _)
    iintro ⟨H, Ht⟩
    isplitl [H]; · iexists _; iexact H
    iexact Ht
  have h2 : ∀ t ∈ (Finset.univ : Finset (Fin 16)), byCopy (landScales c C s hs g) t ⊢ byCopy (idleScales c C s hs) t := fun t _ => by
    unfold byCopy
    show iprop(_ ∗ _) ⊢ iprop(_ ∗ _)
    iintro ⟨H, Ht⟩
    isplitl [H]; · iexists _; iexact H
    iexact Ht
  unfold landed idle
  iintro ⟨⟨H1, H2⟩, H3, H4⟩
  isplitl [H1 H2]
  · isplitl [H1]; · iexact H1
    iapply (show bigSep Finset.univ (byCopy (landCodes c C s hs g)) ⊢ bigSep Finset.univ (byCopy (idleCodes c C s hs)) from bigSep_mono h1) $$ H2
  · isplitl [H3]; · iexact H3
    iapply (show bigSep Finset.univ (byCopy (landScales c C s hs g)) ⊢ bigSep Finset.univ (byCopy (idleScales c C s hs)) from bigSep_mono h2) $$ H4

theorem pending_take2 (P : Bool → (k : ℕ) → k < 8 → sProp 𝕄) {k : ℕ} (hk : k < 8) :
    bigSep (pending (2 * k)) (byCopy P) ⊢ iprop(P false k hk ∗ P true k hk ∗ bigSep (pending (2 * k + 2)) (byCopy P)) :=
  BIBase.Entails.of_eq (by
    rw [pending_succ (show 2 * k < 16 by omega), bigSep_insert (not_mem_pending_succ (by omega)),
      pending_succ (show 2 * k + 1 < 16 by omega), bigSep_insert (not_mem_pending_succ (by omega)), byCopy_even _ hk, byCopy_odd _ hk]; rfl)

/-! ### The pieces that start and wait for copies -/

/-- The table of starts, where the body reads it. -/
abbrev table : Memref sig .tc .smem S5001 .i32 := Memref.whole main_arg7

theorem issueCodes_spec (b : Bool) {s k : ℕ} (hs : s < 2) (hk : k < 8) (g : ℕ) (hsrc : (codesSrc b).IsWhole) (hdst : (codesBuf b).IsWhole)
    (v : BitVec 32) (hv : k0_chk17 v) (hvg : v = C.start (8 * g + k)) {D : Fin 16 → sProp 𝕄} {j : ℕ} (hj : j < 16)
    (hD : D ⟨j, hj⟩ = landCodes c C s hs g b k hk) (K : PUnit → sProp 𝕄) :
    iprop((∃ p, owns (c : Thread nD τ) (codesWin b hs hk) fullShare p) ∗ codesTok c C b s k
        ∗ Batch EC (c : Thread nD τ) (.dma (codesSem hs)) () codesAmt D j 0
        ∗ (Batch EC (c : Thread nD τ) (.dma (codesSem hs)) () codesAmt D (j + 1) 0 -∗ K ⟨⟩))
      ⊢ wpB c (issueCodes (F := F) cc0_scratch6 (codesSrc b) hsrc (codesBuf b) hdst hs hk v hv) K := by
  subst hvg
  have h := enqueue_spec c (codesSrc b) (Rect.unit (s := S2x64x2560000) (k0_off68 (C.start (8 * g + k))) S2x64x640.size (k0_off68_inb (C.start (8 * g + k)) hv)) (fun _ => rfl)
    (codesWin b hs hk) (codesSem hs) (hsrc.wordExact_slice rfl _ (k0_off68_wordsi8 (C.start (8 * g + k)) hv)) ((hdst.wordExact_slice rfl _ (words_2_8 hs hk)).reshape _ _) ⟨Or.inl rfl, trivial⟩
    (shareTokN fullShare (8 * s + k)) (C.codes b) (codesAmt_eq b hs hk) hj (D := D)
    (BIBase.Entails.of_eq hD.symm) K
  exact h

theorem issueScales_spec (b : Bool) {s k : ℕ} (hs : s < 2) (hk : k < 8) (g : ℕ)
    (v : BitVec 32) (hv : k0_chk17 v) (hvg : v = C.start (8 * g + k)) {D : Fin 16 → sProp 𝕄} {j : ℕ} (hj : j < 16)
    (hD : D ⟨j, hj⟩ = landScales c C s hs g b k hk) (K : PUnit → sProp 𝕄) :
    iprop((∃ p, owns (c : Thread nD τ) (scalesWin b hs hk) fullShare p) ∗ scalesTok c C b s k
        ∗ Batch EC (c : Thread nD τ) (.dma (scalesSem hs)) () scalesAmt D j 0
        ∗ (Batch EC (c : Thread nD τ) (.dma (scalesSem hs)) () scalesAmt D (j + 1) 0 -∗ K ⟨⟩))
      ⊢ wpB c (issueScales (F := F) cc0_scratch7 (scalesSrc b) (scalesBuf b) hs hk v hv) K := by
  subst hvg
  have h := enqueue_spec c (scalesSrc b) (Rect.unit (s := S2x2x2560000) (k0_off70 (C.start (8 * g + k))) S2x2x640.size (k0_off70_inb (C.start (8 * g + k)) hv)) (fun _ => rfl)
    (scalesWin b hs hk) (scalesSem hs) (View.wordExact_bits rfl) ((View.wordExact_bits rfl).reshape _ _) ⟨Or.inl rfl, trivial⟩
    (shareTokN fullShare (8 * s + k)) (C.scales b) (scalesAmt_eq b hs hk) hj (D := D)
    (BIBase.Entails.of_eq hD.symm) K
  exact h

theorem awaitCodes_spec (b : Bool) {s k : ℕ} (hs : s < 2) (hk : k < 8) (hsrc : (codesSrc b).IsWhole) (hdst : (codesBuf b).IsWhole)
    (v : BitVec 32) (hv : k0_chk17 v) {D : Fin 16 → sProp 𝕄} {u : ℕ} (hu : u < 16) (K : PUnit → sProp 𝕄) :
    iprop(Batch EC (c : Thread nD τ) (.dma (codesSem hs)) () codesAmt D 16 (codesAmt * u) ∗ (∃ W, owes (c : Thread nD τ) 0 W)
        ∗ (Batch EC (c : Thread nD τ) (.dma (codesSem hs)) () codesAmt D 16 (codesAmt * (u + 1)) -∗ (∃ W, owes (c : Thread nD τ) 0 W) -∗ K ⟨⟩))
      ⊢ wpB c (awaitCodes (F := F) cc0_scratch6 (codesSrc b) hsrc (codesBuf b) hdst hs hk v hv) K :=
  wait_spec c (s' := S2x64x640) _ (codesWin b hs hk) (codesSem hs) _ _ (codesAmt_eq b hs hk) hu K

theorem awaitScales_spec (b : Bool) {s k : ℕ} (hs : s < 2) (hk : k < 8)
    (v : BitVec 32) (hv : k0_chk17 v) {D : Fin 16 → sProp 𝕄} {u : ℕ} (hu : u < 16) (K : PUnit → sProp 𝕄) :
    iprop(Batch EC (c : Thread nD τ) (.dma (scalesSem hs)) () scalesAmt D 16 (scalesAmt * u) ∗ (∃ W, owes (c : Thread nD τ) 0 W)
        ∗ (Batch EC (c : Thread nD τ) (.dma (scalesSem hs)) () scalesAmt D 16 (scalesAmt * (u + 1)) -∗ (∃ W, owes (c : Thread nD τ) 0 W) -∗ K ⟨⟩))
      ⊢ wpB c (awaitScales (F := F) cc0_scratch7 (scalesSrc b) (scalesBuf b) hs hk v hv) K :=
  wait_spec c (s' := S2x2x640) _ (scalesWin b hs hk) (scalesSem hs) _ _ (scalesAmt_eq b hs hk) hu K

/-- One sequence's four copies. -/
theorem issue_spec {s k : ℕ} (hs : s < 2) (hk : k < 8) (g : ℕ) (v : BitVec 32) (hv : k0_chk17 v) (hvg : v = C.start (8 * g + k)) (K : PUnit → sProp 𝕄) :
    iprop(flight c C s hs g (2 * k) 0 ∗ bigSep (pending (2 * k)) (byCopy (idleCodes c C s hs)) ∗ bigSep (pending (2 * k)) (byCopy (idleScales c C s hs))
        ∗ (flight c C s hs g (2 * k + 2) 0 -∗ bigSep (pending (2 * k + 2)) (byCopy (idleCodes c C s hs)) -∗ bigSep (pending (2 * k + 2)) (byCopy (idleScales c C s hs)) -∗ K ⟨⟩))
      ⊢ wpB c (issue (F := F) (codesSrc false) (codesSrc_whole false) (scalesSrc false) (codesSrc true) (codesSrc_whole true) (scalesSrc true)
          (codesBuf false) (codesBuf_whole false) (scalesBuf false) (codesBuf true) (codesBuf_whole true) (scalesBuf true) cc0_scratch6 cc0_scratch7 hs hk v hv) K := by
  subst hvg
  unfold flight issue
  rw [Nat.mul_zero, Nat.mul_zero]
  iintro ⟨⟨HB, HS⟩, Hi, Hj, Hk⟩
  ihave Hi' := pending_take2 _ hk $$ Hi
  icases Hi' with ⟨⟨Hi0, Ht0⟩, ⟨Hi1, Ht1⟩, Hi⟩
  ihave Hj' := pending_take2 _ hk $$ Hj
  icases Hj' with ⟨⟨Hj0, Hu0⟩, ⟨Hj1, Hu1⟩, Hj⟩
  rw [wpB_bind]
  iapply (issueCodes_spec c C false hs hk g _ _ _ hv rfl (show 2 * k < 16 by omega) (byCopy_even _ hk))
  isplitl [Hi0]; · iexact Hi0
  isplitl [Ht0]; · iexact Ht0
  isplitl [HB]; · iexact HB
  iintro HB
  rw [wpB_bind]
  iapply (issueScales_spec c C false hs hk g _ hv rfl (show 2 * k < 16 by omega) (byCopy_even _ hk))
  isplitl [Hj0]; · iexact Hj0
  isplitl [Hu0]; · iexact Hu0
  isplitl [HS]; · iexact HS
  iintro HS
  rw [wpB_bind]
  iapply (issueCodes_spec c C true hs hk g _ _ _ hv rfl (show 2 * k + 1 < 16 by omega) (byCopy_odd _ hk))
  isplitl [Hi1]; · iexact Hi1
  isplitl [Ht1]; · iexact Ht1
  isplitl [HB]; · iexact HB
  iintro HB
  iapply (issueScales_spec c C true hs hk g _ hv rfl (show 2 * k + 1 < 16 by omega) (byCopy_odd _ hk))
  isplitl [Hj1]; · iexact Hj1
  isplitl [Hu1]; · iexact Hu1
  isplitl [HS]; · iexact HS
  iintro HS
  iapply Hk $$ [HB HS] [Hi] [Hj]
  · isplitl [HB]; · iexact HB
    iexact HS
  · iexact Hi
  · iexact Hj

/-- The waits for one sequence's four copies. -/
theorem await_spec {s k : ℕ} (hs : s < 2) (hk : k < 8) (g : ℕ) (v : BitVec 32) (hv : k0_chk17 v) (K : PUnit → sProp 𝕄) :
    iprop(flight c C s hs g 16 (2 * k) ∗ (∃ W, owes (c : Thread nD τ) 0 W)
        ∗ (flight c C s hs g 16 (2 * k + 2) -∗ (∃ W, owes (c : Thread nD τ) 0 W) -∗ K ⟨⟩))
      ⊢ wpB c (await (F := F) (codesSrc false) (codesSrc_whole false) (scalesSrc false) (codesSrc true) (codesSrc_whole true) (scalesSrc true)
          (codesBuf false) (codesBuf_whole false) (scalesBuf false) (codesBuf true) (codesBuf_whole true) (scalesBuf true) cc0_scratch6 cc0_scratch7 hs hk v hv) K := by
  unfold flight await
  iintro ⟨⟨HB, HS⟩, HW, Hk⟩
  rw [wpB_bind]
  iapply (awaitCodes_spec c false hs hk _ _ _ hv (show 2 * k < 16 by omega))
  isplitl [HB]; · iexact HB
  isplitl [HW]; · iexact HW
  iintro HB HW
  rw [wpB_bind]
  iapply (awaitScales_spec c false hs hk _ hv (show 2 * k < 16 by omega))
  isplitl [HS]; · iexact HS
  isplitl [HW]; · iexact HW
  iintro HS HW
  rw [wpB_bind]
  iapply (awaitCodes_spec c true hs hk _ _ _ hv (show 2 * k + 1 < 16 by omega))
  isplitl [HB]; · iexact HB
  isplitl [HW]; · iexact HW
  iintro HB HW
  iapply (awaitScales_spec c true hs hk _ hv (show 2 * k + 1 < 16 by omega))
  isplitl [HS]; · iexact HS
  isplitl [HW]; · iexact HW
  iintro HS HW
  iapply Hk $$ [HB HS] HW
  isplitl [HB]; · iexact HB
  iexact HS

end Cert.KernelIdeal
-- ==== Proof.Slots.lean ====
module
public import proofs.«01_k».proof.Proof.Flight
@[expose] public section
/-!
A whole slot: all its copies started, and all of them waited for.
-/
noncomputable section
namespace Cert.KernelIdeal
open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

variable (c : Dev nD) (C : Cache F)

/-- The table of starts, owned. -/
abbrev tableOwn : sProp 𝕄 := owns (c : Thread nD τ) table fullShare.right C.table

/-- Eight sequences' copies, from batches of none. -/
theorem issueAll_start {s : ℕ} (hs : s < 2) (g : ℕ) (n : ℕ → ℕ) (hn : ∀ k, k < 8 → n k < 5001) (P : BitVec 32 → Prop) (dec : ∀ v, Decidable (P v))
    (hP : ∀ v, P v → k0_chk17 v) (hPn : ∀ k, k < 8 → P (tbl C.table (n k))) (hng : ∀ k, k < 8 → tbl C.table (n k) = C.start (8 * g + k)) (K : PUnit → sProp 𝕄) :
    iprop(tableOwn c C ∗ flight c C s hs g (2 * 0) 0 ∗ bigSep (pending (2 * 0)) (byCopy (idleCodes c C s hs)) ∗ bigSep (pending (2 * 0)) (byCopy (idleScales c C s hs)) ∗ (tableOwn c C -∗ flight c C s hs g 16 0 -∗ K ⟨⟩))
      ⊢ wpB c (issueAll (F := F) table (codesSrc false) (codesSrc_whole false) (scalesSrc false) (codesSrc true) (codesSrc_whole true) (scalesSrc true)
          (codesBuf false) (codesBuf_whole false) (scalesBuf false) (codesBuf true) (codesBuf_whole true) (scalesBuf true) cc0_scratch6 cc0_scratch7 hs n hn P dec hP) K := by
  unfold issueAll
  iintro ⟨HT, Hf, Hi, Hj, Hk⟩
  rw [wpB_bind]
  iapply (start_spec c table (hn 0 (by decide)) fullShare.right C.table P dec (hPn 0 (by decide)))
  isplitl [HT]; · iexact HT
  iintro HT
  rw [wpB_bind]
  iapply (start_spec c table (hn 1 (by decide)) fullShare.right C.table P dec (hPn 1 (by decide)))
  isplitl [HT]; · iexact HT
  iintro HT
  rw [wpB_bind]
  iapply (start_spec c table (hn 2 (by decide)) fullShare.right C.table P dec (hPn 2 (by decide)))
  isplitl [HT]; · iexact HT
  iintro HT
  rw [wpB_bind]
  iapply (start_spec c table (hn 3 (by decide)) fullShare.right C.table P dec (hPn 3 (by decide)))
  isplitl [HT]; · iexact HT
  iintro HT
  rw [wpB_bind]
  iapply (start_spec c table (hn 4 (by decide)) fullShare.right C.table P dec (hPn 4 (by decide)))
  isplitl [HT]; · iexact HT
  iintro HT
  rw [wpB_bind]
  iapply (start_spec c table (hn 5 (by decide)) fullShare.right C.table P dec (hPn 5 (by decide)))
  isplitl [HT]; · iexact HT
  iintro HT
  rw [wpB_bind]
  iapply (start_spec c table (hn 6 (by decide)) fullShare.right C.table P dec (hPn 6 (by decide)))
  isplitl [HT]; · iexact HT
  iintro HT
  rw [wpB_bind]
  iapply (start_spec c table (hn 7 (by decide)) fullShare.right C.table P dec (hPn 7 (by decide)))
  isplitl [HT]; · iexact HT
  iintro HT
  rw [wpB_bind]
  iapply (issue_spec c C hs (k := 0) _ g _ (hP _ (hPn 0 (by decide))) (hng 0 (by decide)))
  isplitl [Hf]; · iexact Hf
  isplitl [Hi]; · iexact Hi
  isplitl [Hj]; · iexact Hj
  iintro Hf Hi Hj
  rw [wpB_bind]
  iapply (issue_spec c C hs (k := 1) _ g _ (hP _ (hPn 1 (by decide))) (hng 1 (by decide)))
  isplitl [Hf]; · iexact Hf
  isplitl [Hi]; · iexact Hi
  isplitl [Hj]; · iexact Hj
  iintro Hf Hi Hj
  rw [wpB_bind]
  iapply (issue_spec c C hs (k := 2) _ g _ (hP _ (hPn 2 (by decide))) (hng 2 (by decide)))
  isplitl [Hf]; · iexact Hf
  isplitl [Hi]; · iexact Hi
  isplitl [Hj]; · iexact Hj
  iintro Hf Hi Hj
  rw [wpB_bind]
  iapply (issue_spec c C hs (k := 3) _ g _ (hP _ (hPn 3 (by decide))) (hng 3 (by decide)))
  isplitl [Hf]; · iexact Hf
  isplitl [Hi]; · iexact Hi
  isplitl [Hj]; · iexact Hj
  iintro Hf Hi Hj
  rw [wpB_bind]
  iapply (issue_spec c C hs (k := 4) _ g _ (hP _ (hPn 4 (by decide))) (hng 4 (by decide)))
  isplitl [Hf]; · iexact Hf
  isplitl [Hi]; · iexact Hi
  isplitl [Hj]; · iexact Hj
  iintro Hf Hi Hj
  rw [wpB_bind]
  iapply (issue_spec c C hs (k := 5) _ g _ (hP _ (hPn 5 (by decide))) (hng 5 (by decide)))
  isplitl [Hf]; · iexact Hf
  isplitl [Hi]; · iexact Hi
  isplitl [Hj]; · iexact Hj
  iintro Hf Hi Hj
  rw [wpB_bind]
  iapply (issue_spec c C hs (k := 6) _ g _ (hP _ (hPn 6 (by decide))) (hng 6 (by decide)))
  isplitl [Hf]; · iexact Hf
  isplitl [Hi]; · iexact Hi
  isplitl [Hj]; · iexact Hj
  iintro Hf Hi Hj
  iapply (issue_spec c C hs (k := 7) _ g _ (hP _ (hPn 7 (by decide))) (hng 7 (by decide)))
  isplitl [Hf]; · iexact Hf
  isplitl [Hi]; · iexact Hi
  isplitl [Hj]; · iexact Hj
  iintro Hf Hi Hj
  iapply Hk $$ HT Hf

/-- Eight sequences' copies into an idle slot. -/
theorem issueAll_spec {s : ℕ} (hs : s < 2) (g : ℕ) (n : ℕ → ℕ) (hn : ∀ k, k < 8 → n k < 5001) (P : BitVec 32 → Prop) (dec : ∀ v, Decidable (P v))
    (hP : ∀ v, P v → k0_chk17 v) (hPn : ∀ k, k < 8 → P (tbl C.table (n k))) (hng : ∀ k, k < 8 → tbl C.table (n k) = C.start (8 * g + k)) (K : PUnit → sProp 𝕄) :
    iprop(tableOwn c C ∗ idle c C s hs ∗ (tableOwn c C -∗ flight c C s hs g 16 0 -∗ K ⟨⟩))
      ⊢ wpB c (issueAll (F := F) table (codesSrc false) (codesSrc_whole false) (scalesSrc false) (codesSrc true) (codesSrc_whole true) (scalesSrc true)
          (codesBuf false) (codesBuf_whole false) (scalesBuf false) (codesBuf true) (codesBuf_whole true) (scalesBuf true) cc0_scratch6 cc0_scratch7 hs n hn P dec hP) K := by
  unfold idle
  iintro ⟨HT, ⟨⟨Hsc, Hi⟩, Hss, Hj⟩, Hk⟩
  imod (batch_alloc' EC (c : Thread nD τ) () codesAmt (byCopy (landCodes c C s hs g)) (sm := .dma (codesSem hs))) $$ Hsc with HB
  imod (batch_alloc' EC (c : Thread nD τ) () scalesAmt (byCopy (landScales c C s hs g)) (sm := .dma (scalesSem hs))) $$ Hss with HS
  ihave Hf := (show iprop(Batch EC (c : Thread nD τ) (.dma (codesSem hs)) () codesAmt (byCopy (landCodes c C s hs g)) 0 0
    ∗ Batch EC (c : Thread nD τ) (.dma (scalesSem hs)) () scalesAmt (byCopy (landScales c C s hs g)) 0 0) ⊢ flight c C s hs g (2 * 0) 0 from BIBase.Entails.of_eq (by
      unfold flight; rw [Nat.mul_zero, Nat.mul_zero, Nat.mul_zero])) $$ [HB HS]
  · isplitl [HB]; · iexact HB
    iexact HS
  ihave Hi := (show bigSep Finset.univ (byCopy (idleCodes c C s hs)) ⊢ bigSep (pending (2 * 0)) (byCopy (idleCodes c C s hs)) from
    BIBase.Entails.of_eq (by rw [Nat.mul_zero, pending_zero])) $$ Hi
  ihave Hj := (show bigSep Finset.univ (byCopy (idleScales c C s hs)) ⊢ bigSep (pending (2 * 0)) (byCopy (idleScales c C s hs)) from
    BIBase.Entails.of_eq (by rw [Nat.mul_zero, pending_zero])) $$ Hj
  iapply (issueAll_start c C hs g n hn P dec hP hPn hng K)
  isplitl [HT]; · iexact HT
  isplitl [Hf]; · iexact Hf
  isplitl [Hi]; · iexact Hi
  isplitl [Hj]; · iexact Hj
  iexact Hk

/-- The waits for all of a slot's copies. -/
theorem awaitAll_spec {s : ℕ} (hs : s < 2) (g : ℕ) (n : ℕ → ℕ) (hn : ∀ k, k < 8 → n k < 5001)
    (hPn : ∀ k, k < 8 → k0_chk17 (tbl C.table (n k))) (K : PUnit → sProp 𝕄) :
    iprop(tableOwn c C ∗ flight c C s hs g 16 0 ∗ (∃ W, owes (c : Thread nD τ) 0 W)
        ∗ (tableOwn c C -∗ landed c C s hs g -∗ (∃ W, owes (c : Thread nD τ) 0 W) -∗ K ⟨⟩))
      ⊢ wpB c (awaitAll (F := F) table (codesSrc false) (codesSrc_whole false) (scalesSrc false) (codesSrc true) (codesSrc_whole true) (scalesSrc true)
          (codesBuf false) (codesBuf_whole false) (scalesBuf false) (codesBuf true) (codesBuf_whole true) (scalesBuf true) cc0_scratch6 cc0_scratch7 hs n hn) K := by
  unfold awaitAll landed
  iintro ⟨HT, Hf, HW, Hk⟩
  rw [wpB_bind]
  iapply (start_spec c table (hn 0 (by decide)) fullShare.right C.table k0_chk17 k0_chk17.dec (hPn 0 (by decide)))
  isplitl [HT]; · iexact HT
  iintro HT
  rw [wpB_bind]
  iapply (start_spec c table (hn 1 (by decide)) fullShare.right C.table k0_chk17 k0_chk17.dec (hPn 1 (by decide)))
  isplitl [HT]; · iexact HT
  iintro HT
  rw [wpB_bind]
  iapply (start_spec c table (hn 2 (by decide)) fullShare.right C.table k0_chk17 k0_chk17.dec (hPn 2 (by decide)))
  isplitl [HT]; · iexact HT
  iintro HT
  rw [wpB_bind]
  iapply (start_spec c table (hn 3 (by decide)) fullShare.right C.table k0_chk17 k0_chk17.dec (hPn 3 (by decide)))
  isplitl [HT]; · iexact HT
  iintro HT
  rw [wpB_bind]
  iapply (start_spec c table (hn 4 (by decide)) fullShare.right C.table k0_chk17 k0_chk17.dec (hPn 4 (by decide)))
  isplitl [HT]; · iexact HT
  iintro HT
  rw [wpB_bind]
  iapply (start_spec c table (hn 5 (by decide)) fullShare.right C.table k0_chk17 k0_chk17.dec (hPn 5 (by decide)))
  isplitl [HT]; · iexact HT
  iintro HT
  rw [wpB_bind]
  iapply (start_spec c table (hn 6 (by decide)) fullShare.right C.table k0_chk17 k0_chk17.dec (hPn 6 (by decide)))
  isplitl [HT]; · iexact HT
  iintro HT
  rw [wpB_bind]
  iapply (start_spec c table (hn 7 (by decide)) fullShare.right C.table k0_chk17 k0_chk17.dec (hPn 7 (by decide)))
  isplitl [HT]; · iexact HT
  iintro HT
  rw [wpB_bind]
  iapply (await_spec c C hs (k := 0) _ g _ (hPn 0 (by decide)))
  isplitl [Hf]; · iexact Hf
  isplitl [HW]; · iexact HW
  iintro Hf HW
  rw [wpB_bind]
  iapply (await_spec c C hs (k := 1) _ g _ (hPn 1 (by decide)))
  isplitl [Hf]; · iexact Hf
  isplitl [HW]; · iexact HW
  iintro Hf HW
  rw [wpB_bind]
  iapply (await_spec c C hs (k := 2) _ g _ (hPn 2 (by decide)))
  isplitl [Hf]; · iexact Hf
  isplitl [HW]; · iexact HW
  iintro Hf HW
  rw [wpB_bind]
  iapply (await_spec c C hs (k := 3) _ g _ (hPn 3 (by decide)))
  isplitl [Hf]; · iexact Hf
  isplitl [HW]; · iexact HW
  iintro Hf HW
  rw [wpB_bind]
  iapply (await_spec c C hs (k := 4) _ g _ (hPn 4 (by decide)))
  isplitl [Hf]; · iexact Hf
  isplitl [HW]; · iexact HW
  iintro Hf HW
  rw [wpB_bind]
  iapply (await_spec c C hs (k := 5) _ g _ (hPn 5 (by decide)))
  isplitl [Hf]; · iexact Hf
  isplitl [HW]; · iexact HW
  iintro Hf HW
  rw [wpB_bind]
  iapply (await_spec c C hs (k := 6) _ g _ (hPn 6 (by decide)))
  isplitl [Hf]; · iexact Hf
  isplitl [HW]; · iexact HW
  iintro Hf HW
  iapply wp_fupd
  iapply (await_spec c C hs (k := 7) _ g _ (hPn 7 (by decide)))
  isplitl [Hf]; · iexact Hf
  isplitl [HW]; · iexact HW
  iintro Hf HW
  ihave Hf' := (show flight c C s hs g 16 16 ⊢ iprop(Batch EC (c : Thread nD τ) (.dma (codesSem hs)) () codesAmt (byCopy (landCodes c C s hs g)) 16 (codesAmt * 16)
    ∗ Batch EC (c : Thread nD τ) (.dma (scalesSem hs)) () scalesAmt (byCopy (landScales c C s hs g)) 16 (scalesAmt * 16)) from by unfold flight; exact .rfl) $$ Hf
  icases Hf' with ⟨HB, HS⟩
  imod (batch_collect' EC (c : Thread nD τ) codesAmt_pos) $$ HB with ⟨HD, Hs⟩
  imod (batch_collect' EC (c : Thread nD τ) scalesAmt_pos) $$ HS with ⟨HD', Hs'⟩
  imodintro
  iapply Hk $$ HT [HD Hs HD' Hs'] HW
  isplitl [HD Hs]
  · isplitl [Hs]; · iexact Hs
    iexact HD
  · isplitl [Hs']; · iexact Hs'
    iexact HD'

end Cert.KernelIdeal
-- ==== Proof.Compute.lean ====
module
public import proofs.«01_k».proof.Proof.Slots
@[expose] public section
/-!
What a grid point computes: the rows of queries, each sequence's sixteen rows, and the block of results, as values of
the block of inputs and the windows landed; and the body's pieces that compute them.
-/
noncomputable section
namespace Cert.KernelIdeal
open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-! ### The values -/

/-- Half `h` of head `j`'s codes in a window. -/
def halfCodes (X : Vec F S2x64x640 .i8) (j h : Fin 2) : Vec F S1x1x1x32x640 .i8 := fun y =>
  X (ix3 j ⟨32 * h.val + (y 3).val, by have h1 : (y 3).val < 32 := (y 3).isLt; omega⟩ ⟨(y 4).val, (y 4).isLt⟩)
/-- Half `h`'s scales of head `j` in a window. -/
def halfScales (X : Vec F S2x2x640 .f32) (j h : Fin 2) : Vec F S1x1x1x1x640 .f32 := fun y => X (ix3 j h ⟨(y 4).val, (y 4).isLt⟩)
/-- A window's four half heads. -/
def halves (X : Vec F S2x64x640 .i8) (Y : Vec F S2x2x640 .f32) : Halves F :=
  ⟨halfCodes X 0 0, halfScales Y 0 0, halfCodes X 0 1, halfScales Y 0 1, halfCodes X 1 0, halfScales Y 1 0, halfCodes X 1 1, halfScales Y 1 1⟩
/-- Rows `16 k` to `16 k + 15`. -/
def rowsOf (Q : Vec F S128x128 .f32) (k : Fin 8) : Vec F S16x128 .f32 := fun y =>
  Q (ix2 ⟨16 * k.val + (y 0).val, by have h1 : (y 0).val < 16 := (y 0).isLt; omega⟩ ⟨(y 1).val, (y 1).isLt⟩)
/-- Row `k`. -/
def rowOf (X : Vec F S8x128 .f32) (k : Fin 8) : Vec F S1x128 .f32 := fun y => X (ix2 k ⟨(y 1).val, (y 1).isLt⟩)
/-- Every sixteenth row from row `r`. -/
def headRows (O : Vec F S128x128 .f32) (r : Fin 16) : Vec F S8x128 .f32 := fun y =>
  O (ix2 ⟨r.val + 16 * (y 0).val, by have h1 : (y 0).val < 8 := (y 0).isLt; omega⟩ ⟨(y 1).val, (y 1).isLt⟩)

/-- The rows of queries of a block of eight. -/
def queryRows (x : Vec F S8x896 .bf16) : Vec F S128x128 .f32 :=
  let put (r : ℕ) (hr : r < 16) (p : FVec F S8x128 .f32) (X : Vec F S128x128 .f32) : Vec F S128x128 .f32 := (⟨strideRect r hr, spos_16_1⟩ : Rect S128x128).overlay X p
  put 14 (by decide) (k0_pay21 (k0_pay2 x) lanes) <|
  put 13 (by decide) (k0_pay20 (k0_pay2 x) lanes) <|
  put 12 (by decide) (k0_pay19 (k0_pay2 x) lanes) <|
  put 11 (by decide) (k0_pay18 (k0_pay17 (k0_pay2 x) lanes)) <|
  put 10 (by decide) (k0_pay16 (k0_pay2 x) lanes) <|
  put 9 (by decide) (k0_pay15 (k0_pay2 x) lanes) <|
  put 8 (by decide) (k0_pay14 (k0_pay2 x) lanes) <|
  put 6 (by decide) (k0_pay13 (k0_pay11 (k0_pay2 x)) (k0_pay12 lanes) (Scalar.ofBits .f32 0x00000000#32)) <|
  put 5 (by decide) (k0_pay10 (k0_pay2 x) lanes) <|
  put 4 (by decide) (k0_pay9 (k0_pay2 x) lanes) <|
  put 3 (by decide) (k0_pay8 (k0_pay2 x) lanes) <|
  put 2 (by decide) (k0_pay7 lanes (k0_pay6 x)) <|
  put 1 (by decide) (k0_pay5 x) <|
  put 0 (by decide) (k0_pay4 x) (k0_pay3 (F := F))

/-- What sequence `8 g + k` leaves in its sixteen rows. -/
def seqOut (C : Cache F) (g : ℕ) (Q : Vec F S128x128 .f32) (KN VN : Vec F S8x128 .f32) (k : Fin 8) : FVec F S16x128 .f32 :=
  seqVal (tbl C.table (8 * g + k.val)) (tbl C.table (8 * g + k.val)) (tbl C.table (8 * g + k.val + 1)) (rowsOf Q k)
    (halves (C.codesOf false (8 * g + k.val)) (C.scalesOf false (8 * g + k.val))) (rowOf KN k)
    (halves (C.codesOf true (8 * g + k.val)) (C.scalesOf true (8 * g + k.val))) (rowOf VN k)

/-- The rows the eight sequences leave. -/
def outRows (C : Cache F) (g : ℕ) (Q : Vec F S128x128 .f32) (KN VN : Vec F S8x128 .f32) : Vec F S128x128 .f32 := fun z =>
  seqOut C g Q KN VN ⟨(z 0).val / 16, by have h1 : (z 0).val < 128 := (z 0).isLt; omega⟩ (ix2 ⟨(z 0).val % 16, by omega⟩ ⟨(z 1).val, (z 1).isLt⟩)

/-- The block of results of grid point `g`. -/
def blockOut (C : Cache F) (g : ℕ) (x : Vec F S8x896 .bf16) (KN VN : Vec F S8x128 .f32) : Vec F S8x896 .bf16 :=
  outVal (headRows (outRows C g (queryRows x) KN VN))

/-! ### Rectangles -/

theorem unit_whole_overlay {s : Shape} {α : Type} (off : Fin s.rank → ℕ) (h0 : ∀ a, off a = 0) (h : ∀ a, off a + s.size a ≤ s.size a) (X : s.Idx → α) (w : s.Idx → α) :
    (Rect.unit (s := s) off s.size h).overlay X w = w := by
  funext x
  have e : (Rect.unit (s := s) off s.size h).emb x = x := by
    funext a; apply Fin.ext
    show off a + 1 * (x a).val = (x a).val
    rw [h0 a]; omega
  conv_lhs => rw [← e]
  rw [Rect.overlay_emb]

theorem unit_whole_idx {s : Shape} (off : Fin s.rank → ℕ) (h0 : ∀ a, off a = 0) (h : ∀ a, off a + s.size a ≤ s.size a) (x : s.Idx) :
    (Rect.unit (s := s) off s.size h).toLoadRect.idx x = x := by
  funext a; apply Fin.ext
  show off a + 1 * (x a).val = (x a).val
  rw [h0 a]; omega

theorem zeros2 (a : Fin 2) : (![0, 0] : Fin 2 → ℕ) a = 0 := by fin_cases a <;> rfl

/-! ### The pieces -/

variable (c : Dev nD) (C : Cache F)

theorem byCopy_take (P : Bool → (k : ℕ) → k < 8 → sProp 𝕄) {k : ℕ} (hk : k < 8) :
    bigSep Finset.univ (byCopy P) ⊢ iprop(P false k hk ∗ P true k hk ∗ (P false k hk -∗ P true k hk -∗ bigSep Finset.univ (byCopy P))) := by
  have e : bigSep Finset.univ (byCopy P) = iprop(P false k hk ∗ P true k hk ∗ bigSep ((Finset.univ.erase (⟨2 * k, by omega⟩ : Fin 16)).erase ⟨2 * k + 1, by omega⟩) (byCopy P)) := by
    rw [bigSep_erase (Finset.mem_univ (⟨2 * k, by omega⟩ : Fin 16)),
      bigSep_erase (s := Finset.univ.erase (⟨2 * k, by omega⟩ : Fin 16)) (i := ⟨2 * k + 1, by omega⟩) (by simp [Fin.ext_iff]), byCopy_even _ hk, byCopy_odd _ hk]; rfl
  iintro H
  ihave H' := (BIBase.Entails.of_eq e) $$ H
  icases H' with ⟨H0, H1, Hr⟩
  isplitl [H0]; · iexact H0
  isplitl [H1]; · iexact H1
  iintro H0 H1
  iapply (BIBase.Entails.of_eq e.symm)
  isplitl [H0]; · iexact H0
  isplitl [H1]; · iexact H1
  iexact Hr

theorem loadHalf_spec (b : Bool) {s k : ℕ} (j h : Fin 2) (hs : s < 2) (hk : k < 8) (X : Vec F S2x64x640 .i8) (K : Vec F S1x1x1x32x640 .i8 → sProp 𝕄) :
    iprop(owns (c : Thread nD τ) (codesWin b hs hk) fullShare X ∗ (owns (c : Thread nD τ) (codesWin b hs hk) fullShare X -∗ K (halfCodes X j h)))
      ⊢ wpB c (loadHalf (F := F) (codesBuf b) hs hk j.isLt h.isLt) K := by
  refine load_window c (codesBuf b) (Rect.unit (s := S2x8x2x64x640) ![s, k, j.val, 32 * h.val, 0] S1x1x1x32x640.size (lt_half hs hk j.isLt h.isLt)).toLoadRect
    (View.loadsAt_vmem h_S1x1x1x32x640) fullShare (codesRect hs hk) (fun _ => rfl) squeezes_S1x1x2x64x640_S2x64x640 X
    (fun (y : S1x1x1x32x640.Idx) => ix3 j ⟨32 * h.val + (y 3).val, by have h1 : (y 3).val < 32 := (y 3).isLt; omega⟩ ⟨(y 4).val, (y 4).isLt⟩) (fun y => ?_) K
  rw [reshapeEquiv_ix3_11abc]
  have h0 : (y 0).val = 0 := by have h1 : (y 0).val < 1 := (y 0).isLt; omega
  have h1 : (y 1).val = 0 := by have h1 : (y 1).val < 1 := (y 1).isLt; omega
  have h2 : (y 2).val = 0 := by have h1 : (y 2).val < 1 := (y 2).isLt; omega
  funext a; apply Fin.ext
  fin_cases a
  · show s + 1 * (y 0).val = s + 1 * 0; rw [h0]
  · show k + 1 * (y 1).val = k + 1 * 0; rw [h1]
  · show j.val + 1 * (y 2).val = 0 + 1 * j.val; rw [h2]; omega
  · show 32 * h.val + 1 * (y 3).val = 0 + 1 * (32 * h.val + (y 3).val); omega
  · show 0 + 1 * (y 4).val = 0 + 1 * (y 4).val; rfl

theorem loadScale_spec (b : Bool) {s k : ℕ} (j h : Fin 2) (hs : s < 2) (hk : k < 8) (X : Vec F S2x2x640 .f32) (K : Vec F S1x1x1x1x640 .f32 → sProp 𝕄) :
    iprop(owns (c : Thread nD τ) (scalesWin b hs hk) fullShare X ∗ (owns (c : Thread nD τ) (scalesWin b hs hk) fullShare X -∗ K (halfScales X j h)))
      ⊢ wpB c (loadScale (F := F) (scalesBuf b) hs hk j.isLt h.isLt) K := by
  refine load_window c (scalesBuf b) (Rect.unit (s := S2x8x2x2x640) ![s, k, j.val, h.val, 0] S1x1x1x1x640.size (lt_half_scale hs hk j.isLt h.isLt)).toLoadRect
    (View.loadsAt_vmem h_S1x1x1x1x640) fullShare (scalesRect hs hk) (fun _ => rfl) squeezes_S1x1x2x2x640_S2x2x640 X
    (fun (y : S1x1x1x1x640.Idx) => ix3 j h ⟨(y 4).val, (y 4).isLt⟩) (fun y => ?_) K
  rw [reshapeEquiv_ix3_11abc]
  have h0 : (y 0).val = 0 := by have h1 : (y 0).val < 1 := (y 0).isLt; omega
  have h1 : (y 1).val = 0 := by have h1 : (y 1).val < 1 := (y 1).isLt; omega
  have h2 : (y 2).val = 0 := by have h1 : (y 2).val < 1 := (y 2).isLt; omega
  have h3 : (y 3).val = 0 := by have h1 : (y 3).val < 1 := (y 3).isLt; omega
  funext a; apply Fin.ext
  fin_cases a
  · show s + 1 * (y 0).val = s + 1 * 0; rw [h0]
  · show k + 1 * (y 1).val = k + 1 * 0; rw [h1]
  · show j.val + 1 * (y 2).val = 0 + 1 * j.val; rw [h2]; omega
  · show h.val + 1 * (y 3).val = 0 + 1 * h.val; rw [h3]; omega
  · show 0 + 1 * (y 4).val = 0 + 1 * (y 4).val; rfl

theorem loadHalves_spec (b : Bool) {s k : ℕ} (hs : s < 2) (hk : k < 8) (X : Vec F S2x64x640 .i8) (Y : Vec F S2x2x640 .f32) (K : Halves F → sProp 𝕄) :
    iprop(owns (c : Thread nD τ) (codesWin b hs hk) fullShare X ∗ owns (c : Thread nD τ) (scalesWin b hs hk) fullShare Y
        ∗ (owns (c : Thread nD τ) (codesWin b hs hk) fullShare X -∗ owns (c : Thread nD τ) (scalesWin b hs hk) fullShare Y -∗ K (halves X Y)))
      ⊢ wpB c (loadHalves (F := F) (codesBuf b) (scalesBuf b) hs hk) K := by
  unfold loadHalves halves
  iintro ⟨HX, HY, Hk⟩
  rw [wpB_bind]
  iapply (loadHalf_spec c b 0 0 hs hk X)
  isplitl [HX]; · iexact HX
  iintro HX
  rw [wpB_bind]
  iapply (loadScale_spec c b 0 0 hs hk Y)
  isplitl [HY]; · iexact HY
  iintro HY
  rw [wpB_bind]
  iapply (loadHalf_spec c b 0 1 hs hk X)
  isplitl [HX]; · iexact HX
  iintro HX
  rw [wpB_bind]
  iapply (loadScale_spec c b 0 1 hs hk Y)
  isplitl [HY]; · iexact HY
  iintro HY
  rw [wpB_bind]
  iapply (loadHalf_spec c b 1 0 hs hk X)
  isplitl [HX]; · iexact HX
  iintro HX
  rw [wpB_bind]
  iapply (loadScale_spec c b 1 0 hs hk Y)
  isplitl [HY]; · iexact HY
  iintro HY
  rw [wpB_bind]
  iapply (loadHalf_spec c b 1 1 hs hk X)
  isplitl [HX]; · iexact HX
  iintro HX
  rw [wpB_bind]
  iapply (loadScale_spec c b 1 1 hs hk Y)
  isplitl [HY]; · iexact HY
  iintro HY
  simp only [wpB, wp_pure]
  imodintro
  iapply Hk $$ HX HY

theorem queryRow_spec {r : ℕ} (hr : r < 16) (p : FVec F S8x128 .f32) (Q : Vec F S128x128 .f32) (K : PUnit → sProp 𝕄) :
    iprop(owns (c : Thread nD τ) (Memref.whole cc0_scratch4) fullShare Q
        ∗ (owns (c : Thread nD τ) (Memref.whole cc0_scratch4) fullShare ((⟨strideRect r hr, spos_16_1⟩ : Rect S128x128).overlay Q p) -∗ K ⟨⟩))
      ⊢ wpB c (queryRow (F := F) (Memref.whole cc0_scratch4) r hr p) K := by
  unfold queryRow
  iintro ⟨HQ, Hk⟩
  rw [wpB_bind]
  iapply (load_owns c _ _ _ fullShare Q)
  isplitl [HQ]; · iexact HQ
  iintro HQ
  iapply (store_owns c _ _ _ _ _ Q)
  isplitl [HQ]; · iexact HQ
  iexact Hk

theorem queries_spec (xm : Memref sig .tc .vmem S8x896 .bf16) (x : Vec F S8x896 .bf16) (Q : Vec F S128x128 .f32) (K : PUnit → sProp 𝕄) :
    iprop(owns (c : Thread nD τ) xm fullShare x ∗ owns (c : Thread nD τ) (Memref.whole cc0_scratch4) fullShare Q
        ∗ (owns (c : Thread nD τ) xm fullShare x -∗ owns (c : Thread nD τ) (Memref.whole cc0_scratch4) fullShare (queryRows x) -∗ K ⟨⟩))
      ⊢ wpB c (queries (F := F) xm (Memref.whole cc0_scratch4)) K := by
  unfold queries queryRows
  iintro ⟨Hx, HQ, Hk⟩
  rw [wpB_bind]
  iapply (load_owns c _ _ _ fullShare x)
  isplitl [Hx]; · iexact Hx
  iintro Hx
  rw [show (fun y => x ((Rect.unit (s := S8x896) ![0, 0] S8x896.size inb_S8x896_S8x896_0_0).toLoadRect.idx y)) = x from
    funext fun y => congrArg x (unit_whole_idx _ zeros2 _ y)]
  rw [wpB_bind]
  iapply (load_owns c _ _ _ fullShare Q)
  isplitl [HQ]; · iexact HQ
  iintro HQ
  rw [wpB_bind]
  iapply (store_owns c _ _ _ _ _ Q)
  isplitl [HQ]; · iexact HQ
  rw [unit_whole_overlay _ zeros2]
  iintro HQ
  rw [wpB_bind]
  iapply (queryRow_spec c (r := 0) _)
  isplitl [HQ]; · iexact HQ
  iintro HQ
  rw [wpB_bind]
  iapply (queryRow_spec c (r := 1) _)
  isplitl [HQ]; · iexact HQ
  iintro HQ
  rw [wpB_bind]
  iapply (queryRow_spec c (r := 2) _)
  isplitl [HQ]; · iexact HQ
  iintro HQ
  rw [wpB_bind]
  iapply (queryRow_spec c (r := 3) _)
  isplitl [HQ]; · iexact HQ
  iintro HQ
  rw [wpB_bind]
  iapply (queryRow_spec c (r := 4) _)
  isplitl [HQ]; · iexact HQ
  iintro HQ
  rw [wpB_bind]
  iapply (queryRow_spec c (r := 5) _)
  isplitl [HQ]; · iexact HQ
  iintro HQ
  rw [wpB_bind]
  iapply (queryRow_spec c (r := 6) _)
  isplitl [HQ]; · iexact HQ
  iintro HQ
  rw [wpB_bind]
  iapply (queryRow_spec c (r := 8) _)
  isplitl [HQ]; · iexact HQ
  iintro HQ
  rw [wpB_bind]
  iapply (queryRow_spec c (r := 9) _)
  isplitl [HQ]; · iexact HQ
  iintro HQ
  rw [wpB_bind]
  iapply (queryRow_spec c (r := 10) _)
  isplitl [HQ]; · iexact HQ
  iintro HQ
  rw [wpB_bind]
  iapply (queryRow_spec c (r := 11) _)
  isplitl [HQ]; · iexact HQ
  iintro HQ
  rw [wpB_bind]
  iapply (queryRow_spec c (r := 12) _)
  isplitl [HQ]; · iexact HQ
  iintro HQ
  rw [wpB_bind]
  iapply (queryRow_spec c (r := 13) _)
  isplitl [HQ]; · iexact HQ
  iintro HQ
  iapply (queryRow_spec c (r := 14) _)
  isplitl [HQ]; · iexact HQ
  iintro HQ
  iapply Hk $$ Hx HQ

theorem assemble_spec (om : Memref sig .tc .vmem S8x896 .bf16) (hom : om.IsWhole) (O : Vec F S128x128 .f32) (o : Vec F S8x896 .bf16) (K : PUnit → sProp 𝕄) :
    iprop(owns (c : Thread nD τ) (Memref.whole cc0_scratch5) fullShare O ∗ owns (c : Thread nD τ) om fullShare o
        ∗ (owns (c : Thread nD τ) (Memref.whole cc0_scratch5) fullShare O -∗ owns (c : Thread nD τ) om fullShare (outVal (headRows O)) -∗ K ⟨⟩))
      ⊢ wpB c (assemble (F := F) om hom (Memref.whole cc0_scratch5)) K := by
  have hrow : ∀ (r : ℕ) (hr : r < 16), (fun y => O ((strideRect r hr).idx y)) = headRows O ⟨r, hr⟩ := fun r hr => funext fun y => congrArg O (by
    funext a; apply Fin.ext
    fin_cases a
    · rfl
    · show 0 + 1 * (y 1).val = (y 1).val; omega)
  unfold assemble resultRow
  iintro ⟨HO, Ho, Hk⟩
  rw [wpB_bind]
  iapply (load_owns c _ _ _ fullShare O)
  isplitl [HO]; · iexact HO
  iintro HO
  rw [hrow 0 (by decide)]
  rw [wpB_bind]
  iapply (load_owns c _ _ _ fullShare O)
  isplitl [HO]; · iexact HO
  iintro HO
  rw [hrow 1 (by decide)]
  rw [wpB_bind]
  iapply (load_owns c _ _ _ fullShare O)
  isplitl [HO]; · iexact HO
  iintro HO
  rw [hrow 2 (by decide)]
  rw [wpB_bind]
  iapply (load_owns c _ _ _ fullShare O)
  isplitl [HO]; · iexact HO
  iintro HO
  rw [hrow 3 (by decide)]
  rw [wpB_bind]
  iapply (load_owns c _ _ _ fullShare O)
  isplitl [HO]; · iexact HO
  iintro HO
  rw [hrow 4 (by decide)]
  rw [wpB_bind]
  iapply (load_owns c _ _ _ fullShare O)
  isplitl [HO]; · iexact HO
  iintro HO
  rw [hrow 5 (by decide)]
  rw [wpB_bind]
  iapply (load_owns c _ _ _ fullShare O)
  isplitl [HO]; · iexact HO
  iintro HO
  rw [hrow 6 (by decide)]
  rw [wpB_bind]
  iapply (load_owns c _ _ _ fullShare O)
  isplitl [HO]; · iexact HO
  iintro HO
  rw [hrow 8 (by decide)]
  rw [wpB_bind]
  iapply (load_owns c _ _ _ fullShare O)
  isplitl [HO]; · iexact HO
  iintro HO
  rw [hrow 9 (by decide)]
  rw [wpB_bind]
  iapply (load_owns c _ _ _ fullShare O)
  isplitl [HO]; · iexact HO
  iintro HO
  rw [hrow 10 (by decide)]
  rw [wpB_bind]
  iapply (load_owns c _ _ _ fullShare O)
  isplitl [HO]; · iexact HO
  iintro HO
  rw [hrow 11 (by decide)]
  rw [wpB_bind]
  iapply (load_owns c _ _ _ fullShare O)
  isplitl [HO]; · iexact HO
  iintro HO
  rw [hrow 12 (by decide)]
  rw [wpB_bind]
  iapply (load_owns c _ _ _ fullShare O)
  isplitl [HO]; · iexact HO
  iintro HO
  rw [hrow 13 (by decide)]
  rw [wpB_bind]
  iapply (load_owns c _ _ _ fullShare O)
  isplitl [HO]; · iexact HO
  iintro HO
  rw [hrow 14 (by decide)]
  rw [wpB_bind]
  iapply (load_owns c _ _ _ fullShare o)
  isplitl [Ho]; · iexact Ho
  iintro Ho
  iapply (store_owns c _ _ _ _ _ o)
  isplitl [Ho]; · iexact Ho
  rw [unit_whole_overlay _ zeros2]
  iintro Ho
  iapply Hk $$ HO
  iexact Ho

/-- One sequence: its rows join the rows already written. -/
theorem seqStep_spec {s k : ℕ} (hs : s < 2) (hk : k < 8) (g : ℕ) (n n' : ℕ) (hn : n < 5001) (hn' : n' < 5001)
    (en : n = 8 * g + k) (en' : n' = 8 * g + k + 1) (hg : g < 625) (km vm : Memref sig .tc .vmem S8x128 .f32)
    (Q O : Vec F S128x128 .f32) (KN VN : Vec F S8x128 .f32)
    (hO : ∀ z : S128x128.Idx, (z 0).val < 16 * k → O z = outRows C g Q KN VN z) (K : PUnit → sProp 𝕄) :
    iprop(tableOwn c C ∗ landed c C s hs g ∗ owns (c : Thread nD τ) (Memref.whole cc0_scratch4) fullShare Q
        ∗ owns (c : Thread nD τ) km fullShare KN ∗ owns (c : Thread nD τ) vm fullShare VN ∗ owns (c : Thread nD τ) (Memref.whole cc0_scratch5) fullShare O
        ∗ (∀ O', ⌜∀ z : S128x128.Idx, (z 0).val < 16 * (k + 1) → O' z = outRows C g Q KN VN z⌝ -∗ tableOwn c C -∗ landed c C s hs g
            -∗ owns (c : Thread nD τ) (Memref.whole cc0_scratch4) fullShare Q -∗ owns (c : Thread nD τ) km fullShare KN -∗ owns (c : Thread nD τ) vm fullShare VN
            -∗ owns (c : Thread nD τ) (Memref.whole cc0_scratch5) fullShare O' -∗ K ⟨⟩))
      ⊢ wpB c (seqStep (F := F) table km vm (codesBuf false) (scalesBuf false) (codesBuf true) (scalesBuf true) (Memref.whole cc0_scratch4)
          (Memref.whole cc0_scratch5) hs hk n n' hn hn') K := by
  subst en en'
  have hQ : (fun y => Q ((Rect.unit (s := S128x128) ![16 * k, 0] S16x128.size (lt_rows hk)).toLoadRect.idx y)) = rowsOf Q ⟨k, hk⟩ := funext fun y => congrArg Q (by
    funext a; apply Fin.ext
    fin_cases a
    · show 16 * k + 1 * (y 0).val = 16 * k + (y 0).val; omega
    · show 0 + 1 * (y 1).val = (y 1).val; omega)
  have hrow : ∀ X : Vec F S8x128 .f32, (fun y => X ((Rect.unit (s := S8x128) ![k, 0] S1x128.size (lt_row hk)).toLoadRect.idx y)) = rowOf X ⟨k, hk⟩ := fun X => funext fun y => congrArg X (by
    funext a; apply Fin.ext
    have h0 : (y 0).val = 0 := by have h1 : (y 0).val < 1 := (y 0).isLt; omega
    fin_cases a
    · show k + 1 * (y 0).val = k; omega
    · show 0 + 1 * (y 1).val = (y 1).val; omega)
  have hnew : ∀ z : S128x128.Idx, (z 0).val < 16 * (k + 1) →
      (Rect.unit (s := S128x128) ![16 * k, 0] S16x128.size (lt_rows hk)).overlay O (seqOut C g Q KN VN ⟨k, hk⟩) z = outRows C g Q KN VN z := fun z hz => by
    have hz0 : (z 0).val < 128 := (z 0).isLt
    by_cases hlt : (z 0).val < 16 * k
    · rw [Rect.overlay_of_not_mem, hO z hlt]
      rw [LoadRect.mem_set]
      intro h
      obtain ⟨j, hj, e⟩ := h 0
      have e' : (z 0).val = 16 * k + 1 * j := e
      omega
    · have ez : z = (Rect.unit (s := S128x128) ![16 * k, 0] S16x128.size (lt_rows hk)).emb (ix2 ⟨(z 0).val % 16, by omega⟩ ⟨(z 1).val, (z 1).isLt⟩) := by
        funext a; apply Fin.ext
        fin_cases a
        · show (z 0).val = 16 * k + 1 * ((z 0).val % 16); omega
        · show (z 1).val = 0 + 1 * (z 1).val; omega
      conv_lhs => rw [ez]
      rw [Rect.overlay_emb]
      unfold outRows
      have ek : (⟨(z 0).val / 16, by omega⟩ : Fin 8) = ⟨k, hk⟩ := Fin.ext (show (z 0).val / 16 = k by omega)
      rw [ek]
  dsimp only [seqOut] at hnew
  unfold seqStep landed
  iintro ⟨HT, ⟨⟨Hsc, Hc⟩, Hss, Hd⟩, HQ, HK, HV, HO, Hk⟩
  ihave Hc' := byCopy_take _ hk $$ Hc
  icases Hc' with ⟨⟨Hk0, Ht0⟩, ⟨Hk1, Ht1⟩, Hc⟩
  ihave Hd' := byCopy_take _ hk $$ Hd
  icases Hd' with ⟨⟨Hl0, Hu0⟩, ⟨Hl1, Hu1⟩, Hd⟩
  rw [wpB_bind]
  iapply (smemLoad_owns c table hn fullShare.right C.table)
  isplitl [HT]; · iexact HT
  iintro HT
  rw [wpB_bind]
  iapply (start_spec c table hn fullShare.right C.table k0_chk25 k0_chk25.dec (C.ok _ (by omega)).1)
  isplitl [HT]; · iexact HT
  iintro HT
  rw [wpB_bind]
  iapply (smemLoad_owns c table hn' fullShare.right C.table)
  isplitl [HT]; · iexact HT
  iintro HT
  rw [wpB_bind]
  iapply (load_owns c _ _ _ fullShare Q)
  isplitl [HQ]; · iexact HQ
  iintro HQ
  rw [hQ, wpB_bind]
  iapply (loadHalves_spec c false hs hk)
  isplitl [Hk0]; · iexact Hk0
  isplitl [Hl0]; · iexact Hl0
  iintro Hk0 Hl0
  rw [wpB_bind]
  iapply (load_owns c _ _ _ fullShare KN)
  isplitl [HK]; · iexact HK
  iintro HK
  rw [hrow KN, wpB_bind]
  iapply (loadHalves_spec c true hs hk)
  isplitl [Hk1]; · iexact Hk1
  isplitl [Hl1]; · iexact Hl1
  iintro Hk1 Hl1
  rw [wpB_bind]
  iapply (load_owns c _ _ _ fullShare VN)
  isplitl [HV]; · iexact HV
  iintro HV
  rw [hrow VN, wpB_bind]
  iapply (load_owns c _ _ _ fullShare O)
  isplitl [HO]; · iexact HO
  iintro HO
  iapply (store_owns c _ _ _ _ _ O)
  isplitl [HO]; · iexact HO
  iintro HO
  iapply Hk $$ %_ %hnew HT [Hsc Hc Hk0 Ht0 Hk1 Ht1 Hss Hd Hl0 Hu0 Hl1 Hu1] HQ HK HV HO
  isplitl [Hsc Hc Hk0 Ht0 Hk1 Ht1]
  · isplitl [Hsc]; · iexact Hsc
    iapply Hc $$ [Hk0 Ht0] [Hk1 Ht1]
    · isplitl [Hk0]; · iexact Hk0
      iexact Ht0
    · isplitl [Hk1]; · iexact Hk1
      iexact Ht1
  · isplitl [Hss]; · iexact Hss
    iapply Hd $$ [Hl0 Hu0] [Hl1 Hu1]
    · isplitl [Hl0]; · iexact Hl0
      iexact Hu0
    · isplitl [Hl1]; · iexact Hl1
      iexact Hu1

end Cert.KernelIdeal
-- ==== Proof.Point.lean ====
module
public import proofs.«01_k».proof.Proof.Compute
@[expose] public section
/-!
One grid point.  Before point `g` the slot `g mod 2` is in flight with group `g` and the other is idle; at the first
point, and after the last, both are idle.  The body takes the state before a point to the state before the next and
writes the point's block of results.
-/
noncomputable section
namespace Cert.KernelIdeal
open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

variable (c : Dev nD) (C : Cache F)

/-- The two slots before grid point `t`. -/
def slots (t : ℕ) : sProp 𝕄 :=
  if t = 0 ∨ 625 ≤ t then iprop(idle c C (t % 2) (Nat.mod_lt _ (by decide)) ∗ idle c C ((t + 1) % 2) (Nat.mod_lt _ (by decide)))
  else iprop(flight c C (t % 2) (Nat.mod_lt _ (by decide)) t 16 0 ∗ idle c C ((t + 1) % 2) (Nat.mod_lt _ (by decide)))

/-- What holds before grid point `t`. -/
def inv (t : ℕ) : sProp 𝕄 :=
  iprop(tableOwn c C ∗ slots c C t ∗ (∃ Q, owns (c : Thread nD τ) (Memref.whole cc0_scratch4) fullShare Q) ∗ (∃ O, owns (c : Thread nD τ) (Memref.whole cc0_scratch5) fullShare O))

theorem idle_cast {s s' : ℕ} (hs : s < 2) (hs' : s' < 2) (e : s = s') : idle c C s hs ⊢ idle c C s' hs' := by subst e; exact .rfl
theorem flight_cast {s s' g g' : ℕ} (hs : s < 2) (hs' : s' < 2) (e : s = s') (eg : g = g') : flight c C s hs g 16 0 ⊢ flight c C s' hs' g' 16 0 := by
  subst e eg; exact .rfl

theorem start_tbl {n n' : ℕ} (e : n = n') (hn : n' < 5000) : tbl C.table n = C.start n' := by subst e; rw [C.start_eq hn]

theorem issueFirst_spec (i : grid0.Coords) (K : PUnit → sProp 𝕄) :
    iprop(tableOwn c C ∗ slots c C (i 0).val ∗ (tableOwn c C -∗ flight c C ((i 0).val % 2) (Nat.mod_lt _ (by decide)) (i 0).val 16 0
        -∗ idle c C (((i 0).val + 1) % 2) (Nat.mod_lt _ (by decide)) -∗ K ⟨⟩))
      ⊢ wpB c (issueFirst (F := F) table (codesSrc false) (codesSrc_whole false) (scalesSrc false) (codesSrc true) (codesSrc_whole true) (scalesSrc true)
          (codesBuf false) (codesBuf_whole false) (scalesBuf false) (codesBuf true) (codesBuf_whole true) (scalesBuf true) cc0_scratch6 cc0_scratch7 i) K := by
  have hi : (i 0).val < 625 := (i 0).isLt
  unfold issueFirst slots
  by_cases h : k0_cond1 i = 1#1
  · have h0 := (cond1_iff i).1 h
    rw [dif_pos h, if_pos (Or.inl h0)]
    iintro ⟨HT, ⟨Hi, Hj⟩, Hk⟩
    iapply (issueAll_spec c C (s := 0) (by decide) 0 _ _ _ _ _ (fun k hk => by
      have h17 := C.ok k (by omega)
      exact ⟨fun _ => h17.1, fun _ => h17.2.1, fun _ => h17.2.2.1, fun _ => h17.2.2.2⟩) (fun k hk => start_tbl C (by omega) (by omega)) K)
    isplitl [HT]; · iexact HT
    isplitl [Hi]; · iapply (idle_cast c C _ _ (by omega)) $$ Hi
    iintro HT Hf
    iapply Hk $$ HT [Hf] Hj
    iapply (flight_cast c C _ _ (by omega) (by omega)) $$ Hf
  · have h0 := mt (cond1_iff i).2 h
    rw [dif_neg h, if_neg (by omega)]
    iintro ⟨HT, ⟨Hi, Hj⟩, Hk⟩
    simp only [wpB, wp_pure]
    imodintro
    iapply Hk $$ HT Hi Hj

/-- The other slot after the next group's copies are asked for, if there is a next group. -/
def nextSlot (t : ℕ) : sProp 𝕄 :=
  if 625 ≤ t then idle c C (t % 2) (Nat.mod_lt _ (by decide)) else flight c C (t % 2) (Nat.mod_lt _ (by decide)) t 16 0

theorem issueNext_spec (i : grid0.Coords) (K : PUnit → sProp 𝕄) :
    iprop(tableOwn c C ∗ idle c C (((i 0).val + 1) % 2) (Nat.mod_lt _ (by decide)) ∗ (tableOwn c C -∗ nextSlot c C ((i 0).val + 1) -∗ K ⟨⟩))
      ⊢ wpB c (issueNext (F := F) table (codesSrc false) (codesSrc_whole false) (scalesSrc false) (codesSrc true) (codesSrc_whole true) (scalesSrc true)
          (codesBuf false) (codesBuf_whole false) (scalesBuf false) (codesBuf true) (codesBuf_whole true) (scalesBuf true) cc0_scratch6 cc0_scratch7 i) K := by
  have hi : (i 0).val < 625 := (i 0).isLt
  unfold issueNext nextSlot
  by_cases h : k0_cond2 i = 1#1
  · have h0 := (cond2_iff i).1 h
    have hs := nextSlotW_toNat i
    rw [dif_pos h, if_neg (by omega)]
    iintro ⟨HT, Hi, Hk⟩
    iapply (issueAll_spec c C (nextSlot_lt i) ((i 0).val + 1) _ _ _ _ _ (fun k hk => by
      have e := nextSeqW_toNat i (k := k) (by omega)
      rw [e]
      have h17 := C.ok (8 * ((i 0).val + 1) + k) (by omega)
      exact ⟨fun _ => h17.1, fun _ => h17.2.1, fun _ => h17.2.2.1, fun _ => h17.2.2.2⟩) (fun k hk => start_tbl C (nextSeqW_toNat i (by omega)) (by omega)) K)
    isplitl [HT]; · iexact HT
    isplitl [Hi]; · iapply (idle_cast c C _ _ (by omega)) $$ Hi
    iintro HT Hf
    iapply Hk $$ HT
    iapply (flight_cast c C _ _ (by omega) rfl) $$ Hf
  · have h0 := mt (cond2_iff i).2 h
    rw [dif_neg h, if_pos (by omega)]
    iintro ⟨HT, Hi, Hk⟩
    simp only [wpB, wp_pure]
    imodintro
    iapply Hk $$ HT Hi

theorem next_slots (g : ℕ) : iprop(idle c C (g % 2) (Nat.mod_lt _ (by decide)) ∗ nextSlot c C (g + 1)) ⊢ slots c C (g + 1) := by
  unfold nextSlot slots
  by_cases h : 625 ≤ g + 1
  · rw [if_pos h, if_pos (Or.inr h)]
    iintro ⟨Hi, Hj⟩
    isplitl [Hj]; · iexact Hj
    iapply (idle_cast c C _ _ (by omega)) $$ Hi
  · rw [if_neg h, if_neg (by omega)]
    iintro ⟨Hi, Hj⟩
    isplitl [Hj]; · iexact Hj
    iapply (idle_cast c C _ _ (by omega)) $$ Hi

theorem work_spec (i : grid0.Coords) (xm : Memref sig .tc .vmem S8x896 .bf16) (km vm : Memref sig .tc .vmem S8x128 .f32)
    (om : Memref sig .tc .vmem S8x896 .bf16) (hom : om.IsWhole) (x : Vec F S8x896 .bf16) (KN VN : Vec F S8x128 .f32) (K : PUnit → sProp 𝕄) :
    iprop(tableOwn c C ∗ flight c C (slotW i).toNat (slot_lt i) (i 0).val 16 0 ∗ (∃ Q, owns (c : Thread nD τ) (Memref.whole cc0_scratch4) fullShare Q)
        ∗ (∃ O, owns (c : Thread nD τ) (Memref.whole cc0_scratch5) fullShare O) ∗ owns (c : Thread nD τ) xm fullShare x
        ∗ owns (c : Thread nD τ) km fullShare KN ∗ owns (c : Thread nD τ) vm fullShare VN ∗ (∃ o, owns (c : Thread nD τ) om fullShare o) ∗ (∃ W, owes (c : Thread nD τ) 0 W)
        ∗ (tableOwn c C -∗ idle c C (slotW i).toNat (slot_lt i) -∗ (∃ Q, owns (c : Thread nD τ) (Memref.whole cc0_scratch4) fullShare Q)
            -∗ (∃ O, owns (c : Thread nD τ) (Memref.whole cc0_scratch5) fullShare O) -∗ owns (c : Thread nD τ) xm fullShare x
            -∗ owns (c : Thread nD τ) km fullShare KN -∗ owns (c : Thread nD τ) vm fullShare VN
            -∗ owns (c : Thread nD τ) om fullShare (blockOut C (i 0).val x KN VN) -∗ (∃ W, owes (c : Thread nD τ) 0 W) -∗ K ⟨⟩))
      ⊢ wpB c (work (F := F) table xm km vm (codesSrc false) (codesSrc_whole false) (scalesSrc false) (codesSrc true) (codesSrc_whole true) (scalesSrc true) om hom
          (codesBuf false) (codesBuf_whole false) (scalesBuf false) (codesBuf true) (codesBuf_whole true) (scalesBuf true)
          (Memref.whole cc0_scratch4) (Memref.whole cc0_scratch5) cc0_scratch6 cc0_scratch7 i) K := by
  have hi : (i 0).val < 625 := (i 0).isLt
  have hw1 : ∀ k, k < 8 → (Scalar.addi (seqW i k) 1#32).toNat = 8 * (i 0).val + k + 1 := fun k hk => by
    show (seqW i k + 1#32).toNat = _
    rw [BitVec.toNat_add, seqW_toNat i (by omega)]
    simp only [BitVec.toNat_ofNat]
    omega
  unfold work seqAt
  iintro ⟨HT, Hf, ⟨%Q, HQ⟩, ⟨%O, HO⟩, Hx, HK, HV, ⟨%o, Ho⟩, HW, Hk⟩
  rw [wpB_bind]
  iapply (queries_spec c xm x Q)
  isplitl [Hx]; · iexact Hx
  isplitl [HQ]; · iexact HQ
  iintro Hx HQ
  rw [wpB_bind]
  iapply (awaitAll_spec c C (slot_lt i) (i 0).val _ _ (fun k hk => by rw [seqW_toNat i (by omega)]; exact C.ok _ (by omega)))
  isplitl [HT]; · iexact HT
  isplitl [Hf]; · iexact Hf
  isplitl [HW]; · iexact HW
  iintro HT Hf HW
  rw [wpB_bind]
  iapply (seqStep_spec c C (slot_lt i) (k := 0) _ (i 0).val _ _ _ _ (seqW_toNat i (by decide)) (hw1 0 (by decide)) hi km vm (queryRows x) _ KN VN (fun z hz => absurd hz (Nat.not_lt_zero _)))
  isplitl [HT]; · iexact HT
  isplitl [Hf]; · iexact Hf
  isplitl [HQ]; · iexact HQ
  isplitl [HK]; · iexact HK
  isplitl [HV]; · iexact HV
  isplitl [HO]; · iexact HO
  iintro %O0 %hO0 HT Hf HQ HK HV HO
  rw [wpB_bind]
  iapply (seqStep_spec c C (slot_lt i) (k := 1) _ (i 0).val _ _ _ _ (seqW_toNat i (by decide)) (hw1 1 (by decide)) hi km vm (queryRows x) _ KN VN (hO0))
  isplitl [HT]; · iexact HT
  isplitl [Hf]; · iexact Hf
  isplitl [HQ]; · iexact HQ
  isplitl [HK]; · iexact HK
  isplitl [HV]; · iexact HV
  isplitl [HO]; · iexact HO
  iintro %O1 %hO1 HT Hf HQ HK HV HO
  rw [wpB_bind]
  iapply (seqStep_spec c C (slot_lt i) (k := 2) _ (i 0).val _ _ _ _ (seqW_toNat i (by decide)) (hw1 2 (by decide)) hi km vm (queryRows x) _ KN VN (hO1))
  isplitl [HT]; · iexact HT
  isplitl [Hf]; · iexact Hf
  isplitl [HQ]; · iexact HQ
  isplitl [HK]; · iexact HK
  isplitl [HV]; · iexact HV
  isplitl [HO]; · iexact HO
  iintro %O2 %hO2 HT Hf HQ HK HV HO
  rw [wpB_bind]
  iapply (seqStep_spec c C (slot_lt i) (k := 3) _ (i 0).val _ _ _ _ (seqW_toNat i (by decide)) (hw1 3 (by decide)) hi km vm (queryRows x) _ KN VN (hO2))
  isplitl [HT]; · iexact HT
  isplitl [Hf]; · iexact Hf
  isplitl [HQ]; · iexact HQ
  isplitl [HK]; · iexact HK
  isplitl [HV]; · iexact HV
  isplitl [HO]; · iexact HO
  iintro %O3 %hO3 HT Hf HQ HK HV HO
  rw [wpB_bind]
  iapply (seqStep_spec c C (slot_lt i) (k := 4) _ (i 0).val _ _ _ _ (seqW_toNat i (by decide)) (hw1 4 (by decide)) hi km vm (queryRows x) _ KN VN (hO3))
  isplitl [HT]; · iexact HT
  isplitl [Hf]; · iexact Hf
  isplitl [HQ]; · iexact HQ
  isplitl [HK]; · iexact HK
  isplitl [HV]; · iexact HV
  isplitl [HO]; · iexact HO
  iintro %O4 %hO4 HT Hf HQ HK HV HO
  rw [wpB_bind]
  iapply (seqStep_spec c C (slot_lt i) (k := 5) _ (i 0).val _ _ _ _ (seqW_toNat i (by decide)) (hw1 5 (by decide)) hi km vm (queryRows x) _ KN VN (hO4))
  isplitl [HT]; · iexact HT
  isplitl [Hf]; · iexact Hf
  isplitl [HQ]; · iexact HQ
  isplitl [HK]; · iexact HK
  isplitl [HV]; · iexact HV
  isplitl [HO]; · iexact HO
  iintro %O5 %hO5 HT Hf HQ HK HV HO
  rw [wpB_bind]
  iapply (seqStep_spec c C (slot_lt i) (k := 6) _ (i 0).val _ _ _ _ (seqW_toNat i (by decide)) (hw1 6 (by decide)) hi km vm (queryRows x) _ KN VN (hO5))
  isplitl [HT]; · iexact HT
  isplitl [Hf]; · iexact Hf
  isplitl [HQ]; · iexact HQ
  isplitl [HK]; · iexact HK
  isplitl [HV]; · iexact HV
  isplitl [HO]; · iexact HO
  iintro %O6 %hO6 HT Hf HQ HK HV HO
  rw [wpB_bind]
  iapply (seqStep_spec c C (slot_lt i) (k := 7) _ (i 0).val _ _ _ _ (seqW_toNat i (by decide)) (hw1 7 (by decide)) hi km vm (queryRows x) _ KN VN (hO6))
  isplitl [HT]; · iexact HT
  isplitl [Hf]; · iexact Hf
  isplitl [HQ]; · iexact HQ
  isplitl [HK]; · iexact HK
  isplitl [HV]; · iexact HV
  isplitl [HO]; · iexact HO
  iintro %O7 %hO7 HT Hf HQ HK HV HO
  have eO : O7 = outRows C (i 0).val (queryRows x) KN VN := funext fun z => hO7 z (z 0).isLt
  unfold blockOut
  rw [← eO]
  iapply (assemble_spec c om hom O7 o)
  isplitl [HO]; · iexact HO
  isplitl [Ho]; · iexact Ho
  iintro HO Ho
  ihave Hi := landed_idle c C _ _ _ $$ Hf
  iapply Hk $$ HT Hi [HQ] [HO] Hx HK HV Ho HW
  · iexists _; iexact HQ
  · iexists _; iexact HO

/-- The body at a grid point. -/
theorem body_spec (i : grid0.Coords) (xm : Memref sig .tc .vmem S8x896 .bf16) (hxm : xm.IsWhole) (km : Memref sig .tc .vmem S8x128 .f32) (hkm : km.IsWhole)
    (vm : Memref sig .tc .vmem S8x128 .f32) (hvm : vm.IsWhole) (om : Memref sig .tc .vmem S8x896 .bf16) (hom : om.IsWhole)
    (x : Vec F S8x896 .bf16) (KN VN : Vec F S8x128 .f32) (K : PUnit → sProp 𝕄) :
    iprop(inv c C (i 0).val ∗ owns (c : Thread nD τ) xm fullShare x
        ∗ owns (c : Thread nD τ) km fullShare KN ∗ owns (c : Thread nD τ) vm fullShare VN ∗ (∃ o, owns (c : Thread nD τ) om fullShare o) ∗ (∃ W, owes (c : Thread nD τ) 0 W)
        ∗ (inv c C ((i 0).val + 1) -∗ owns (c : Thread nD τ) xm fullShare x
            -∗ owns (c : Thread nD τ) km fullShare KN -∗ owns (c : Thread nD τ) vm fullShare VN
            -∗ owns (c : Thread nD τ) om fullShare (blockOut C (i 0).val x KN VN) -∗ (∃ W, owes (c : Thread nD τ) 0 W) -∗ K ⟨⟩))
      ⊢ wpB c (cc0__body (F := F) i table (Memref.isWhole_whole _) xm hxm km hkm vm hvm (Memref.whole main_v0) (Memref.isWhole_whole _) (Memref.whole main_v2) (Memref.isWhole_whole _)
          (Memref.whole main_v1) (Memref.isWhole_whole _) (Memref.whole main_v3) (Memref.isWhole_whole _) om hom
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7) K := by
  have hs := slotW_toNat i
  rw [body_eq]
  unfold inv
  show _ ⊢ wpB c (issueFirst (F := F) table (codesSrc false) (codesSrc_whole false) (scalesSrc false) (codesSrc true) (codesSrc_whole true) (scalesSrc true)
          (codesBuf false) (codesBuf_whole false) (scalesBuf false) (codesBuf true) (codesBuf_whole true) (scalesBuf true) cc0_scratch6 cc0_scratch7 i >>= fun _ => issueNext (F := F) table (codesSrc false) (codesSrc_whole false) (scalesSrc false) (codesSrc true) (codesSrc_whole true) (scalesSrc true)
          (codesBuf false) (codesBuf_whole false) (scalesBuf false) (codesBuf true) (codesBuf_whole true) (scalesBuf true) cc0_scratch6 cc0_scratch7 i >>= fun _ =>
    work (F := F) table xm km vm (codesSrc false) (codesSrc_whole false) (scalesSrc false) (codesSrc true) (codesSrc_whole true) (scalesSrc true) om hom
          (codesBuf false) (codesBuf_whole false) (scalesBuf false) (codesBuf true) (codesBuf_whole true) (scalesBuf true)
          (Memref.whole cc0_scratch4) (Memref.whole cc0_scratch5) cc0_scratch6 cc0_scratch7 i) K
  iintro ⟨⟨HT, Hs, HQ, HO⟩, Hx, HK, HV, Ho, HW, Hk⟩
  rw [wpB_bind]
  iapply (issueFirst_spec c C i)
  isplitl [HT]; · iexact HT
  isplitl [Hs]; · iexact Hs
  iintro HT Hf Hi
  rw [wpB_bind]
  iapply (issueNext_spec c C i)
  isplitl [HT]; · iexact HT
  isplitl [Hi]; · iexact Hi
  iintro HT Hn
  iapply (work_spec c C i xm km vm om hom x KN VN K)
  isplitl [HT]; · iexact HT
  isplitl [Hf]; · iapply (flight_cast c C _ _ (by omega) rfl) $$ Hf
  isplitl [HQ]; · iexact HQ
  isplitl [HO]; · iexact HO
  isplitl [Hx]; · iexact Hx
  isplitl [HK]; · iexact HK
  isplitl [HV]; · iexact HV
  isplitl [Ho]; · iexact Ho
  isplitl [HW]; · iexact HW
  iintro HT Hi HQ HO Hx HK HV Ho HW
  iapply Hk $$ [HT Hi Hn HQ HO] Hx HK HV Ho HW
  isplitl [HT]; · iexact HT
  isplitl [Hi Hn]
  · iapply (next_slots c C (i 0).val)
    isplitl [Hi]; · iapply (idle_cast c C _ _ (by omega)) $$ Hi
    iexact Hn
  isplitl [HQ]; · iexact HQ
  iexact HO

end Cert.KernelIdeal
-- ==== Proof.Pool.lean ====
module
public import proofs.«01_k».proof.Proof.Point
public import Idealize.ShloMosaic.Lib.MemrefSat
@[expose] public section
/-!
The two idle slots, put together from whole buffers and taken apart again.  A scratch buffer at anything is its sixteen
windows at anything; an array of the cache is a remainder and sixteen shares, one for each window.
-/
noncomputable section
namespace Cert.KernelIdeal
open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

variable (c : Dev nD) (C : Cache F)

theorem eq_of_equiv {P Q : sProp 𝕄} (h : P ⊣⊢ Q) : P = Q := BI.equiv_iff.mp ⟨h.1, h.2⟩

/-- Two entries for each of eight windows are sixteen entries. -/
theorem byCopy_prod (P : Bool → (k : ℕ) → k < 8 → sProp 𝕄) :
    bigSep Finset.univ (byCopy P) = iprop((bigSep Finset.univ fun k : Fin 8 => P false k.1 k.2) ∗ (bigSep Finset.univ fun k : Fin 8 => P true k.1 k.2)) := by
  rw [bigSep_univ_equiv (finProdFinEquiv : Fin 8 × Fin 2 ≃ Fin (8 * 2)), bigSep_univ_prod, ← bigSep_sep']
  refine bigSep_congr fun k _ => ?_
  rw [bigSep_univ_two]
  have h0 : (finProdFinEquiv (k, (0 : Fin 2)) : Fin (8 * 2)) = ⟨2 * k.1, by omega⟩ := Fin.ext (by simp [finProdFinEquiv])
  have h1 : (finProdFinEquiv (k, (1 : Fin 2)) : Fin (8 * 2)) = ⟨2 * k.1 + 1, by omega⟩ := Fin.ext (by simp [finProdFinEquiv]; omega)
  rw [h0, h1]
  exact congrArg₂ _ (byCopy_even P k.2) (byCopy_odd P k.2)

/-- One entry for each window of each slot. -/
def forWindows (P : (s : ℕ) → s < 2 → (k : ℕ) → k < 8 → sProp 𝕄) : sProp 𝕄 :=
  bigSep (Finset.univ : Finset (Fin 2 × Fin 8)) fun t => P t.1.1 t.1.2 t.2.1 t.2.2

theorem forWindows_two (P : (s : ℕ) → s < 2 → (k : ℕ) → k < 8 → sProp 𝕄) :
    forWindows P = iprop((bigSep Finset.univ fun k : Fin 8 => P 0 (by decide) k.1 k.2) ∗ (bigSep Finset.univ fun k : Fin 8 => P 1 (by decide) k.1 k.2)) := by
  unfold forWindows
  rw [bigSep_univ_prod, bigSep_univ_two]; rfl

/-- Sixteen entries by number. -/
theorem forWindows_range (T : ℕ → sProp 𝕄) : bigSep (Finset.range 16) T = forWindows fun s _ k _ => T (8 * s + k) := by
  unfold forWindows
  have e : bigSep (Finset.range 16) T = bigSep Finset.univ fun i : Fin (2 * 8) => T i.1 := by
    rw [show Finset.range 16 = (Finset.univ : Finset (Fin (2 * 8))).map Fin.valEmbedding from by decide, bigSep_map]; rfl
  rw [e, bigSep_univ_equiv (finProdFinEquiv : Fin 2 × Fin 8 ≃ Fin (2 * 8))]
  refine bigSep_congr fun t _ => ?_
  rw [show (finProdFinEquiv t : Fin (2 * 8)).1 = 8 * t.1.1 + t.2.1 from by simp [finProdFinEquiv]; omega]

/-- A view of other dimensions owns the same elements. -/
theorem owns_some_squeeze {sp : Space} {sh sh' : Shape} {e : EltTy} (m : Memref sig .tc sp sh e) (h : sh.Squeezes sh') :
    (iprop(∃ p, owns (c : Thread nD τ) (m.squeeze sh' h) fullShare p) : sProp 𝕄) = iprop(∃ p, owns (c : Thread nD τ) m fullShare p) := by
  refine eq_of_equiv ⟨?_, ?_⟩
  · unfold owns
    iintro ⟨%p, %g, %hg, H⟩
    iexists _, g
    isplitr; · ipureintro; rfl
    rw [show m.view.set = (m.squeeze sh' h).view.set from (View.set_reshape _ _).symm]
    iexact H
  · unfold owns
    iintro ⟨%p, %g, %hg, H⟩
    iexists _, g
    isplitr; · ipureintro; rfl
    rw [show (m.squeeze sh' h).view.set = m.view.set from View.set_reshape _ _]
    iexact H

theorem codes_disjoint (t t' : Fin 2 × Fin 8) (h : t ≠ t') : Disjoint (codesRect t.1.2 t.2.2).set (codesRect t'.1.2 t'.2.2).set := by
  refine Finset.disjoint_left.mpr fun i hi hi' => h ?_
  rw [Rect.mem_set_unit] at hi hi'
  have a0 := hi 0; have a1 := hi 1; have b0 := hi' 0; have b1 := hi' 1
  simp [S1x1x2x64x640] at a0 a1 b0 b1
  exact Prod.ext (Fin.ext (by omega)) (Fin.ext (by omega))

theorem codes_cover : (Finset.univ : Finset (Fin 2 × Fin 8)).biUnion (fun t => (codesRect t.1.2 t.2.2).set) = Finset.univ := by
  refine Finset.eq_univ_of_forall fun i => ?_
  have h0 : (i 0).val < 2 := (i 0).isLt
  have h1 : (i 1).val < 8 := (i 1).isLt
  have h2 : (i 2).val < 2 := (i 2).isLt
  have h3 : (i 3).val < 64 := (i 3).isLt
  have h4 : (i 4).val < 640 := (i 4).isLt
  refine Finset.mem_biUnion.mpr ⟨(⟨(i 0).val, h0⟩, ⟨(i 1).val, h1⟩), Finset.mem_univ _, Rect.mem_set_unit.mpr fun a => ?_⟩
  fin_cases a <;> simp [S1x1x2x64x640] <;> omega

theorem scales_disjoint (t t' : Fin 2 × Fin 8) (h : t ≠ t') : Disjoint (scalesRect t.1.2 t.2.2).set (scalesRect t'.1.2 t'.2.2).set := by
  refine Finset.disjoint_left.mpr fun i hi hi' => h ?_
  rw [Rect.mem_set_unit] at hi hi'
  have a0 := hi 0; have a1 := hi 1; have b0 := hi' 0; have b1 := hi' 1
  simp [S1x1x2x2x640] at a0 a1 b0 b1
  exact Prod.ext (Fin.ext (by omega)) (Fin.ext (by omega))

theorem scales_cover : (Finset.univ : Finset (Fin 2 × Fin 8)).biUnion (fun t => (scalesRect t.1.2 t.2.2).set) = Finset.univ := by
  refine Finset.eq_univ_of_forall fun i => ?_
  have h0 : (i 0).val < 2 := (i 0).isLt
  have h1 : (i 1).val < 8 := (i 1).isLt
  have h2 : (i 2).val < 2 := (i 2).isLt
  have h3 : (i 3).val < 2 := (i 3).isLt
  have h4 : (i 4).val < 640 := (i 4).isLt
  refine Finset.mem_biUnion.mpr ⟨(⟨(i 0).val, h0⟩, ⟨(i 1).val, h1⟩), Finset.mem_univ _, Rect.mem_set_unit.mpr fun a => ?_⟩
  fin_cases a <;> simp [S1x1x2x2x640] <;> omega

/-- A buffer at anything is each slice of a disjoint covering family at anything. -/
theorem owns_some_rects {sp : Space} {sh : Shape} {e : EltTy} (m : Memref sig .tc sp sh e) (r : Fin 2 × Fin 8 → Rect sh) (hr : ∀ t a, (r t).stride a = 1)
    (hd : ∀ t t', t ≠ t' → Disjoint (r t).set (r t').set) (hcov : (Finset.univ : Finset (Fin 2 × Fin 8)).biUnion (fun t => (r t).set) = Finset.univ) :
    (iprop(∃ X, owns (c : Thread nD τ) m fullShare X) : sProp 𝕄)
      = bigSep Finset.univ fun t => iprop(∃ X, owns (c : Thread nD τ) (m.slice (r t) (hr t)) fullShare X) := by
  have e1 : ∀ t, (iprop(∃ X, owns (c : Thread nD τ) (m.slice (r t) (hr t)) fullShare X) : sProp 𝕄) = ownsSat (c : Thread nD τ) (m.slice (r t) (hr t)) fullShare (fun _ => True) :=
    fun t => (eq_of_equiv (ownsSat_true _ _ _)).symm
  rw [show (fun t => iprop(∃ X, owns (c : Thread nD τ) (m.slice (r t) (hr t)) fullShare X) : Fin 2 × Fin 8 → sProp 𝕄) = fun t => ownsSat (c : Thread nD τ) (m.slice (r t) (hr t)) fullShare (fun _ => True) from funext e1,
    ← eq_of_equiv (ownsSat_true _ _ _)]
  refine eq_of_equiv ⟨?_, ?_⟩
  · exact BIBase.Entails.trans (ownsSat_mono _ _ _ fun X _ t => trivial) (ownsSat_rects (c : Thread nD τ) m fullShare r hr hd hcov fun _ _ => True)
  · exact BIBase.Entails.trans (ownsSat_of_rects (c : Thread nD τ) m fullShare r hr hd hcov fun _ _ => True) (ownsSat_mono _ _ _ fun X _ => trivial)

theorem codes_windows (b : Bool) :
    (iprop(∃ X, owns (c : Thread nD τ) (codesBuf b) fullShare X) : sProp 𝕄)
      = forWindows fun s hs k hk => iprop(∃ p, owns (c : Thread nD τ) (codesWin b hs hk) fullShare p) := by
  rw [owns_some_rects c (codesBuf b) (fun t => codesRect t.1.2 t.2.2) (fun _ _ => rfl) codes_disjoint codes_cover]
  unfold forWindows
  exact bigSep_congr fun t _ => (owns_some_squeeze c _ _).symm

theorem scales_windows (b : Bool) :
    (iprop(∃ X, owns (c : Thread nD τ) (scalesBuf b) fullShare X) : sProp 𝕄)
      = forWindows fun s hs k hk => iprop(∃ p, owns (c : Thread nD τ) (scalesWin b hs hk) fullShare p) := by
  rw [owns_some_rects c (scalesBuf b) (fun t => scalesRect t.1.2 t.2.2) (fun _ _ => rfl) scales_disjoint scales_cover]
  unfold forWindows
  exact bigSep_congr fun t _ => (owns_some_squeeze c _ _).symm

/-- What is left of an array of the cache when every window has its share. -/
abbrev codesRem (b : Bool) : sProp 𝕄 := owns (c : Thread nD τ) (codesSrc b) (shareDrop fullShare 16) (C.codes b)
abbrev scalesRem (b : Bool) : sProp 𝕄 := owns (c : Thread nD τ) (scalesSrc b) (shareDrop fullShare 16) (C.scales b)

theorem codes_shares (b : Bool) :
    (owns (c : Thread nD τ) (codesSrc b) fullShare (C.codes b) : sProp 𝕄) = iprop(codesRem c C b ∗ forWindows fun s _ k _ => codesTok c C b s k) := by
  rw [← forWindows_range fun n => owns (c : Thread nD τ) (codesSrc b) (shareTokN fullShare n) (C.codes b)]
  cases b <;> simp only [codesRem, codesSrc, owns_whole] <;> exact eq_of_equiv (pointsTo_toks_range fullShare 16)

theorem scales_shares (b : Bool) :
    (owns (c : Thread nD τ) (scalesSrc b) fullShare (C.scales b) : sProp 𝕄) = iprop(scalesRem c C b ∗ forWindows fun s _ k _ => scalesTok c C b s k) := by
  rw [← forWindows_range fun n => owns (c : Thread nD τ) (scalesSrc b) (shareTokN fullShare n) (C.scales b)]
  cases b <;> simp only [scalesRem, scalesSrc, owns_whole] <;> exact eq_of_equiv (pointsTo_toks_range fullShare 16)

/-- The part of an idle slot that is about one buffer. -/
def halfIdle (P Q : (s : ℕ) → s < 2 → (k : ℕ) → k < 8 → sProp 𝕄) (s : ℕ) (hs : s < 2) : sProp 𝕄 :=
  iprop((bigSep Finset.univ fun k : Fin 8 => P s hs k.1 k.2) ∗ bigSep Finset.univ fun k : Fin 8 => Q s hs k.1 k.2)

theorem halfIdle_two (P Q : (s : ℕ) → s < 2 → (k : ℕ) → k < 8 → sProp 𝕄) :
    iprop(forWindows P ∗ forWindows Q) ⊣⊢ iprop(halfIdle P Q 0 (by decide) ∗ halfIdle P Q 1 (by decide)) := by
  rw [forWindows_two, forWindows_two]
  unfold halfIdle
  constructor
  · iintro ⟨⟨H1, H2⟩, H3, H4⟩
    isplitl [H1 H3]
    · isplitl [H1]; · iexact H1
      iexact H3
    isplitl [H2]; · iexact H2
    iexact H4
  · iintro ⟨⟨H1, H2⟩, H3, H4⟩
    isplitl [H1 H3]
    · isplitl [H1]; · iexact H1
      iexact H3
    isplitl [H2]; · iexact H2
    iexact H4

abbrev codesHalf (b : Bool) (s : ℕ) (hs : s < 2) : sProp 𝕄 :=
  halfIdle (fun s hs k hk => iprop(∃ p, owns (c : Thread nD τ) (codesWin b hs hk) fullShare p)) (fun s _ k _ => codesTok c C b s k) s hs
abbrev scalesHalf (b : Bool) (s : ℕ) (hs : s < 2) : sProp 𝕄 :=
  halfIdle (fun s hs k hk => iprop(∃ p, owns (c : Thread nD τ) (scalesWin b hs hk) fullShare p)) (fun s _ k _ => scalesTok c C b s k) s hs

theorem idle_eq (s : ℕ) (hs : s < 2) :
    idle c C s hs = iprop((semVal ((c : Thread nD τ), .dma (codesSem hs)) 0 ∗ codesHalf c C false s hs ∗ codesHalf c C true s hs)
      ∗ (semVal ((c : Thread nD τ), .dma (scalesSem hs)) 0 ∗ scalesHalf c C false s hs ∗ scalesHalf c C true s hs)) := by
  unfold idle
  rw [byCopy_prod, byCopy_prod]
  simp only [idleCodes, idleScales, bigSep_sep']
  rfl

/-- A scratch buffer with its array, and the same as a remainder and its part of the two slots. -/
theorem codes_pool (b : Bool) :
    iprop((∃ X, owns (c : Thread nD τ) (codesBuf b) fullShare X) ∗ owns (c : Thread nD τ) (codesSrc b) fullShare (C.codes b))
      ⊣⊢ iprop(codesRem c C b ∗ codesHalf c C b 0 (by decide) ∗ codesHalf c C b 1 (by decide)) := by
  rw [codes_windows, codes_shares, ← eq_of_equiv (halfIdle_two _ _)]
  constructor
  · iintro ⟨H1, H2, H3⟩
    isplitl [H2]; · iexact H2
    isplitl [H1]; · iexact H1
    iexact H3
  · iintro ⟨H2, H1, H3⟩
    isplitl [H1]; · iexact H1
    isplitl [H2]; · iexact H2
    iexact H3

theorem scales_pool (b : Bool) :
    iprop((∃ X, owns (c : Thread nD τ) (scalesBuf b) fullShare X) ∗ owns (c : Thread nD τ) (scalesSrc b) fullShare (C.scales b))
      ⊣⊢ iprop(scalesRem c C b ∗ scalesHalf c C b 0 (by decide) ∗ scalesHalf c C b 1 (by decide)) := by
  rw [scales_windows, scales_shares, ← eq_of_equiv (halfIdle_two _ _)]
  constructor
  · iintro ⟨H1, H2, H3⟩
    isplitl [H2]; · iexact H2
    isplitl [H1]; · iexact H1
    iexact H3
  · iintro ⟨H2, H1, H3⟩
    isplitl [H1]; · iexact H1
    isplitl [H2]; · iexact H2
    iexact H3

/-- The four remainders. -/
def remainders : sProp 𝕄 := iprop(codesRem c C false ∗ codesRem c C true ∗ scalesRem c C false ∗ scalesRem c C true)

/-- The four counters at zero. -/
def counters : sProp 𝕄 :=
  iprop(semVal ((c : Thread nD τ), .dma (codesSem (s := 0) (by decide))) 0 ∗ semVal ((c : Thread nD τ), .dma (codesSem (s := 1) (by decide))) 0
    ∗ semVal ((c : Thread nD τ), .dma (scalesSem (s := 0) (by decide))) 0 ∗ semVal ((c : Thread nD τ), .dma (scalesSem (s := 1) (by decide))) 0)

/-- The four scratch buffers at anything. -/
def scratch : sProp 𝕄 :=
  iprop((∃ X, owns (c : Thread nD τ) (codesBuf false) fullShare X) ∗ (∃ X, owns (c : Thread nD τ) (scalesBuf false) fullShare X)
    ∗ (∃ X, owns (c : Thread nD τ) (codesBuf true) fullShare X) ∗ (∃ X, owns (c : Thread nD τ) (scalesBuf true) fullShare X))

/-- The four arrays of the cache. -/
def arrays : sProp 𝕄 :=
  iprop(owns (c : Thread nD τ) (codesSrc false) fullShare (C.codes false) ∗ owns (c : Thread nD τ) (codesSrc true) fullShare (C.codes true)
    ∗ owns (c : Thread nD τ) (scalesSrc false) fullShare (C.scales false) ∗ owns (c : Thread nD τ) (scalesSrc true) fullShare (C.scales true))

theorem pool_split :
    iprop(counters c ∗ scratch c ∗ arrays c C) ⊢ iprop(remainders c C ∗ idle c C 0 (by decide) ∗ idle c C 1 (by decide)) := by
  rw [idle_eq, idle_eq]
  unfold counters scratch arrays remainders
  iintro ⟨⟨S0, S1, S2, S3⟩, ⟨B0, B1, B2, B3⟩, A0, A1, A2, A3⟩
  ihave H0 := (codes_pool c C false).1 $$ [B0 A0]
  · isplitl [B0]; · iexact B0
    iexact A0
  icases H0 with ⟨R0, X0, Y0⟩
  ihave H1 := (codes_pool c C true).1 $$ [B2 A1]
  · isplitl [B2]; · iexact B2
    iexact A1
  icases H1 with ⟨R1, X1, Y1⟩
  ihave H2 := (scales_pool c C false).1 $$ [B1 A2]
  · isplitl [B1]; · iexact B1
    iexact A2
  icases H2 with ⟨R2, X2, Y2⟩
  ihave H3 := (scales_pool c C true).1 $$ [B3 A3]
  · isplitl [B3]; · iexact B3
    iexact A3
  icases H3 with ⟨R3, X3, Y3⟩
  isplitl [R0 R1 R2 R3]
  · isplitl [R0]; · iexact R0
    isplitl [R1]; · iexact R1
    isplitl [R2]; · iexact R2
    iexact R3
  isplitl [S0 S2 X0 X1 X2 X3]
  · isplitl [S0 X0 X1]
    · isplitl [S0]; · iexact S0
      isplitl [X0]; · iexact X0
      iexact X1
    isplitl [S2]; · iexact S2
    isplitl [X2]; · iexact X2
    iexact X3
  isplitl [S1 Y0 Y1]
  · isplitl [S1]; · iexact S1
    isplitl [Y0]; · iexact Y0
    iexact Y1
  isplitl [S3]; · iexact S3
  isplitl [Y2]; · iexact Y2
  iexact Y3

theorem pool_join :
    iprop(remainders c C ∗ idle c C 0 (by decide) ∗ idle c C 1 (by decide)) ⊢ iprop(counters c ∗ scratch c ∗ arrays c C) := by
  rw [idle_eq, idle_eq]
  unfold counters scratch arrays remainders
  iintro ⟨⟨R0, R1, R2, R3⟩, ⟨⟨S0, X0, X1⟩, S2, X2, X3⟩, ⟨S1, Y0, Y1⟩, S3, Y2, Y3⟩
  ihave H0 := (codes_pool c C false).2 $$ [R0 X0 Y0]
  · isplitl [R0]; · iexact R0
    isplitl [X0]; · iexact X0
    iexact Y0
  icases H0 with ⟨B0, A0⟩
  ihave H1 := (codes_pool c C true).2 $$ [R1 X1 Y1]
  · isplitl [R1]; · iexact R1
    isplitl [X1]; · iexact X1
    iexact Y1
  icases H1 with ⟨B2, A1⟩
  ihave H2 := (scales_pool c C false).2 $$ [R2 X2 Y2]
  · isplitl [R2]; · iexact R2
    isplitl [X2]; · iexact X2
    iexact Y2
  icases H2 with ⟨B1, A2⟩
  ihave H3 := (scales_pool c C true).2 $$ [R3 X3 Y3]
  · isplitl [R3]; · iexact R3
    isplitl [X3]; · iexact X3
    iexact Y3
  icases H3 with ⟨B3, A3⟩
  isplitl [S0 S1 S2 S3]
  · isplitl [S0]; · iexact S0
    isplitl [S1]; · iexact S1
    isplitl [S2]; · iexact S2
    iexact S3
  isplitl [B0 B1 B2 B3]
  · isplitl [B0]; · iexact B0
    isplitl [B1]; · iexact B1
    isplitl [B2]; · iexact B2
    iexact B3
  isplitl [A0]; · iexact A0
  isplitl [A1]; · iexact A1
  isplitl [A2]; · iexact A2
  iexact A3

end Cert.KernelIdeal
-- ==== Proof.Launch.lean ====
module
public import proofs.«01_k».proof.Proof.Pool
public import proofs.«01_k».proof.Proof.Gen.KernelIdeal.Launch
public import Idealize.ShloMosaic.Lib.Pipeline.FrameBody
@[expose] public section
/-!
The run of the whole program: the host's transposes and reshapes, then 625 grid points.  Every execution terminates
with the arguments unchanged, every counter at zero, and the result array at what the points wrote into it.
-/
noncomputable section
namespace Cert.KernelIdeal
open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The unscoped buffers when the grid starts: the launch contents after the host's operations. -/
def V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl, rfl, rfl, rfl, rfl, rfl, rfl, rfl⟩

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh fun c => main_chain c

/-- The table of starts as the grid finds it. -/
def starts : Vec F S5001 .i32 := V m 0 main_arg7

def adm : (pcfg0 (F := F)).Adm := ⟨fun | 0 => V m 0 main_arg7, trivial⟩

theorem V_pre (c : Dev nD) (k : Fin 1) : V m c (pre0.ref k) = (adm m).1 k := by
  obtain rfl : c = 0 := Subsingleton.elim _ _
  obtain rfl : k = 0 := Subsingleton.elim _ _
  rfl

/-- The cache as the grid finds it. -/
def cache (hok : ∀ n, n < 5000 → k0_chk17 (tbl (starts m) n)) (c : Dev nD) : Cache F where
  codes | false => V m 0 main_v0 | true => V m 0 main_v1
  scales | false => V m 0 main_v2 | true => V m 0 main_v3
  table := starts m
  ok := hok

abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
def H0 : Finset (Ref sig .tc) := {main_v0, main_v1, main_v2, main_v3}
theorem H0_sub : H0 ⊆ Pipeline.restRefsP sig pre0 spec0 := by decide

variable (hok : ∀ n, n < 5000 → k0_chk17 (tbl (starts m) n))

theorem ownSems0_eq (c : Dev nD) :
    (Pipeline.ownSems0 (Ix := Unit) (Name := ℕ) (U := Pipeline.UD sig nD τ) (Lvl := ℕ) (Val := Elt F) (τ := τ) osem0 c : sProp 𝕄) = counters c := by
  rw [Pipeline.ownSems0_eq_of_list c osem0 [0, 1, 2, 3] (by decide) (by decide)]; rfl

theorem arrays_eq (c : Dev nD) :
    (bigSep H0 (fun b => ((c : Thread nD τ).loc b) ↦{fullShare} V m c b) : sProp 𝕄) = arrays c (cache m hok c) := by
  obtain rfl : c = 0 := Subsingleton.elim _ _
  rw [BI.bigSep_eq_bigSepL_of_eq [main_v0, main_v1, main_v2, main_v3] (by decide) (by decide)]
  unfold arrays codesSrc scalesSrc
  simp only [owns_whole]
  rfl

/-- The invariant of the grid: `inv`, the generator's register, and what the two slots leave of the cache's arrays. -/
def gridInv (c : Dev nD) (t : ℕ) : sProp 𝕄 :=
  iprop(inv c (cache m hok c) t ∗ (∃ r, prngReg c r) ∗ remainders c (cache m hok c))

theorem grid_in (c : Dev nD) :
    iprop(Pipeline.ΦD osem0 spec0 H0 (V m) c ∗ Pipeline.ΦT pre0 (adm m).1 c) ⊢ gridInv m hok c 0 := by
  rw [Pipeline.ΦD_eq, ownSems0_eq, arrays_eq m hok, scopedRest0_eq]
  have ht : (Pipeline.ΦT pre0 (adm m).1 c : sProp 𝕄) = tableOwn c (cache m hok c) := by
    unfold tableOwn
    rw [owns_whole]
    show Pipeline.prefHeld pre0 c (fun _ => fullShare.right) (adm m).1 = _
    unfold Pipeline.prefHeld
    rw [bigSep_univ_of_subsingleton (0 : Fin 1)]
    obtain rfl : c = 0 := Subsingleton.elim _ _
    rfl
  rw [ht]
  unfold gridInv inv slots
  rw [if_pos (Or.inl rfl)]
  iintro ⟨⟨⟨⟨%f0, B0⟩, ⟨%f1, B1⟩, ⟨%f2, B2⟩, ⟨%f3, B3⟩, ⟨%f4, B4⟩, ⟨%f5, B5⟩⟩, Hg, HS, HA⟩, HT⟩
  ihave Hp := pool_split c (cache m hok c) $$ [HS B0 B1 B2 B3 HA]
  · isplitl [HS]; · iexact HS
    isplitl [B0 B1 B2 B3]
    · unfold scratch codesBuf scalesBuf
      simp only [owns_whole]
      isplitl [B0]; · iexists _; iexact B0
      isplitl [B1]; · iexists _; iexact B1
      isplitl [B2]; · iexists _; iexact B2
      iexists _; iexact B3
    iexact HA
  icases Hp with ⟨HR, H0, H1⟩
  isplitl [HT B4 B5 H0 H1]
  · isplitl [HT]; · iexact HT
    isplitl [H0 H1]
    · isplitl [H0]; · iexact H0
      iexact H1
    simp only [owns_whole]
    isplitl [B4]; · iexists _; iexact B4
    iexists _; iexact B5
  isplitl [Hg]; · iexact Hg
  iexact HR

theorem grid_out (c : Dev nD) : gridInv m hok c 625 ⊢ Pipeline.ΦD osem0 spec0 H0 (V m) c := by
  rw [Pipeline.ΦD_eq, ownSems0_eq, arrays_eq m hok, scopedRest0_eq]
  unfold gridInv inv slots
  rw [if_pos (Or.inr (le_refl _))]
  simp only [owns_whole]
  iintro ⟨⟨HT, ⟨H1, H0⟩, ⟨%f4, B4⟩, ⟨%f5, B5⟩⟩, Hg, HR⟩
  ihave Hp := pool_join c (cache m hok c) $$ [HR H0 H1]
  · isplitl [HR]; · iexact HR
    isplitl [H0]; · iexact H0
    iexact H1
  icases Hp with ⟨HS, HB, HA⟩
  isplitl [HB B4 B5]
  · ihave HB' := (show scratch (F := F) c ⊢ iprop((∃ f, ((c : Thread nD τ).loc cc0_scratch0) ↦{fullShare} f) ∗ (∃ f, ((c : Thread nD τ).loc cc0_scratch1) ↦{fullShare} f)
        ∗ (∃ f, ((c : Thread nD τ).loc cc0_scratch2) ↦{fullShare} f) ∗ (∃ f, ((c : Thread nD τ).loc cc0_scratch3) ↦{fullShare} f)) by
      unfold scratch codesBuf scalesBuf; simp only [owns_whole]; exact .rfl) $$ HB
    icases HB' with ⟨B0, B1, B2, B3⟩
    isplitl [B0]; · iexact B0
    isplitl [B1]; · iexact B1
    isplitl [B2]; · iexact B2
    isplitl [B3]; · iexact B3
    isplitl [B4]; · iexists _; iexact B4
    iexists _; iexact B5
  isplitl [Hg]; · iexact Hg
  isplitl [HS]; · iexact HS
  iexact HA

/-- The blocks the point `t` reads. -/
abbrev cfgM : Pipeline.Cfg sig Λ₀ := cfg0 (adm m)

abbrev arrs (c : Dev nD) (w : Fin (cfgM m).W) : Buf (Elt F) (((cfgM m).win w).arr.view.loc (c.tc : Thread nD τ)) := V m c (Pipeline.arrRef spec0 w)

abbrev block (c : Dev nD) (w : Fin (cfgM m).W) (t : Fin (cfgM m).N) : ((cfgM m).win w).block.Idx → Elt F ((cfgM m).win w).elt :=
  Pipeline.heldIn (cfgM m) (arrs m c) w t.val t.isLt

/-- What the point `t` writes. -/
def pointOut (c : Dev nD) (t : Fin (cfgM m).N) : Vec F S8x896 .bf16 :=
  blockOut (cache m hok c) t.val (block m c 0 t) (block m c 1 t) (block m c 2 t)

def dats (_ : Fin 1) (c : Dev nD) : Dat τ (Elt F) Unit ℕ (Pipeline.UD sig nD τ) ℕ (cfgM m) c where
  A w := arrs m c w
  after w t := match w with
    | ⟨0, _⟩ => block m c 0 t
    | ⟨1, _⟩ => block m c 1 t
    | ⟨2, _⟩ => block m c 2 t
    | ⟨3, _⟩ => pointOut m hok c t
  Φ t := gridInv m hok c t.val
  q _ := fullShare
  owed _ := 0

theorem A_eq (c : Dev nD) (w : Fin (cfgM m).W) : (dats m hok 0 c).A w = V m c (Pipeline.arrRef spec0 w) := by
  dsimp only [dats]

theorem before_in (c : Dev nD) (t : Fin (cfgM m).N) :
    (∀ d, (dats m hok 0 c).before 0 t d = block m c 0 t) ∧ (∀ d, (dats m hok 0 c).before 1 t d = block m c 1 t) ∧ (∀ d, (dats m hok 0 c).before 2 t d = block m c 2 t) :=
  ⟨(dats m hok 0 c).before_eq_heldIn 0 rfl (fun _ => rfl) (fun _ _ => rfl) (fun t => rfl) t,
   (dats m hok 0 c).before_eq_heldIn 1 rfl (fun _ => rfl) (fun _ _ => rfl) (fun t => rfl) t,
   (dats m hok 0 c).before_eq_heldIn 2 rfl (fun _ => rfl) (fun _ _ => rfl) (fun t => rfl) t⟩

abbrev stg (w : Fin (cfgM m).W) (t : Fin (cfgM m).N) := ((cfgM m).win w).stage ((cfgM m).slots t w)

abbrev bodyAt (t : Fin (cfgM m).N) : Prog (TpuEff nD τ sig (Elt F) Λ₀ .tc) PUnit :=
  cc0__body (F := F) (grid0.coords t) table (Memref.isWhole_whole _) (spec0_0.stage ((cfgM m).slots t 0)) (hstage0_0 (((cfgM m).slots t 0).cast nbuf0_0))
    (spec0_1.stage ((cfgM m).slots t 1)) (hstage0_1 (((cfgM m).slots t 1).cast nbuf0_1)) (spec0_2.stage ((cfgM m).slots t 2)) (hstage0_2 (((cfgM m).slots t 2).cast nbuf0_2))
    (Memref.whole main_v0) (Memref.isWhole_whole _) (Memref.whole main_v2) (Memref.isWhole_whole _)
    (Memref.whole main_v1) (Memref.isWhole_whole _) (Memref.whole main_v3) (Memref.isWhole_whole _) (spec0_3.stage ((cfgM m).slots t 3)) (hstage0_3 (((cfgM m).slots t 3).cast nbuf0_3))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7

def bodyPre (c : Dev nD) (t : Fin (cfgM m).N) : sProp 𝕄 :=
  iprop((dats m hok 0 c).Φ t.castSucc ∗ (dats m hok 0 c).owesAt () t.castSucc
    ∗ (∃ d, owns (c : Thread nD τ) (stg m 0 t) fullShare ((dats m hok 0 c).before 0 t d))
    ∗ (∃ d, owns (c : Thread nD τ) (stg m 1 t) fullShare ((dats m hok 0 c).before 1 t d))
    ∗ (∃ d, owns (c : Thread nD τ) (stg m 2 t) fullShare ((dats m hok 0 c).before 2 t d))
    ∗ (∃ d, owns (c : Thread nD τ) (stg m 3 t) fullShare ((dats m hok 0 c).before 3 t d)))
def bodyPost (c : Dev nD) (t : Fin (cfgM m).N) : sProp 𝕄 :=
  iprop((dats m hok 0 c).Φ t.succ ∗ (dats m hok 0 c).owesAt () t.succ
    ∗ owns (c : Thread nD τ) (stg m 0 t) fullShare ((dats m hok 0 c).after 0 t)
    ∗ owns (c : Thread nD τ) (stg m 1 t) fullShare ((dats m hok 0 c).after 1 t)
    ∗ owns (c : Thread nD τ) (stg m 2 t) fullShare ((dats m hok 0 c).after 2 t)
    ∗ owns (c : Thread nD τ) (stg m 3 t) fullShare ((dats m hok 0 c).after 3 t))

theorem coords_val (t : Fin (cfgM m).N) : (grid0.coords t 0).val = t.val := by
  have h : t.val < 625 := t.isLt
  show t.val / 1 % 625 = t.val
  omega

theorem sound_body (c : Dev nD) (t : Fin (cfgM m).N) : bodyPre m hok c t ⊢ wpB c (bodyAt m t) (fun _ => bodyPost m hok c t) := by
  have hc := coords_val m t
  obtain ⟨b0, b1, b2⟩ := before_in m hok c t
  unfold bodyPre bodyPost
  simp only [b0, b1, b2]
  rw [show (dats m hok 0 c).Φ t.castSucc = gridInv m hok c t.val from rfl, show (dats m hok 0 c).Φ t.succ = gridInv m hok c (t.val + 1) from rfl,
    show (dats m hok 0 c).after 0 t = block m c 0 t from rfl, show (dats m hok 0 c).after 1 t = block m c 1 t from rfl,
    show (dats m hok 0 c).after 2 t = block m c 2 t from rfl, show (dats m hok 0 c).after 3 t = blockOut (cache m hok c) t.val (block m c 0 t) (block m c 1 t) (block m c 2 t) from rfl]
  unfold Dat.owesAt Pipeline.owesWithin gridInv
  rw [show (dats m hok 0 c).owed t.castSucc = 0 from rfl, show (dats m hok 0 c).owed t.succ = 0 from rfl]
  have h := body_spec c (cache m hok c) (grid0.coords t) (spec0_0.stage ((cfgM m).slots t 0)) (hstage0_0 (((cfgM m).slots t 0).cast nbuf0_0))
    (spec0_1.stage ((cfgM m).slots t 1)) (hstage0_1 (((cfgM m).slots t 1).cast nbuf0_1)) (spec0_2.stage ((cfgM m).slots t 2)) (hstage0_2 (((cfgM m).slots t 2).cast nbuf0_2))
    (spec0_3.stage ((cfgM m).slots t 3)) (hstage0_3 (((cfgM m).slots t 3).cast nbuf0_3)) (block m c 0 t) (block m c 1 t) (block m c 2 t)
  rw [hc] at h
  iintro ⟨⟨Hi, Hg, HR⟩, ⟨%W, -, HW⟩, ⟨%d0, H0⟩, ⟨%d1, H1⟩, ⟨%d2, H2⟩, ⟨%d3, H3⟩⟩
  iapply (h _)
  isplitl [Hi]; · iexact Hi
  isplitl [H0]; · iexact H0
  isplitl [H1]; · iexact H1
  isplitl [H2]; · iexact H2
  isplitl [H3]; · iexists _; iexact H3
  isplitl [HW]; · iexists W; iexact HW
  iintro Hi H0 H1 H2 H3 ⟨%W', HW'⟩
  isplitl [Hi Hg HR]
  · isplitl [Hi]; · iexact Hi
    isplitl [Hg]; · iexact Hg
    iexact HR
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (t : Fin (cfgM m).N) : defs₀ (F := F) .tc (cfgM m).body ((cfgM m).bodyArgs t ((cfgM m).slots t)) = bodyAt m t := by
  unfold defs₀; rw [Defs.onTc_tc]

theorem body_obligation (c : Dev nD) : BodyObligation (dats (F := F) m hok 0 c) (defs₀ (F := F)) Variants.none () Set.univ := fun t => by
  rw [bigSep_W0, bigSep_W0, defs₀_row]
  exact triple_restated (sound_body m hok c t) rfl .rfl fun _ => .rfl

set_option backward.isDefEq.respectTransparency.types false in
theorem run_main : θ_run defs (onTc (τ := τ) (main (F := F))) (s₀ m ρ)
    (fun r => Pipeline.FramePost (Pipeline.pin pcfgs fun _ => adm m) (dats m hok) 0 (V m) r ∧ r.2.sem = fun _ => 0) :=
  Pipeline.θ_run_frameP_dma (Q' := _) pcfgs (fun _ => adm m) (dats m hok) (0 : Fin 1) launch0 osem0 defs₀ Variants.none ownSemFacts0 H0 H0_sub m ρ main
    (hbody := fun c => (body_obligation m hok c).loose) (hshare := fun c => (dats m hok 0 c).share_full fun _ => rfl)
    (howed := fun _ _ => rfl) (V := V m) (hmain := hmain m Variants.none) (hA := A_eq m hok) (hpf := V_pre m)
    (hin := grid_in m hok) (hout := grid_out m hok)

end Cert.KernelIdeal
-- ==== Proof.Starts.lean ====
module
public import proofs.«01_k».proof.Proof.Steps
public import proofs.«01_k».proof.Proof.Gen.Pre_starts_nonneg
public import proofs.«01_k».proof.Proof.Gen.Pre_windows_fit
public import Idealize.ShloMosaic.Lib.StableHlo.Predicate
@[expose] public section
/-!
What the preconditions say about the table of starts: a start that is not negative names a window of the
cache that lies inside it, and under the second precondition every sequence lies inside its window.
-/
noncomputable section
namespace Cert.KernelIdeal
open Gen
open Idealize.ShloMosaic Idealize.ShloMosaic.TcCoe Idealize.ShloMosaic.Tactic
open Idealize.ShloMosaic.ValueIdx

variable {F : FTy → Type} [FloatOps F]

theorem ofBool_one {b : Bool} : BitVec.ofBool b = 1#1 ↔ b = true := by cases b <;> decide

/-- The first lane of the window of a start. -/
def lane0 (n : ℕ) : ℕ := min (n / 128 * 128) 2559360

theorem window_toNat (v : BitVec 32) (h : v.toNat < 2 ^ 31) :
    (Scalar.minsi (Scalar.shli (Scalar.shrui v 7#32) 7#32) 2559360#32).toNat = lane0 v.toNat := by
  have e : (Scalar.shli (Scalar.shrui v 7#32) 7#32).toNat = v.toNat / 128 * 128 := by
    have h7 : (7#32 : BitVec 32).toNat < 32 := by decide
    simp only [Scalar.shli, Scalar.shrui, IntOp.shli, IntOp.shrui, if_pos h7]
    simp only [BitVec.shiftLeft_eq', BitVec.ushiftRight_eq', BitVec.toNat_shiftLeft, BitVec.toNat_ushiftRight, BitVec.toNat_ofNat,
      Nat.shiftLeft_eq, Nat.shiftRight_eq_div_pow]
    have q1 : (2:ℕ) ^ (7 % 2 ^ 32) = 128 := by decide
    rw [q1]
    omega
  generalize Scalar.shli (Scalar.shrui v 7#32) 7#32 = w at e
  have hw : w.toInt = w.toNat := by rw [BitVec.toInt_eq_toNat_of_lt]; omega
  have hc : (2559360#32 : BitVec 32).toInt = 2559360 := by decide
  unfold lane0 Scalar.minsi IntOp.minsi
  by_cases hlt : w.slt 2559360#32
  · rw [if_pos hlt]
    have := BitVec.slt_iff_toInt_lt.mp hlt
    omega
  · rw [if_neg hlt]
    have : ¬ w.toInt < (2559360#32 : BitVec 32).toInt := fun h' => hlt (BitVec.slt_iff_toInt_lt.mpr h')
    have h3 : (2559360#32 : BitVec 32).toNat = 2559360 := by decide
    omega

theorem lane0_dvd (n : ℕ) : 128 ∣ lane0 n := by unfold lane0; omega

theorem off68_eq (v : BitVec 32) (h : v.toNat < 2 ^ 31) : k0_off68 v = ![0, 0, lane0 v.toNat] := by
  rw [← window_toNat v h]; rfl

theorem off70_eq (v : BitVec 32) (h : v.toNat < 2 ^ 31) : k0_off70 v = ![0, 0, lane0 v.toNat] := by
  rw [← window_toNat v h]; rfl

theorem chk17_of (v : BitVec 32) (h : v.toNat < 2 ^ 31) : k0_chk17 v := by
  have hl : lane0 v.toNat ≤ 2559360 := Nat.min_le_right _ _
  refine ⟨?_, ?_, ?_, ?_⟩
  · have : (k0_mult17 v).toNat = lane0 v.toNat := window_toNat v h
    rw [this]; exact lane0_dvd _
  · rw [off68_eq v h]
    intro a
    match a with
    | 0 => show 0 + _ ≤ _; decide
    | 1 => show 0 + _ ≤ _; decide
    | 2 => exact Nat.add_le_add_right hl 640
  · intro hinb
    have e : k0_off68 v 1 = 0 := by rw [off68_eq v h]; rfl
    have h2 : 2 ≤ S2x64x2560000.rank := by decide
    have hx : S2x64x2560000.rowAx h2 = 1 := rfl
    refine Or.inr ⟨h2, rfl, ?_, ?_⟩
    · rw [hx]; exact e
    · rw [hx]; rfl
  · rw [off70_eq v h]
    intro a
    match a with
    | 0 => show 0 + _ ≤ _; decide
    | 1 => show 0 + _ ≤ _; decide
    | 2 => exact Nat.add_le_add_right hl 640

theorem toNat_of_sge (v : BitVec 32) (h : IntOp.cmpi .sge v 0#32 = 1#1) : v.toNat < 2 ^ 31 := by
  have h1 : (0#32 : BitVec 32).sle v = true := ofBool_one.mp h
  have h2 := BitVec.sle_iff_toInt_le.mp h1
  have h0 : (0#32 : BitVec 32).toInt = 0 := by decide
  rw [h0, BitVec.toInt_eq_toNat_cond] at h2
  split at h2 <;> omega

section nonneg
variable {a0 : FVec F Pre_starts_nonneg.S5000x1x896 .bf16} {a1 a2 : FVec F Pre_starts_nonneg.S5000x1x2x64 .bf16}
  {a3 : IVec Pre_starts_nonneg.S2560000x2x64 8} {a4 : FVec F Pre_starts_nonneg.S2560000x2x2 .f32} {a5 : IVec Pre_starts_nonneg.S2560000x2x64 8}
  {a6 : FVec F Pre_starts_nonneg.S2560000x2x2 .f32} {a7 : IVec Pre_starts_nonneg.S5001 32}

theorem tbl_of_nonneg (h : @Pre_starts_nonneg.fn Pre_starts_nonneg.Gen.facts F _ a0 a1 a2 a3 a4 a5 a6 a7 = fun _ => 1#1) (n : ℕ) (hn : n < 5000) :
    (tbl (F := F) a7 n).toNat < 2 ^ 31 := by
  have e := congrFun h (ix1 ⟨n, hn⟩)
  have : tbl (F := F) a7 n = a7 (ix1 ⟨n, by omega⟩) := dif_pos (by omega)
  rw [this]
  refine toNat_of_sge _ (Eq.trans ?_ e)
  simp only [Pre_starts_nonneg.fn, cmpi, constantI]
  congr 1
  unfold extractStridedSlice
  congr 1
  funext a
  match a with | 0 => exact Fin.ext (by simp [ix1])

theorem chk_of_nonneg (h : @Pre_starts_nonneg.fn Pre_starts_nonneg.Gen.facts F _ a0 a1 a2 a3 a4 a5 a6 a7 = fun _ => 1#1) (n : ℕ) (hn : n < 5000) :
    k0_chk17 (tbl (F := F) a7 n) := chk17_of _ (tbl_of_nonneg h n hn)
end nonneg

/-- What the second precondition says of one sequence. -/
def Fits (s e : BitVec 32) : Prop := s.toNat ≤ 2559488 ∧ (e - s).toInt ≤ 512

theorem toNat_of_sle (v : BitVec 32) (h0 : v.toNat < 2 ^ 31) (h : IntOp.cmpi .sle v 2559488#32 = 1#1) : v.toNat ≤ 2559488 := by
  have h1 : v.sle 2559488#32 = true := ofBool_one.mp h
  have h2 := BitVec.sle_iff_toInt_le.mp h1
  have hc : (2559488#32 : BitVec 32).toInt = 2559488 := by decide
  rw [hc, BitVec.toInt_eq_toNat_of_lt (by omega)] at h2
  omega

theorem and_one (a b : BitVec 1) (h : a &&& b = 1#1) : a = 1#1 ∧ b = 1#1 := by
  revert a b; decide

section fits
variable {a0 : FVec F Pre_windows_fit.S5000x1x896 .bf16} {a1 a2 : FVec F Pre_windows_fit.S5000x1x2x64 .bf16}
  {a3 : IVec Pre_windows_fit.S2560000x2x64 8} {a4 : FVec F Pre_windows_fit.S2560000x2x2 .f32} {a5 : IVec Pre_windows_fit.S2560000x2x64 8}
  {a6 : FVec F Pre_windows_fit.S2560000x2x2 .f32} {a7 : IVec Pre_windows_fit.S5001 32}

theorem fits_of (h : @Pre_windows_fit.fn Pre_windows_fit.Gen.facts F _ a0 a1 a2 a3 a4 a5 a6 a7 = fun _ => 1#1) (n : ℕ) (hn : n < 5000) :
    Fits (tbl (F := F) a7 n) (tbl (F := F) a7 (n + 1)) := by
  have e := congrFun h (ix1 ⟨n, hn⟩)
  have e0 : tbl (F := F) a7 n = a7 (ix1 ⟨n, by omega⟩) := dif_pos (by omega)
  have e1 : tbl (F := F) a7 (n + 1) = a7 (ix1 ⟨n + 1, by omega⟩) := dif_pos (by omega)
  simp only [Pre_windows_fit.fn, cmpi, constantI, andi, subi] at e
  have s0 : extractStridedSlice (s := Pre_windows_fit.S5001) Pre_windows_fit.S5000 ![0] a7 Pre_windows_fit.Gen.facts.slices_S5001_S5000_0 (ix1 ⟨n, hn⟩) = tbl (F := F) a7 n := by
    rw [e0]; unfold extractStridedSlice; congr 1; funext a
    match a with | 0 => exact Fin.ext (by simp [ix1])
  have s1 : extractStridedSlice (s := Pre_windows_fit.S5001) Pre_windows_fit.S5000 ![1] a7 Pre_windows_fit.Gen.facts.slices_S5001_S5000_1 (ix1 ⟨n, hn⟩) = tbl (F := F) a7 (n + 1) := by
    rw [e1]; unfold extractStridedSlice; congr 1; funext a
    match a with | 0 => exact Fin.ext (by simp [ix1]; omega)
  rw [s0, s1] at e
  obtain ⟨e, e3⟩ := and_one _ _ e
  obtain ⟨e4, e5⟩ := and_one _ _ e
  have hn' := toNat_of_sge _ e4
  refine ⟨toNat_of_sle _ hn' e5, ?_⟩
  have h1 := BitVec.sle_iff_toInt_le.mp (ofBool_one.mp e3)
  have hc : (512#32 : BitVec 32).toInt = 512 := by decide
  exact h1.trans_eq hc

theorem chk_of_fits (h : @Pre_windows_fit.fn Pre_windows_fit.Gen.facts F _ a0 a1 a2 a3 a4 a5 a6 a7 = fun _ => 1#1) (n : ℕ) (hn : n < 5000) :
    k0_chk17 (tbl (F := F) a7 n) := chk17_of _ (by have := (fits_of h n hn).1; omega)
end fits

end Cert.KernelIdeal
end
-- ==== Proof.Frames.lean ====
module
public import proofs.«01_k».proof.Proof.Launch
public import proofs.«01_k».proof.Proof.Starts
@[expose] public section
/-!
What the run leaves: the eight arguments as they were, every counter at zero, and the result array as the
pipeline's blocks made it.
-/
noncomputable section
namespace Cert.KernelIdeal
open Gen
open Idealize.ShloMosaic Idealize.ShloMosaic.TcCoe Idealize.ShloMosaic.Tactic
open Idealize.SL.Sem
open Idealize.ShloMosaic.ValueIdx

variable {F : FTy → Type} [FloatOps F]
variable (m : (ℓ : Loc nD τ sig) → Buf (Elt F) ℓ) (ρ : Dev nD → PrngReg)

/-- The arguments of device `c` are as `m` has them. -/
def Kept (m₁ : (ℓ : Loc nD τ sig) → Buf (Elt F) ℓ) (c : Dev nD) : Prop :=
  m₁ ((c.tc : Thread nD τ).loc main_arg0) = m ((c.tc : Thread nD τ).loc main_arg0)
  ∧ m₁ ((c.tc : Thread nD τ).loc main_arg1) = m ((c.tc : Thread nD τ).loc main_arg1)
  ∧ m₁ ((c.tc : Thread nD τ).loc main_arg2) = m ((c.tc : Thread nD τ).loc main_arg2)
  ∧ m₁ ((c.tc : Thread nD τ).loc main_arg3) = m ((c.tc : Thread nD τ).loc main_arg3)
  ∧ m₁ ((c.tc : Thread nD τ).loc main_arg4) = m ((c.tc : Thread nD τ).loc main_arg4)
  ∧ m₁ ((c.tc : Thread nD τ).loc main_arg5) = m ((c.tc : Thread nD τ).loc main_arg5)
  ∧ m₁ ((c.tc : Thread nD τ).loc main_arg6) = m ((c.tc : Thread nD τ).loc main_arg6)
  ∧ m₁ ((c.tc : Thread nD τ).loc main_arg7) = m ((c.tc : Thread nD τ).loc main_arg7)

theorem V_arg0 (c : Dev nD) : V m c main_arg0 = m ((c.tc : Thread nD τ).loc main_arg0) := by unfold V; after_results_simp <;> rfl
theorem V_arg1 (c : Dev nD) : V m c main_arg1 = m ((c.tc : Thread nD τ).loc main_arg1) := by unfold V; after_results_simp <;> rfl
theorem V_arg2 (c : Dev nD) : V m c main_arg2 = m ((c.tc : Thread nD τ).loc main_arg2) := by unfold V; after_results_simp <;> rfl
theorem V_arg3 (c : Dev nD) : V m c main_arg3 = m ((c.tc : Thread nD τ).loc main_arg3) := by unfold V; after_results_simp <;> rfl
theorem V_arg4 (c : Dev nD) : V m c main_arg4 = m ((c.tc : Thread nD τ).loc main_arg4) := by unfold V; after_results_simp <;> rfl
theorem V_arg5 (c : Dev nD) : V m c main_arg5 = m ((c.tc : Thread nD τ).loc main_arg5) := by unfold V; after_results_simp <;> rfl
theorem V_arg6 (c : Dev nD) : V m c main_arg6 = m ((c.tc : Thread nD τ).loc main_arg6) := by unfold V; after_results_simp <;> rfl
theorem V_arg7 (c : Dev nD) : V m c main_arg7 = m ((c.tc : Thread nD τ).loc main_arg7) := by unfold V; after_results_simp <;> rfl

theorem starts_eq : starts m = m (((0 : Dev nD).tc : Thread nD τ).loc main_arg7) := V_arg7 m 0

/-- What the result array of device `c` holds in the end. -/
def result (hok : ∀ n, n < 5000 → k0_chk17 (tbl (starts m) n)) (c : Dev nD) : Buf (Elt F) ((c.tc : Thread nD τ).loc main_v9) :=
  (dats m hok 0 c).arrAt 3 (Pipeline.Cfg.N (cfgM m))

theorem run_kept (hok : ∀ n, n < 5000 → k0_chk17 (tbl (starts m) n)) :
    θ_run defs (onTc (τ := τ) (main (F := F))) ⟨m, fun _ => 0, ρ⟩
      (fun r => (∀ c : Dev nD, r.2.mem ((c.tc : Thread nD τ).loc main_v9) = result m hok c ∧ Kept m r.2.mem c) ∧ r.2.sem = fun _ => 0) :=
  (θ_run defs _ _).mono (fun r h => ⟨fun c => ⟨(h.1 c).1 3,
    ((h.1 c).2 main_arg0 (Pipeline.mem_restRefs_of main_arg0 (by decide) (fun w => (by decide : ∀ w : Fin 4, (spec0 w).arr.view.ref ≠ main_arg0) w))).trans (V_arg0 m c),
    ((h.1 c).2 main_arg1 (Pipeline.mem_restRefs_of main_arg1 (by decide) (fun w => (by decide : ∀ w : Fin 4, (spec0 w).arr.view.ref ≠ main_arg1) w))).trans (V_arg1 m c),
    ((h.1 c).2 main_arg2 (Pipeline.mem_restRefs_of main_arg2 (by decide) (fun w => (by decide : ∀ w : Fin 4, (spec0 w).arr.view.ref ≠ main_arg2) w))).trans (V_arg2 m c),
    ((h.1 c).2 main_arg3 (Pipeline.mem_restRefs_of main_arg3 (by decide) (fun w => (by decide : ∀ w : Fin 4, (spec0 w).arr.view.ref ≠ main_arg3) w))).trans (V_arg3 m c),
    ((h.1 c).2 main_arg4 (Pipeline.mem_restRefs_of main_arg4 (by decide) (fun w => (by decide : ∀ w : Fin 4, (spec0 w).arr.view.ref ≠ main_arg4) w))).trans (V_arg4 m c),
    ((h.1 c).2 main_arg5 (Pipeline.mem_restRefs_of main_arg5 (by decide) (fun w => (by decide : ∀ w : Fin 4, (spec0 w).arr.view.ref ≠ main_arg5) w))).trans (V_arg5 m c),
    ((h.1 c).2 main_arg6 (Pipeline.mem_restRefs_of main_arg6 (by decide) (fun w => (by decide : ∀ w : Fin 4, (spec0 w).arr.view.ref ≠ main_arg6) w))).trans (V_arg6 m c),
    ((h.1 c).2 main_arg7 (Pipeline.mem_restRefs_of main_arg7 (by decide) (fun w => (by decide : ∀ w : Fin 4, (spec0 w).arr.view.ref ≠ main_arg7) w))).trans (V_arg7 m c)⟩, h.2⟩)
    (run_main m ρ hok)

/-- The starts of device 0 pass the kernel's checks when none is negative. -/
theorem ok_of_nonneg (h : ∀ c : Dev nD, Pre_starts_nonneg.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    ∀ n, n < 5000 → k0_chk17 (tbl (starts m) n) := by
  intro n hn
  rw [starts_eq]
  exact chk_of_nonneg (h 0) n hn

theorem ok_of_fits (h : ∀ c : Dev nD, Pre_windows_fit.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    ∀ n, n < 5000 → k0_chk17 (tbl (starts m) n) := by
  intro n hn
  rw [starts_eq]
  exact chk_of_fits (h 0) n hn

end Cert.KernelIdeal
end
-- ==== Proof.Transfer.lean ====
module
public import proofs.«01_k».proof.Defs
public import proofs.«01_k».proof.Proof.Gen.Kernel
public import proofs.«01_k».proof.Proof.Frames
public import Idealize.ShloMosaic.Lib.Pipeline.Regions
@[expose] public section
/-!
The kernel and its ideal reading are the same program, operation by operation, so the frame of the first is the
frame of the second at the machine's own values.
-/
namespace Cert
open Idealize.ShloMosaic Idealize.SL.Sem
/-- The first precondition, over the ideal reading's memory at the machine's values. -/
def PreB [hP : Cert.Pre_starts_nonneg.Facts] (m : (ℓ : Loc Cert.KernelIdeal.nD Cert.KernelIdeal.τ Cert.KernelIdeal.sig) → Buf (Elt Bits) ℓ) : Prop :=

  ∀ c : Dev Cert.KernelIdeal.nD,
    (Cert.Pre_starts_nonneg.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

/-- The kernel's frame claim, stated of the ideal reading at the machine's values. -/
def quiesB [hPre_starts_nonneg : Cert.Pre_starts_nonneg.Facts] : Prop :=
  haveI : Cert.KernelIdeal.Facts := Cert.KernelIdeal.Gen.facts
  ∀ (m : (ℓ : Loc Cert.KernelIdeal.nD Cert.KernelIdeal.τ Cert.KernelIdeal.sig) → Buf (Elt Bits) ℓ) (g : Dev Cert.KernelIdeal.nD → PrngReg), PreB m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

set_option maxHeartbeats 4000000 in
set_option maxRecDepth 65536 in
theorem quiesB_eq [hPre_starts_nonneg : Cert.Pre_starts_nonneg.Facts] : quiesB = quiescent_Kernel (hKernel := Cert.Kernel.Gen.facts) := by
  chain_rfl

theorem quiesB_holds : quiesB := fun m g h => (θ_run _ _ _).mono (fun r h => ⟨fun c => (h.1 c).2, h.2⟩)
  (Cert.KernelIdeal.run_kept m g (Cert.KernelIdeal.ok_of_nonneg m h))

theorem quiescent_Kernel_holds : quiescent_Kernel (hKernel := Cert.Kernel.Gen.facts) := quiesB_eq ▸ quiesB_holds
end Cert
-- ==== Proof.Result.lean ====
module
public import proofs.«01_k».proof.Proof.Frames
public import Idealize.ShloMosaic.Lib.Pipeline.ValueKit
@[expose] public section
/-!
What the grid reads and writes, element by element: the point `t` is handed rows `8t` to `8t + 7` of the queries,
the new keys and the new values, and writes the same rows of the result.
-/
noncomputable section
namespace Cert.KernelIdeal
open Gen
open Idealize.ShloMosaic Idealize.ShloMosaic.TcCoe Idealize.ShloMosaic.Tactic
open Idealize.SL.Sem

variable (m : (ℓ : Loc nD τ sig) → Buf (Elt Ideal) ℓ)

/-- The same grid at a table of zeros: no window's blocks depend on the table. -/
def adm0 : (pcfg0 (F := Ideal)).Adm := ⟨fun | 0 => fun _ => 0#32, trivial⟩

theorem covers3 : ((cfgM m).win 3).Covers :=
  (by decide +kernel : ((cfg0 adm0).win 3).Covers)
theorem fetch0 (t : Fin (cfgM m).N) : ((cfgM m).win 0).fetch t = true :=
  (by decide +kernel : ∀ t : Fin (cfg0 adm0).N, ((cfg0 adm0).win 0).fetch t = true) t
theorem fetch1 (t : Fin (cfgM m).N) : ((cfgM m).win 1).fetch t = true :=
  (by decide +kernel : ∀ t : Fin (cfg0 adm0).N, ((cfg0 adm0).win 1).fetch t = true) t
theorem fetch2 (t : Fin (cfgM m).N) : ((cfgM m).win 2).fetch t = true :=
  (by decide +kernel : ∀ t : Fin (cfg0 adm0).N, ((cfg0 adm0).win 2).fetch t = true) t

theorem index0 (t : Fin (cfgM m).N) : ((cfgM m).win 0).index t = ![t.val, 0] :=
  (by decide +kernel : ∀ t : Fin (cfg0 adm0).N, ((cfg0 adm0).win 0).index t = ![t.val, 0]) t
theorem index1 (t : Fin (cfgM m).N) : ((cfgM m).win 1).index t = ![t.val, 0] :=
  (by decide +kernel : ∀ t : Fin (cfg0 adm0).N, ((cfg0 adm0).win 1).index t = ![t.val, 0]) t
theorem index2 (t : Fin (cfgM m).N) : ((cfgM m).win 2).index t = ![t.val, 0] :=
  (by decide +kernel : ∀ t : Fin (cfg0 adm0).N, ((cfg0 adm0).win 2).index t = ![t.val, 0]) t
theorem index3 (t : Fin (cfgM m).N) : ((cfgM m).win 3).index t = ![t.val, 0] :=
  (by decide +kernel : ∀ t : Fin (cfg0 adm0).N, ((cfg0 adm0).win 3).index t = ![t.val, 0]) t

theorem point_lt (t : Fin (cfgM m).N) : t.val < 625 := t.isLt

/-- Where the elements of the point's block lie in the array. -/
theorem emb0 (t : Fin (cfgM m).N) (k : Fin 8) (l : Fin 896) :
    (((cfgM m).win 0).blk t).view.emb (ix2 k l : (⟨2, ![8, 896]⟩ : Shape).Idx) = (ix2 ⟨8 * t.val + k, by have := point_lt m t; omega⟩ l : (⟨2, ![5000, 896]⟩ : Shape).Idx) := by
  refine funext fun (a : Fin 2) => Fin.ext ?_
  refine (Pipeline.Window.rect_emb_val ((cfgM m).win 0) t _ a).trans ?_
  rw [index0 m t]
  match a with
  | ⟨0, _⟩ => show t.val * 8 + k.val = 8 * t.val + k.val; omega
  | ⟨1, _⟩ => show 0 * 896 + l.val = l.val; omega

theorem block0_emb (c : Dev nD) (t : Fin (cfgM m).N) (y : (((cfgM m).win 0).xblock ((cfgM m).grid.coords t)).Idx) :
    block m c 0 t (((cfgM m).win 0).xinj ((cfgM m).grid.coords t) y) = V m c main_v4 ((((cfgM m).win 0).blk t).view.emb y) := by
  unfold block
  rw [Pipeline.heldIn_of_fetch (cfg := cfgM m) _ 0 t (fetch0 m t)]
  exact Pipeline.Window.fill_xinj ((cfgM m).win 0) ((cfgM m).grid.coords t) _ _ y

/-- Row `k` of the point's block is row `8t + k` of the array. -/
theorem block0_apply (c : Dev nD) (t : Fin (cfgM m).N) (k : Fin 8) (l : Fin 896) :
    block m c 0 t (ix2 k l) = V m c main_v4 (ix2 ⟨8 * t.val + k, by have := point_lt m t; omega⟩ l) :=
  (block0_emb m c t (ix2 k l)).trans (congrArg (V m c main_v4) (emb0 m t k l))

/-- Where the elements of the point's block lie in the array. -/
theorem emb1 (t : Fin (cfgM m).N) (k : Fin 8) (l : Fin 128) :
    (((cfgM m).win 1).blk t).view.emb (ix2 k l : (⟨2, ![8, 128]⟩ : Shape).Idx) = (ix2 ⟨8 * t.val + k, by have := point_lt m t; omega⟩ l : (⟨2, ![5000, 128]⟩ : Shape).Idx) := by
  refine funext fun (a : Fin 2) => Fin.ext ?_
  refine (Pipeline.Window.rect_emb_val ((cfgM m).win 1) t _ a).trans ?_
  rw [index1 m t]
  match a with
  | ⟨0, _⟩ => show t.val * 8 + k.val = 8 * t.val + k.val; omega
  | ⟨1, _⟩ => show 0 * 128 + l.val = l.val; omega

theorem block1_emb (c : Dev nD) (t : Fin (cfgM m).N) (y : (((cfgM m).win 1).xblock ((cfgM m).grid.coords t)).Idx) :
    block m c 1 t (((cfgM m).win 1).xinj ((cfgM m).grid.coords t) y) = V m c main_v6 ((((cfgM m).win 1).blk t).view.emb y) := by
  unfold block
  rw [Pipeline.heldIn_of_fetch (cfg := cfgM m) _ 1 t (fetch1 m t)]
  exact Pipeline.Window.fill_xinj ((cfgM m).win 1) ((cfgM m).grid.coords t) _ _ y

/-- Row `k` of the point's block is row `8t + k` of the array. -/
theorem block1_apply (c : Dev nD) (t : Fin (cfgM m).N) (k : Fin 8) (l : Fin 128) :
    block m c 1 t (ix2 k l) = V m c main_v6 (ix2 ⟨8 * t.val + k, by have := point_lt m t; omega⟩ l) :=
  (block1_emb m c t (ix2 k l)).trans (congrArg (V m c main_v6) (emb1 m t k l))

/-- Where the elements of the point's block lie in the array. -/
theorem emb2 (t : Fin (cfgM m).N) (k : Fin 8) (l : Fin 128) :
    (((cfgM m).win 2).blk t).view.emb (ix2 k l : (⟨2, ![8, 128]⟩ : Shape).Idx) = (ix2 ⟨8 * t.val + k, by have := point_lt m t; omega⟩ l : (⟨2, ![5000, 128]⟩ : Shape).Idx) := by
  refine funext fun (a : Fin 2) => Fin.ext ?_
  refine (Pipeline.Window.rect_emb_val ((cfgM m).win 2) t _ a).trans ?_
  rw [index2 m t]
  match a with
  | ⟨0, _⟩ => show t.val * 8 + k.val = 8 * t.val + k.val; omega
  | ⟨1, _⟩ => show 0 * 128 + l.val = l.val; omega

theorem block2_emb (c : Dev nD) (t : Fin (cfgM m).N) (y : (((cfgM m).win 2).xblock ((cfgM m).grid.coords t)).Idx) :
    block m c 2 t (((cfgM m).win 2).xinj ((cfgM m).grid.coords t) y) = V m c main_v8 ((((cfgM m).win 2).blk t).view.emb y) := by
  unfold block
  rw [Pipeline.heldIn_of_fetch (cfg := cfgM m) _ 2 t (fetch2 m t)]
  exact Pipeline.Window.fill_xinj ((cfgM m).win 2) ((cfgM m).grid.coords t) _ _ y

/-- Row `k` of the point's block is row `8t + k` of the array. -/
theorem block2_apply (c : Dev nD) (t : Fin (cfgM m).N) (k : Fin 8) (l : Fin 128) :
    block m c 2 t (ix2 k l) = V m c main_v8 (ix2 ⟨8 * t.val + k, by have := point_lt m t; omega⟩ l) :=
  (block2_emb m c t (ix2 k l)).trans (congrArg (V m c main_v8) (emb2 m t k l))

/-- Where the elements of the point's block lie in the array. -/
theorem emb3 (t : Fin (cfgM m).N) (k : Fin 8) (l : Fin 896) :
    (((cfgM m).win 3).blk t).view.emb (ix2 k l : (⟨2, ![8, 896]⟩ : Shape).Idx) = (ix2 ⟨8 * t.val + k, by have := point_lt m t; omega⟩ l : (⟨2, ![5000, 896]⟩ : Shape).Idx) := by
  refine funext fun (a : Fin 2) => Fin.ext ?_
  refine (Pipeline.Window.rect_emb_val ((cfgM m).win 3) t _ a).trans ?_
  rw [index3 m t]
  match a with
  | ⟨0, _⟩ => show t.val * 8 + k.val = 8 * t.val + k.val; omega
  | ⟨1, _⟩ => show 0 * 896 + l.val = l.val; omega

theorem V_v0 (c : Dev nD) : V m c main_v0 = transpose S2x64x2560000 [1, 2, 0] (m ((c.tc : Thread nD τ).loc main_arg3) : Vec Ideal S2560000x2x64 .i8) transposes_S2560000x2x64_S2x64x2560000_1_2_0 := by
  unfold V; after_results_simp <;> rfl
theorem V_v1 (c : Dev nD) : V m c main_v1 = transpose S2x64x2560000 [1, 2, 0] (m ((c.tc : Thread nD τ).loc main_arg5) : Vec Ideal S2560000x2x64 .i8) transposes_S2560000x2x64_S2x64x2560000_1_2_0 := by
  unfold V; after_results_simp <;> rfl
theorem V_v2 (c : Dev nD) : V m c main_v2 = transpose S2x2x2560000 [1, 2, 0] (m ((c.tc : Thread nD τ).loc main_arg4) : Vec Ideal S2560000x2x2 .f32) transposes_S2560000x2x2_S2x2x2560000_1_2_0 := by
  unfold V; after_results_simp <;> rfl
theorem V_v3 (c : Dev nD) : V m c main_v3 = transpose S2x2x2560000 [1, 2, 0] (m ((c.tc : Thread nD τ).loc main_arg6) : Vec Ideal S2560000x2x2 .f32) transposes_S2560000x2x2_S2x2x2560000_1_2_0 := by
  unfold V; after_results_simp <;> rfl
theorem V_v4 (c : Dev nD) : V m c main_v4 = Idealize.ShloMosaic.shapeCast S5000x896 (m ((c.tc : Thread nD τ).loc main_arg0) : Vec Ideal S5000x1x896 .bf16) shapeCasts_S5000x1x896_S5000x896 := by
  unfold V; after_results_simp <;> rfl
theorem V_v6 (c : Dev nD) : V m c main_v6 = extf (F := Ideal) .f32 (Idealize.ShloMosaic.shapeCast S5000x128 (m ((c.tc : Thread nD τ).loc main_arg1) : Vec Ideal S5000x1x2x64 .bf16) shapeCasts_S5000x1x2x64_S5000x128) bitsLt_bf16_f32 := by
  unfold V; after_results_simp <;> rfl
theorem V_v8 (c : Dev nD) : V m c main_v8 = extf (F := Ideal) .f32 (Idealize.ShloMosaic.shapeCast S5000x128 (m ((c.tc : Thread nD τ).loc main_arg2) : Vec Ideal S5000x1x2x64 .bf16) shapeCasts_S5000x1x2x64_S5000x128) bitsLt_bf16_f32 := by
  unfold V; after_results_simp <;> rfl

theorem codes_turned (X : Vec Ideal S2560000x2x64 .i8) (j : Fin 2) (d : Fin 64) (n : Fin 2560000) :
    transpose S2x64x2560000 [1, 2, 0] X transposes_S2560000x2x64_S2x64x2560000_1_2_0 (ix3 j d n) = X (ix3 n j d) := by
  pointwise
theorem scales_turned (Y : Vec Ideal S2560000x2x2 .f32) (j h : Fin 2) (n : Fin 2560000) :
    transpose S2x2x2560000 [1, 2, 0] Y transposes_S2560000x2x2_S2x2x2560000_1_2_0 (ix3 j h n) = Y (ix3 n j h) := by
  pointwise
theorem queries_flat (x : Vec Ideal S5000x1x896 .bf16) (b : Fin 5000) (l : Fin 896) :
    Idealize.ShloMosaic.shapeCast S5000x896 x shapeCasts_S5000x1x896_S5000x896 (ix2 b l) = x (ix3 b 0 l) := by
  pointwise
theorem row_flat (k : Vec Ideal S5000x1x2x64 .bf16) (b : Fin 5000) (j : Fin 2) (d : Fin 64) :
    (extf (F := Ideal) .f32 (Idealize.ShloMosaic.shapeCast S5000x128 k shapeCasts_S5000x1x2x64_S5000x128) bitsLt_bf16_f32 (ix2 b ⟨64 * j.val + d.val, by omega⟩) : EReal) = k (ix4 b 0 j d) := by
  pointwise

variable (hok : ∀ n, n < 5000 → k0_chk17 (tbl (starts m) n))

/-- The points' blocks put together: row `i` is row `i mod 8` of what the point `i / 8` wrote. -/
def assembled (c : Dev nD) : S5000x896.Idx → EReal := fun i => pointOut m hok c ⟨(i 0).val / 8, by have : (i 0).val < 5000 := (i 0).isLt; show _ < 625; omega⟩
      (ix2 ⟨(i 0).val % 8, by omega⟩ (i 1))

theorem assembled_at (c : Dev nD) (t : Fin (cfgM m).N) (k : Fin 8) (l : Fin 896) :
    assembled m hok c (ix2 ⟨8 * t.val + k, by have := point_lt m t; omega⟩ l) = pointOut m hok c t (ix2 k l) := by
  have e1 : (⟨(8 * t.val + k.val) / 8, by have := point_lt m t; show _ < 625; omega⟩ : Fin (cfgM m).N) = t := Fin.ext (by dsimp only; omega)
  have e2 : (⟨(8 * t.val + k.val) % 8, by omega⟩ : Fin 8) = k := Fin.ext (by dsimp only; omega)
  show pointOut m hok c ⟨(8 * t.val + k.val) / 8, _⟩ (ix2 ⟨(8 * t.val + k.val) % 8, _⟩ l) = _
  rw [e1, e2]

theorem result_eq (c : Dev nD) : result m hok c = assembled m hok c :=
  (dats m hok 0 c).arrAt_eq_of_covers 3 _ (covers3 m) fun t hf y => by
    have hy : y = (ix2 (y (0 : Fin 2)) (y (1 : Fin 2)) : S8x896.Idx) := funext fun (a : Fin 2) => match a with | ⟨0, _⟩ => rfl | ⟨1, _⟩ => rfl
    rw [hy]
    exact (assembled_at m hok c t (y (0 : Fin 2)) (y (1 : Fin 2))).symm.trans (congrArg (assembled m hok c) (emb3 m t (y (0 : Fin 2)) (y (1 : Fin 2))).symm)

end Cert.KernelIdeal
end
-- ==== Proof.Attend.lean ====
module
public import Idealize.ShloMosaic.Lib.Pointwise
@[expose] public section
/-!
Softmax attention over the extended reals: `n` scores with their values, and one score with its value beside them.  Scores
of `-∞` weigh nothing, so widening the row of scores by such changes nothing.
-/
noncomputable section
namespace Attend
open Idealize.ShloMosaic

variable {n k : ℕ}

/-- The greatest of the scores. -/
def peak (s : Fin n → EReal) (t : EReal) : EReal := max (Finset.fold max (Ideal.ofBits FTy.f32 0xFF800000#32) s Finset.univ) t
/-- The sum of the weights. -/
def mass (s : Fin n → EReal) (t : EReal) : EReal := ∑ x, Ideal.exp (s x - peak s t) + Ideal.exp (t - peak s t)
/-- The values weighted by the softmax of the scores. -/
def attend (s : Fin n → EReal) (t : EReal) (v : Fin n → EReal) (vn : EReal) : EReal :=
  ∑ x, Ideal.exp (s x - peak s t) * Ideal.div 1 (mass s t) * v x + Ideal.exp (t - peak s t) * Ideal.div 1 (mass s t) * vn

theorem ofBits_bot : Ideal.ofBits FTy.f32 0xFF800000#32 = ⊥ := by
  unfold Ideal.ofBits Ideal.ieee
  simp

theorem exp_bot_sub (m : EReal) : Ideal.exp (⊥ - m) = 0 := by rw [EReal.bot_sub]; rfl

variable {s : Fin k → EReal} {s' : Fin n → EReal} (e : Fin n → Fin k) (he : Function.Injective e) (hs : ∀ p, s (e p) = s' p)
  (hb : ∀ w, w ∉ Set.range e → s w = ⊥)
include he hs hb

theorem peak_window (t : EReal) : peak s t = peak s' t := by
  unfold peak
  rw [ofBits_bot]
  congr 1
  refine eq_of_forall_ge_iff fun c => ?_
  rw [Finset.fold_max_le, Finset.fold_max_le]
  refine and_congr Iff.rfl ⟨fun h p _ => hs p ▸ h (e p) (Finset.mem_univ _), fun h w _ => ?_⟩
  by_cases hw : w ∈ Set.range e
  · obtain ⟨p, rfl⟩ := hw; rw [hs]; exact h p (Finset.mem_univ _)
  · rw [hb w hw]; exact bot_le

theorem mass_window (t : EReal) : mass s t = mass s' t := by
  unfold mass
  rw [peak_window e he hs hb t]
  congr 1
  refine (Fintype.sum_of_injective e he _ _ (fun w hw => ?_) (fun p => ?_)).symm
  · rw [hb w hw, exp_bot_sub]
  · rw [hs]

/-- Attention over a row of scores that is `-∞` off a part of it is attention over that part. -/
theorem attend_window (t : EReal) {v : Fin k → EReal} {v' : Fin n → EReal} (hv : ∀ p, v (e p) = v' p) (vn : EReal) :
    attend s t v vn = attend s' t v' vn := by
  unfold attend
  rw [mass_window e he hs hb t, peak_window e he hs hb t]
  congr 1
  refine (Fintype.sum_of_injective e he _ _ (fun w hw => ?_) (fun p => ?_)).symm
  · rw [hb w hw, exp_bot_sub, zero_mul, zero_mul]
  · rw [hs, hv]

end Attend
end
-- ==== Proof.Rows.lean ====
module
public import proofs.«01_k».proof.Proof.Compute
public import proofs.«01_k».proof.Proof.Attend
@[expose] public section
/-!
The block of results of a grid point, one element at a time: the softmax attention of one head of one sequence over the
lanes of its window.
-/
noncomputable section
namespace Cert.KernelIdeal
open Gen Attend
open Idealize.ShloMosaic Idealize.ShloMosaic.TcCoe Idealize.ShloMosaic.Tactic

/-! ### Words -/

theorem slt64 (l : Fin 128) : IntOp.cmpi CmpIPredicate.slt (BitVec.ofNat 32 l.val) 64#32 = if l.val < 64 then 1#1 else 0#1 := by
  revert l; decide
theorem sge64 (l : Fin 128) : IntOp.cmpi CmpIPredicate.sge (BitVec.ofNat 32 l.val) 64#32 = if l.val < 64 then 0#1 else 1#1 := by
  revert l; decide

theorem select_slt64 {α : Type} (l : Fin 128) (a b : α) :
    Scalar.select (IntOp.cmpi CmpIPredicate.slt (BitVec.ofNat 32 l.val) 64#32) a b = if l.val < 64 then a else b := by
  rw [slt64]; split <;> rfl
theorem select_sge64 {α : Type} (l : Fin 128) (a b : α) :
    Scalar.select (IntOp.cmpi CmpIPredicate.sge (BitVec.ofNat 32 l.val) 64#32) a b = if l.val < 64 then b else a := by
  rw [sge64]; split <;> rfl

/-! ### The rows of queries -/

/-- Lane `l` of head `h`'s row of queries: the head's lanes fill the half that its keys fill, and the other half is zero. -/
def qLane (x : Vec Ideal S8x896 .bf16) (k : Fin 8) (h : Fin 14) (l : Fin 128) : EReal :=
  if l.val / 64 = h.val / 7 then x (ix2 k ⟨64 * h.val + l.val % 64, by omega⟩) else 0

theorem qLane_low (x : Vec Ideal S8x896 .bf16) (k : Fin 8) (n : ℕ) (hn : n < 14) (h7 : n < 7) (l : Fin 128) (e : ℕ) (he : e < 896)
    (E : l.val < 64 → e = 64 * n + l.val) :
    Scalar.select (IntOp.cmpi CmpIPredicate.slt (BitVec.ofNat 32 l.val) 64#32) (x (ix2 k ⟨e, he⟩) : EReal) 0 = qLane x k ⟨n, hn⟩ l := by
  rw [select_slt64]
  unfold qLane
  by_cases hl : l.val < 64
  · rw [if_pos hl, if_pos (by show l.val / 64 = n / 7; omega)]
    congr 2; apply Fin.ext; show e = 64 * n + l.val % 64; rw [E hl]; omega
  · rw [if_neg hl, if_neg (by show ¬ l.val / 64 = n / 7; omega)]

theorem qLane_high (x : Vec Ideal S8x896 .bf16) (k : Fin 8) (n : ℕ) (hn : n < 14) (h7 : 7 ≤ n) (l : Fin 128) (e : ℕ) (he : e < 896)
    (E : 64 ≤ l.val → e + 64 = 64 * n + l.val) :
    Scalar.select (IntOp.cmpi CmpIPredicate.sge (BitVec.ofNat 32 l.val) 64#32) (x (ix2 k ⟨e, he⟩) : EReal) 0 = qLane x k ⟨n, hn⟩ l := by
  rw [select_sge64]
  unfold qLane
  by_cases hl : l.val < 64
  · rw [if_pos hl, if_neg (by show ¬ l.val / 64 = n / 7; omega)]
  · rw [if_neg hl, if_pos (by show l.val / 64 = n / 7; omega)]
    congr 2; apply Fin.ext; show e = 64 * n + l.val % 64; have := E (by omega); omega

section
variable (x : Vec Ideal S8x896 .bf16) (k : Fin 8) (l : Fin 128)

theorem head0 : k0_pay4 x (ix2 k l) = qLane x k ⟨0, by omega⟩ l := by
  pointwise [k0_pay4, k0_pay2]; exact qLane_low x k 0 (by omega) (by omega) l _ _ (fun h => by omega)
theorem head1 : k0_pay5 x (ix2 k l) = qLane x k ⟨1, by omega⟩ l := by
  pointwise [k0_pay5, k0_pay2]; exact qLane_low x k 1 (by omega) (by omega) l _ _ (fun h => by omega)
theorem head2 : k0_pay7 lanes (k0_pay6 x) (ix2 k l) = qLane x k ⟨2, by omega⟩ l := by
  pointwise [k0_pay7, k0_pay6, k0_pay2, lanes]; exact qLane_low x k 2 (by omega) (by omega) l _ _ (fun h => by omega)
theorem head3 : k0_pay8 (k0_pay2 x) lanes (ix2 k l) = qLane x k ⟨3, by omega⟩ l := by
  pointwise [k0_pay8, k0_pay2, lanes]; exact qLane_low x k 3 (by omega) (by omega) l _ _ (fun h => by omega)
theorem head4 : k0_pay9 (k0_pay2 x) lanes (ix2 k l) = qLane x k ⟨4, by omega⟩ l := by
  pointwise [k0_pay9, k0_pay2, lanes]; exact qLane_low x k 4 (by omega) (by omega) l _ _ (fun h => by omega)
theorem head5 : k0_pay10 (k0_pay2 x) lanes (ix2 k l) = qLane x k ⟨5, by omega⟩ l := by
  pointwise [k0_pay10, k0_pay2, lanes]; exact qLane_low x k 5 (by omega) (by omega) l _ _ (fun h => by omega)
theorem head6 : k0_pay13 (k0_pay11 (k0_pay2 x)) (k0_pay12 lanes) (Scalar.ofBits .f32 0x00000000#32) (ix2 k l) = qLane x k ⟨6, by omega⟩ l := by
  pointwise [k0_pay13, k0_pay12, k0_pay11, k0_pay2, lanes]; exact qLane_low x k 6 (by omega) (by omega) l _ _ (fun h => by omega)
theorem head7 : k0_pay14 (k0_pay2 x) lanes (ix2 k l) = qLane x k ⟨7, by omega⟩ l := by
  pointwise [k0_pay14, k0_pay2, lanes]; exact qLane_high x k 7 (by omega) (by omega) l _ _ (fun h => by omega)
theorem head8 : k0_pay15 (k0_pay2 x) lanes (ix2 k l) = qLane x k ⟨8, by omega⟩ l := by
  pointwise [k0_pay15, k0_pay2, lanes]; exact qLane_high x k 8 (by omega) (by omega) l _ _ (fun h => by omega)
theorem head9 : k0_pay16 (k0_pay2 x) lanes (ix2 k l) = qLane x k ⟨9, by omega⟩ l := by
  pointwise [k0_pay16, k0_pay2, lanes]; exact qLane_high x k 9 (by omega) (by omega) l _ _ (fun h => by omega)
theorem head10 : k0_pay18 (k0_pay17 (k0_pay2 x) lanes) (ix2 k l) = qLane x k ⟨10, by omega⟩ l := by
  pointwise [k0_pay18, k0_pay17, k0_pay2, lanes]; exact qLane_high x k 10 (by omega) (by omega) l _ _ (fun h => by omega)
theorem head11 : k0_pay19 (k0_pay2 x) lanes (ix2 k l) = qLane x k ⟨11, by omega⟩ l := by
  pointwise [k0_pay19, k0_pay2, lanes]; exact qLane_high x k 11 (by omega) (by omega) l _ _ (fun h => by omega)
theorem head12 : k0_pay20 (k0_pay2 x) lanes (ix2 k l) = qLane x k ⟨12, by omega⟩ l := by
  pointwise [k0_pay20, k0_pay2, lanes]; exact qLane_high x k 12 (by omega) (by omega) l _ _ (fun h => by omega)
theorem head13 : k0_pay21 (k0_pay2 x) lanes (ix2 k l) = qLane x k ⟨13, by omega⟩ l := by
  pointwise [k0_pay21, k0_pay2, lanes]; exact qLane_high x k 13 (by omega) (by omega) l _ _ (fun h => by omega)
end

theorem overlay_hit {r : ℕ} (hr : r < 16) (p : FVec Ideal S8x128 .f32) (X : Vec Ideal S128x128 .f32) (k : Fin 8) (l : Fin 128) :
    (⟨strideRect r hr, spos_16_1⟩ : Rect S128x128).overlay X p (ix2 ⟨16 * k.val + r, by omega⟩ l) = p (ix2 k l) := by
  have e : (ix2 ⟨16 * k.val + r, by omega⟩ l : S128x128.Idx) = (⟨strideRect r hr, spos_16_1⟩ : Rect S128x128).emb (ix2 k l) := by
    funext a; apply Fin.ext
    fin_cases a
    · show 16 * k.val + r = r + 16 * k.val; omega
    · show l.val = 0 + 1 * l.val; omega
  rw [e, Rect.overlay_emb]

theorem overlay_miss {r : ℕ} (hr : r < 16) (p : FVec Ideal S8x128 .f32) (X : Vec Ideal S128x128 .f32) (k : Fin 8) (r' : ℕ) (hr' : r' < 16) (h : r' ≠ r) (l : Fin 128) :
    (⟨strideRect r hr, spos_16_1⟩ : Rect S128x128).overlay X p (ix2 ⟨16 * k.val + r', by omega⟩ l) = X (ix2 ⟨16 * k.val + r', by omega⟩ l) := by
  rw [Rect.overlay_of_not_mem]
  intro hm
  rw [← Rect.map_emb_univ] at hm
  obtain ⟨y, -, hy⟩ := Finset.mem_map.mp hm
  have := congrArg (fun z : S128x128.Idx => (z 0).val) hy
  have h2 : r + 16 * (y 0).val = 16 * k.val + r' := this
  omega

theorem queryRows_row (x : Vec Ideal S8x896 .bf16) (k : Fin 8) (h : Fin 14) (l : Fin 128) :
    queryRows x (ix2 ⟨16 * k.val + (h.val / 7 * 8 + h.val % 7), by omega⟩ l) = qLane x k h l := by
  unfold queryRows
  dsimp only
  fin_cases h
  · iterate 13 refine (overlay_miss _ _ _ k 0 (by decide) (by decide) l).trans ?_
    exact (overlay_hit (r := 0) _ _ _ k l).trans (head0 x k l)
  · iterate 12 refine (overlay_miss _ _ _ k 1 (by decide) (by decide) l).trans ?_
    exact (overlay_hit (r := 1) _ _ _ k l).trans (head1 x k l)
  · iterate 11 refine (overlay_miss _ _ _ k 2 (by decide) (by decide) l).trans ?_
    exact (overlay_hit (r := 2) _ _ _ k l).trans (head2 x k l)
  · iterate 10 refine (overlay_miss _ _ _ k 3 (by decide) (by decide) l).trans ?_
    exact (overlay_hit (r := 3) _ _ _ k l).trans (head3 x k l)
  · iterate 9 refine (overlay_miss _ _ _ k 4 (by decide) (by decide) l).trans ?_
    exact (overlay_hit (r := 4) _ _ _ k l).trans (head4 x k l)
  · iterate 8 refine (overlay_miss _ _ _ k 5 (by decide) (by decide) l).trans ?_
    exact (overlay_hit (r := 5) _ _ _ k l).trans (head5 x k l)
  · iterate 7 refine (overlay_miss _ _ _ k 6 (by decide) (by decide) l).trans ?_
    exact (overlay_hit (r := 6) _ _ _ k l).trans (head6 x k l)
  · iterate 6 refine (overlay_miss _ _ _ k 8 (by decide) (by decide) l).trans ?_
    exact (overlay_hit (r := 8) _ _ _ k l).trans (head7 x k l)
  · iterate 5 refine (overlay_miss _ _ _ k 9 (by decide) (by decide) l).trans ?_
    exact (overlay_hit (r := 9) _ _ _ k l).trans (head8 x k l)
  · iterate 4 refine (overlay_miss _ _ _ k 10 (by decide) (by decide) l).trans ?_
    exact (overlay_hit (r := 10) _ _ _ k l).trans (head9 x k l)
  · iterate 3 refine (overlay_miss _ _ _ k 11 (by decide) (by decide) l).trans ?_
    exact (overlay_hit (r := 11) _ _ _ k l).trans (head10 x k l)
  · iterate 2 refine (overlay_miss _ _ _ k 12 (by decide) (by decide) l).trans ?_
    exact (overlay_hit (r := 12) _ _ _ k l).trans (head11 x k l)
  · iterate 1 refine (overlay_miss _ _ _ k 13 (by decide) (by decide) l).trans ?_
    exact (overlay_hit (r := 13) _ _ _ k l).trans (head12 x k l)
  · iterate 0 refine (overlay_miss _ _ _ k 14 (by decide) (by decide) l).trans ?_
    exact (overlay_hit (r := 14) _ _ _ k l).trans (head13 x k l)

/-! ### The block put together -/

theorem pay166_apply (a b : Vec Ideal S8x128 .f32) (k : Fin 8) (l : Fin 128) :
    k0_pay166 lanes a b (ix2 k l) = if l.val < 64 then a (ix2 k l) else b (ix2 k ⟨(l.val + 128 - 64) % 128, by omega⟩) := by
  pointwise [k0_pay166, lanes]; exact select_slt64 l _ _
theorem pay169_apply (a b : Vec Ideal S8x128 .f32) (k : Fin 8) (l : Fin 128) :
    k0_pay169 lanes a b (ix2 k l) = if l.val < 64 then a (ix2 k l) else b (ix2 k l) := by
  pointwise [k0_pay169, lanes]; exact select_slt64 l _ _
/-- The two heads of one run of 128 lanes, the first rotated into place. -/
def turned (a b : Vec Ideal S8x128 .f32) : FVec Ideal S8x128 .f32 :=
  select (cmpi .slt lanes (broadcast S8x128 64#32)) (dynamicRotate 1 64#32 none a rotates_S8x128_d1 : FVec Ideal S8x128 .f32) b
theorem turned_apply (a b : Vec Ideal S8x128 .f32) (k : Fin 8) (l : Fin 128) :
    turned a b (ix2 k l) = if l.val < 64 then a (ix2 k ⟨(l.val + 128 - 64) % 128, by omega⟩) else b (ix2 k l) := by
  pointwise [turned, lanes]; exact select_slt64 l _ _

theorem outVal_eq (o : Fin 16 → Vec Ideal S8x128 .f32) :
    outVal o = truncf .bf16 (concatenate S8x896 1 [⟨S8x128, k0_pay166 lanes (o 0) (o 1)⟩, ⟨S8x128, k0_pay166 lanes (o 2) (o 3)⟩, ⟨S8x128, k0_pay166 lanes (o 4) (o 5)⟩,
      ⟨S8x128, k0_pay169 lanes (o 6) (o 8)⟩, ⟨S8x128, turned (o 9) (o 10)⟩, ⟨S8x128, turned (o 11) (o 12)⟩, ⟨S8x128, turned (o 13) (o 14)⟩]
      concatenates_S8x128_S8x128_S8x128_S8x128_S8x128_S8x128_S8x128_S8x896_d1 : FVec Ideal S8x896 .f32) bitsLt_bf16_f32 := rfl

theorem concat7 (a b c d e f g : FVec Ideal S8x128 .f32) (k : Fin 8) (n : Fin 896) :
    (truncf .bf16 (concatenate S8x896 1 [⟨S8x128, a⟩, ⟨S8x128, b⟩, ⟨S8x128, c⟩, ⟨S8x128, d⟩, ⟨S8x128, e⟩, ⟨S8x128, f⟩, ⟨S8x128, g⟩]
      concatenates_S8x128_S8x128_S8x128_S8x128_S8x128_S8x128_S8x128_S8x896_d1 : FVec Ideal S8x896 .f32) bitsLt_bf16_f32 : FVec Ideal S8x896 .bf16) (ix2 k n)
      = (![a, b, c, d, e, f, g] ⟨n.val / 128, by omega⟩ (ix2 k ⟨n.val % 128, by omega⟩) : EReal) := by
  pointwise
  have hn := n.isLt
  obtain ⟨q, hq⟩ : ∃ q, q = n.val / 128 := ⟨_, rfl⟩
  have hq7 : q < 7 := by omega
  have e' : (⟨n.val / 128, by omega⟩ : Fin 7) = ⟨q, hq7⟩ := Fin.ext hq.symm
  rw [e']
  interval_cases q
  · rw [dif_pos (by omega)]; exact congrArg a (congrArg (ix2 k) (Fin.ext (by dsimp only; omega)))
  · rw [dif_neg (by omega), dif_pos (by omega)]; exact congrArg b (congrArg (ix2 k) (Fin.ext (by dsimp only; omega)))
  · rw [dif_neg (by omega), dif_neg (by omega), dif_pos (by omega)]; exact congrArg c (congrArg (ix2 k) (Fin.ext (by dsimp only; omega)))
  · rw [dif_neg (by omega), dif_neg (by omega), dif_neg (by omega), dif_pos (by omega)]; exact congrArg d (congrArg (ix2 k) (Fin.ext (by dsimp only; omega)))
  · rw [dif_neg (by omega), dif_neg (by omega), dif_neg (by omega), dif_neg (by omega), dif_pos (by omega)]; exact congrArg e (congrArg (ix2 k) (Fin.ext (by dsimp only; omega)))
  · rw [dif_neg (by omega), dif_neg (by omega), dif_neg (by omega), dif_neg (by omega), dif_neg (by omega), dif_pos (by omega)]; exact congrArg f (congrArg (ix2 k) (Fin.ext (by dsimp only; omega)))
  · rw [dif_neg (by omega), dif_neg (by omega), dif_neg (by omega), dif_neg (by omega), dif_neg (by omega), dif_neg (by omega)]; exact congrArg g (congrArg (ix2 k) (Fin.ext (by dsimp only; omega)))

/-- Lane `c` of the block's row `k` is lane `c % 64` of head `c / 64`, in the half of the head's row that its values fill. -/
theorem outVal_apply (o : Fin 16 → Vec Ideal S8x128 .f32) (k : Fin 8) (c : Fin 896) :
    outVal o (ix2 k c) = (o ⟨c.val / 64 / 7 * 8 + c.val / 64 % 7, by omega⟩ (ix2 k ⟨64 * (c.val / 64 / 7) + c.val % 64, by omega⟩) : EReal) := by
  rw [outVal_eq]
  refine (concat7 _ _ _ _ _ _ _ k c).trans ?_
  have hn := c.isLt
  obtain ⟨q, hq⟩ : ∃ q, q = c.val / 64 := ⟨_, rfl⟩
  have hq7 : q < 14 := by omega
  have fin (i : Fin 16) (hi : i.val = c.val / 64 / 7 * 8 + c.val / 64 % 7) (n : Fin 128) (en : n.val = 64 * (c.val / 64 / 7) + c.val % 64) :
      (o i (ix2 k n) : EReal) = o ⟨c.val / 64 / 7 * 8 + c.val / 64 % 7, by omega⟩ (ix2 k ⟨64 * (c.val / 64 / 7) + c.val % 64, by omega⟩) := by
    exact congrArg₂ (fun i n => (o i (ix2 k n) : EReal)) (Fin.ext hi) (Fin.ext en)
  have low (a : Fin 7) (ha : c.val / 128 = a.val) : (⟨c.val / 128, by omega⟩ : Fin 7) = a := Fin.ext ha
  interval_cases q
  · rw [low 0 (by show _ = 0; omega)]
    exact (pay166_apply _ _ k _).trans ((if_pos (by show c.val % 128 < 64; omega)).trans (fin 0 (by show 0 = _; omega) _ (by dsimp only; omega)))
  · rw [low 0 (by show _ = 0; omega)]
    exact (pay166_apply _ _ k _).trans ((if_neg (by show ¬ c.val % 128 < 64; omega)).trans (fin 1 (by show 1 = _; omega) _ (by dsimp only; omega)))
  · rw [low 1 (by show _ = 1; omega)]
    exact (pay166_apply _ _ k _).trans ((if_pos (by show c.val % 128 < 64; omega)).trans (fin 2 (by show 2 = _; omega) _ (by dsimp only; omega)))
  · rw [low 1 (by show _ = 1; omega)]
    exact (pay166_apply _ _ k _).trans ((if_neg (by show ¬ c.val % 128 < 64; omega)).trans (fin 3 (by show 3 = _; omega) _ (by dsimp only; omega)))
  · rw [low 2 (by show _ = 2; omega)]
    exact (pay166_apply _ _ k _).trans ((if_pos (by show c.val % 128 < 64; omega)).trans (fin 4 (by show 4 = _; omega) _ (by dsimp only; omega)))
  · rw [low 2 (by show _ = 2; omega)]
    exact (pay166_apply _ _ k _).trans ((if_neg (by show ¬ c.val % 128 < 64; omega)).trans (fin 5 (by show 5 = _; omega) _ (by dsimp only; omega)))
  · rw [low 3 (by show _ = 3; omega)]
    exact (pay169_apply _ _ k _).trans ((if_pos (by show c.val % 128 < 64; omega)).trans (fin 6 (by show 6 = _; omega) _ (by dsimp only; omega)))
  · rw [low 3 (by show _ = 3; omega)]
    exact (pay169_apply _ _ k _).trans ((if_neg (by show ¬ c.val % 128 < 64; omega)).trans (fin 8 (by show 8 = _; omega) _ (by dsimp only; omega)))
  · rw [low 4 (by show _ = 4; omega)]
    exact (turned_apply _ _ k _).trans ((if_pos (by show c.val % 128 < 64; omega)).trans (fin 9 (by show 9 = _; omega) _ (by dsimp only; omega)))
  · rw [low 4 (by show _ = 4; omega)]
    exact (turned_apply _ _ k _).trans ((if_neg (by show ¬ c.val % 128 < 64; omega)).trans (fin 10 (by show 10 = _; omega) _ (by dsimp only; omega)))
  · rw [low 5 (by show _ = 5; omega)]
    exact (turned_apply _ _ k _).trans ((if_pos (by show c.val % 128 < 64; omega)).trans (fin 11 (by show 11 = _; omega) _ (by dsimp only; omega)))
  · rw [low 5 (by show _ = 5; omega)]
    exact (turned_apply _ _ k _).trans ((if_neg (by show ¬ c.val % 128 < 64; omega)).trans (fin 12 (by show 12 = _; omega) _ (by dsimp only; omega)))
  · rw [low 6 (by show _ = 6; omega)]
    exact (turned_apply _ _ k _).trans ((if_pos (by show c.val % 128 < 64; omega)).trans (fin 13 (by show 13 = _; omega) _ (by dsimp only; omega)))
  · rw [low 6 (by show _ = 6; omega)]
    exact (turned_apply _ _ k _).trans ((if_neg (by show ¬ c.val % 128 < 64; omega)).trans (fin 14 (by show 14 = _; omega) _ (by dsimp only; omega)))

/-! ### A window's keys and values -/

/-- A window's keys or values in full: row `64 j + d` is lane `d` of head `j`. -/
def full (K : Halves Ideal) : FVec Ideal S128x640 .bf16 :=
  concatenate S128x640 0 [⟨S32x640, k0_pay33 K.c00 K.s00⟩, ⟨S32x640, k0_pay33 K.c01 K.s01⟩, ⟨S32x640, k0_pay33 K.c10 K.s10⟩, ⟨S32x640, k0_pay33 K.c11 K.s11⟩] concatenates_S32x640_S32x640_S32x640_S32x640_S128x640_d0

theorem scores_eq (q : Vec Ideal S16x128 .f32) (K : Halves Ideal) :
    scores q K = mulf (matmul dot_S16x128_S128x640_S16x640_1_0_0_1_n_n none (truncf .bf16 q bitsLt_bf16_f32) (full K) (constant S16x640 .f32 0x00000000#32))
      (broadcast S16x640 (Scalar.ofBits .f32 0x3E000000#32)) := rfl

theorem pay34_eq (p : FVec Ideal S16x640 .bf16) (V : Halves Ideal) :
    k0_pay34 p (k0_pay33 V.c00 V.s00) V.c01 V.s01 V.c10 V.s10 V.c11 V.s11
      = matmul dot_S16x640_S128x640_S16x128_1_1_0_0_n_n none p (full V) (constant S16x128 .f32 0x00000000#32) := rfl

theorem scores_apply (q : Vec Ideal S16x128 .f32) (K : Halves Ideal) (r : Fin 16) (w : Fin 640) :
    scores q K (ix2 r w) = (∑ x : Fin 128, (q (ix2 r x) : EReal) * full K (ix2 x w)) * Ideal.ofBits FTy.f32 0x3E000000#32 := by
  rw [scores_eq]
  pointwise

theorem pay33_apply (c : Vec Ideal S1x1x1x32x640 .i8) (s : Vec Ideal S1x1x1x1x640 .f32) (r : Fin 32) (w : Fin 640) :
    k0_pay33 c s (ix2 r w) = (FloatOps.sitofp (F := Ideal) FTy.bf16 (c (ix5 0 0 0 r w)) : EReal) * s (ix5 0 0 0 0 w) := by
  pointwise [k0_pay33]
  split <;> rfl

/-- Row `r` of a window's keys or values: a code times its half head's scale. -/
theorem full_apply (X : Vec Ideal S2x64x640 .i8) (Y : Vec Ideal S2x2x640 .f32) (r : Fin 128) (w : Fin 640) :
    full (halves X Y) (ix2 r w) = (FloatOps.sitofp (F := Ideal) FTy.bf16 (X (ix3 ⟨r.val / 64, by omega⟩ ⟨r.val % 64, by omega⟩ w)) : EReal)
      * Y (ix3 ⟨r.val / 64, by omega⟩ ⟨r.val % 64 / 32, by omega⟩ w) := by
  have hr := r.isLt
  have fin (j h : Fin 2) (d : Fin 32) (hj : j.val = r.val / 64) (hd : 32 * h.val + d.val = r.val % 64) :
      k0_pay33 (halfCodes X j h) (halfScales Y j h) (ix2 d w) = (FloatOps.sitofp (F := Ideal) FTy.bf16 (X (ix3 ⟨r.val / 64, by omega⟩ ⟨r.val % 64, by omega⟩ w)) : EReal)
        * Y (ix3 ⟨r.val / 64, by omega⟩ ⟨r.val % 64 / 32, by omega⟩ w) := by
    rw [pay33_apply]
    refine congrArg₂ (fun a b : EReal => a * b) (congrArg (fun i => (FloatOps.sitofp (F := Ideal) FTy.bf16 (X i) : EReal)) ?_) (congrArg (fun i => (Y i : EReal)) ?_)
    · exact congrArg₂ (fun (a : Fin 2) (b : Fin 64) => (ix3 a b w : S2x64x640.Idx)) (Fin.ext hj) (Fin.ext hd)
    · exact congrArg₂ (fun (a b : Fin 2) => (ix3 a b w : S2x2x640.Idx)) (Fin.ext hj) (Fin.ext (by show h.val = r.val % 64 / 32; omega))
  pointwise [full]
  split
  · exact fin 0 0 _ (by show 0 = _; omega) (by show 32 * 0 + r.val = _; omega)
  · split
    · exact fin 0 1 _ (by show 0 = _; omega) (by show 32 * 1 + (r.val - 32) = _; omega)
    · split
      · exact fin 1 0 _ (by show 1 = _; omega) (by show 32 * 0 + (r.val - 32 - 32) = _; omega)
      · exact fin 1 1 _ (by show 1 = _; omega) (by show 32 * 1 + (r.val - 32 - 32 - 32) = _; omega)

/-- Whether lane `w` of the window that holds word `wd` is a row of the sequence from `lo` to `hi`. -/
def laneOk (lo wd hi : BitVec 32) (w : Fin 640) : BitVec 1 :=
  IntOp.andi (IntOp.cmpi .sge (BitVec.ofNat 32 w.val) (Scalar.subi lo (Scalar.minsi (Scalar.shli (Scalar.shrui wd 7#32) 7#32) 2559360#32)))
    (IntOp.cmpi .slt (BitVec.ofNat 32 w.val) (Scalar.addi (Scalar.subi lo (Scalar.minsi (Scalar.shli (Scalar.shrui wd 7#32) 7#32) 2559360#32)) (Scalar.subi hi lo)))

theorem mask_apply (lo wd hi : BitVec 32)  (r : Fin 16) (w : Fin 640) :
    k0_pay22 (F := Ideal) lo wd hi (ix2 r w) = laneOk lo wd hi w := by
  pointwise [k0_pay22]
  rfl

/-- A sequence's rows: attention over the lanes of its window. -/
theorem seqVal_apply (lo wd hi : BitVec 32) (q : Vec Ideal S16x128 .f32) (K : Halves Ideal) (kn : Vec Ideal S1x128 .f32) (V : Halves Ideal) (vn : Vec Ideal S1x128 .f32) (r : Fin 16) (l : Fin 128) :
    seqVal lo wd hi q K kn V vn (ix2 r l) = attend
      (fun w : Fin 640 => Scalar.select (k0_pay22 (F := Ideal) lo wd hi (ix2 r w)) (scores q K (ix2 r w) : EReal) (Ideal.ofBits FTy.f32 0xFF800000#32))
      ((∑ x : Fin 128, (q (ix2 r x) : EReal) * kn (ix2 0 x)) * Ideal.ofBits FTy.f32 0x3E000000#32)
      (fun w => full V (ix2 l w)) (vn (ix2 0 l)) := by
  unfold seqVal
  rw [pay34_eq]
  generalize k0_pay22 (F := Ideal) lo wd hi = M
  generalize scores q K = S
  generalize full V = W
  pointwise [k0_pay36, k0_pay35, k0_pay32, k0_pay31, k0_pay30, k0_pay29, k0_pay28, k0_pay27, k0_pay26]
  rfl

end Cert.KernelIdeal
end
-- ==== Proof.Block.lean ====
module
public import proofs.«01_k».proof.Proof.Rows
public import proofs.«01_k».proof.Proof.Starts
@[expose] public section
/-!
One element of a grid point's block of results, over the cache: attention over the 640 lanes of the sequence's window.
-/
noncomputable section
namespace Cert.KernelIdeal
open Gen Attend
open Idealize.ShloMosaic Idealize.ShloMosaic.TcCoe Idealize.ShloMosaic.Tactic

/-- A head's row of queries against a column: the other half of the lanes adds nothing. -/
theorem sum_qLane (x : Vec Ideal S8x896 .bf16) (k : Fin 8) (h : Fin 14) (f : Fin 128 → EReal) :
    ∑ l : Fin 128, qLane x k h l * f l
      = ∑ d : Fin 64, (x (ix2 k ⟨64 * h.val + d.val, by omega⟩) : EReal) * f ⟨64 * (h.val / 7) + d.val, by omega⟩ := by
  refine (Fintype.sum_of_injective (fun d : Fin 64 => (⟨64 * (h.val / 7) + d.val, by omega⟩ : Fin 128)) (fun a b e => ?_) _ _ (fun l hl => ?_) (fun d => ?_)).symm
  · have := congrArg Fin.val e; dsimp only at this; exact Fin.ext (by omega)
  · unfold qLane
    rw [if_neg, zero_mul]
    intro e
    exact hl ⟨⟨l.val % 64, by omega⟩, Fin.ext (by dsimp only; omega)⟩
  · unfold qLane
    dsimp only
    rw [if_pos (by omega)]
    congr 3; apply Fin.ext; dsimp only; omega

/-- A cache row's number times its scale. -/
def entry (X : Vec Ideal S2x64x640 .i8) (Y : Vec Ideal S2x2x640 .f32) (j : Fin 2) (d : Fin 64) (w : Fin 640) : EReal :=
  (FloatOps.sitofp (F := Ideal) FTy.bf16 (X (ix3 j d w)) : EReal) * Y (ix3 j ⟨d.val / 32, by omega⟩ w)

theorem full_entry (X : Vec Ideal S2x64x640 .i8) (Y : Vec Ideal S2x2x640 .f32) (j : Fin 2) (d : Fin 64) (w : Fin 640) :
    full (halves X Y) (ix2 ⟨64 * j.val + d.val, by omega⟩ w) = entry X Y j d w := by
  rw [full_apply]
  unfold entry
  refine congrArg₂ (fun a b : EReal => a * b) (congrArg (fun i => (FloatOps.sitofp (F := Ideal) FTy.bf16 (X i) : EReal)) ?_) (congrArg (fun i => (Y i : EReal)) ?_)
  · exact congrArg₂ (fun (a : Fin 2) (b : Fin 64) => (ix3 a b w : S2x64x640.Idx)) (Fin.ext (by dsimp only; omega)) (Fin.ext (by dsimp only; omega))
  · exact congrArg₂ (fun (a b : Fin 2) => (ix3 a b w : S2x2x640.Idx)) (Fin.ext (by dsimp only; omega)) (Fin.ext (by dsimp only; omega))

/-- Lane `c` of row `k` of a block: attention of head `c / 64` of sequence `8 g + k`, at value lane `c % 64`. -/
theorem blockOut_apply (C : Cache Ideal) (g : ℕ) (x : Vec Ideal S8x896 .bf16) (KN VN : Vec Ideal S8x128 .f32) (k : Fin 8) (c : Fin 896) :
    blockOut C g x KN VN (ix2 k c) = attend
      (fun w : Fin 640 => Scalar.select (laneOk (tbl C.table (8 * g + k.val)) (tbl C.table (8 * g + k.val)) (tbl C.table (8 * g + k.val + 1)) w)
        ((∑ d : Fin 64, (x (ix2 k ⟨64 * (c.val / 64) + d.val, by omega⟩) : EReal)
          * entry (C.codesOf false (8 * g + k.val)) (C.scalesOf false (8 * g + k.val)) ⟨c.val / 448, by omega⟩ d w) * Ideal.ofBits FTy.f32 0x3E000000#32)
        (Ideal.ofBits FTy.f32 0xFF800000#32))
      ((∑ d : Fin 64, (x (ix2 k ⟨64 * (c.val / 64) + d.val, by omega⟩) : EReal) * KN (ix2 k ⟨64 * (c.val / 448) + d.val, by omega⟩)) * Ideal.ofBits FTy.f32 0x3E000000#32)
      (fun w => entry (C.codesOf true (8 * g + k.val)) (C.scalesOf true (8 * g + k.val)) ⟨c.val / 448, by omega⟩ ⟨c.val % 64, by omega⟩ w)
      (VN (ix2 k ⟨64 * (c.val / 448) + c.val % 64, by omega⟩)) := by
  have hk := k.isLt
  have hc := c.isLt
  have hq (l : Fin 128) : rowsOf (queryRows x) k (ix2 ⟨c.val / 64 / 7 * 8 + c.val / 64 % 7, by omega⟩ l) = qLane x k ⟨c.val / 64, by omega⟩ l :=
    queryRows_row x k ⟨c.val / 64, by omega⟩ l
  have e448 : c.val / 64 / 7 = c.val / 448 := by omega
  unfold blockOut
  rw [outVal_apply]
  have e : headRows (outRows C g (queryRows x) KN VN) ⟨c.val / 64 / 7 * 8 + c.val / 64 % 7, by omega⟩ (ix2 k ⟨64 * (c.val / 64 / 7) + c.val % 64, by omega⟩)
      = seqOut C g (queryRows x) KN VN k (ix2 ⟨c.val / 64 / 7 * 8 + c.val / 64 % 7, by omega⟩ ⟨64 * (c.val / 448) + c.val % 64, by omega⟩) := by
    show seqOut C g (queryRows x) KN VN ⟨((c.val / 64 / 7 * 8 + c.val / 64 % 7) + 16 * k.val) / 16, _⟩
      (ix2 ⟨((c.val / 64 / 7 * 8 + c.val / 64 % 7) + 16 * k.val) % 16, _⟩ ⟨64 * (c.val / 64 / 7) + c.val % 64, _⟩) = _
    have e1 : (⟨((c.val / 64 / 7 * 8 + c.val / 64 % 7) + 16 * k.val) / 16, by omega⟩ : Fin 8) = k := Fin.ext (by dsimp only; omega)
    rw [e1]
    exact congrArg₂ (fun (a : Fin 16) (b : Fin 128) => seqOut C g (queryRows x) KN VN k (ix2 a b)) (Fin.ext (by dsimp only; omega)) (Fin.ext (by dsimp only; omega))
  refine e.trans ?_
  unfold seqOut
  rw [seqVal_apply]
  have hs (w : Fin 640) : (scores (rowsOf (queryRows x) k) (halves (C.codesOf false (8 * g + k.val)) (C.scalesOf false (8 * g + k.val)))
        (ix2 ⟨c.val / 64 / 7 * 8 + c.val / 64 % 7, by omega⟩ w) : EReal)
      = (∑ d : Fin 64, (x (ix2 k ⟨64 * (c.val / 64) + d.val, by omega⟩) : EReal)
          * entry (C.codesOf false (8 * g + k.val)) (C.scalesOf false (8 * g + k.val)) ⟨c.val / 448, by omega⟩ d w) * Ideal.ofBits FTy.f32 0x3E000000#32 := by
    rw [scores_apply]
    congr 1
    refine (Finset.sum_congr rfl fun l _ => congrArg (· * _) (hq l)).trans ?_
    refine (sum_qLane x k ⟨c.val / 64, by omega⟩ _).trans ?_
    refine Finset.sum_congr rfl fun d _ => congrArg (_ * ·) ?_
    rw [← full_entry]
    exact congrArg (fun a : Fin 128 => (full _ (ix2 a w) : EReal)) (Fin.ext (by dsimp only; omega))
  have ht : (∑ l : Fin 128, (rowsOf (queryRows x) k (ix2 ⟨c.val / 64 / 7 * 8 + c.val / 64 % 7, by omega⟩ l) : EReal) * rowOf KN k (ix2 0 l))
      = ∑ d : Fin 64, (x (ix2 k ⟨64 * (c.val / 64) + d.val, by omega⟩) : EReal) * KN (ix2 k ⟨64 * (c.val / 448) + d.val, by omega⟩) := by
    refine (Finset.sum_congr rfl fun l _ => congrArg (· * _) (hq l)).trans ?_
    refine (sum_qLane x k ⟨c.val / 64, by omega⟩ _).trans ?_
    refine Finset.sum_congr rfl fun d _ => congrArg (_ * ·) ?_
    exact congrArg (fun a : Fin 128 => (KN (ix2 k a) : EReal)) (Fin.ext (by show 64 * (c.val / 64 / 7) + d.val = 64 * (c.val / 448) + d.val; omega))
  rw [ht]
  refine congrArg₂ (fun s v => attend s _ v _) (funext fun w => ?_) (funext fun w => ?_)
  · rw [mask_apply, hs]
  · exact full_entry _ _ ⟨c.val / 448, by omega⟩ ⟨c.val % 64, by omega⟩ w

/-- A window's entries are the cache's, from the window's first lane on. -/
theorem codesOf_apply (C : Cache Ideal) (b : Bool) (n : ℕ) (hn : n < 5000) (hz : (tbl C.table n).toNat < 2 ^ 31) (j : Fin 2) (d : Fin 64) (w : Fin 640)
    (hw : lane0 (tbl C.table n).toNat + w.val < 2560000) :
    C.codesOf b n (ix3 j d w) = C.codes b (ix3 j d ⟨lane0 (tbl C.table n).toNat + w.val, hw⟩) := by
  unfold Cache.codesOf codesAt
  congr 1
  funext a; apply Fin.ext
  have e : k0_off68 (C.start n) = ![0, 0, lane0 (tbl C.table n).toNat] := by rw [C.start_eq hn]; exact off68_eq _ hz
  fin_cases a
  · show k0_off68 (C.start n) 0 + 1 * j.val = j.val; rw [e]; show 0 + 1 * j.val = j.val; omega
  · show k0_off68 (C.start n) 1 + 1 * d.val = d.val; rw [e]; show 0 + 1 * d.val = d.val; omega
  · show k0_off68 (C.start n) 2 + 1 * w.val = _; rw [e]; show lane0 _ + 1 * w.val = lane0 _ + w.val; omega

theorem scalesOf_apply (C : Cache Ideal) (b : Bool) (n : ℕ) (hn : n < 5000) (hz : (tbl C.table n).toNat < 2 ^ 31) (j h : Fin 2) (w : Fin 640)
    (hw : lane0 (tbl C.table n).toNat + w.val < 2560000) :
    C.scalesOf b n (ix3 j h w) = C.scales b (ix3 j h ⟨lane0 (tbl C.table n).toNat + w.val, hw⟩) := by
  unfold Cache.scalesOf scalesAt
  congr 1
  funext a; apply Fin.ext
  have e : k0_off70 (C.start n) = ![0, 0, lane0 (tbl C.table n).toNat] := by rw [C.start_eq hn]; exact off70_eq _ hz
  fin_cases a
  · show k0_off70 (C.start n) 0 + 1 * j.val = j.val; rw [e]; show 0 + 1 * j.val = j.val; omega
  · show k0_off70 (C.start n) 1 + 1 * h.val = h.val; rw [e]; show 0 + 1 * h.val = h.val; omega
  · show k0_off70 (C.start n) 2 + 1 * w.val = _; rw [e]; show lane0 _ + 1 * w.val = lane0 _ + w.val; omega

end Cert.KernelIdeal
end
-- ==== Proof.Ref.lean ====
module
public import proofs.«01_k».proof.Proof.Gen.ReferenceIdeal.Run
public import Idealize.ShloMosaic.Lib.Pointwise
@[expose] public section
/-!
The reference's result, in stages: the cache's rows read back and scaled, the scores, the softmax, the weighted values.
-/
noncomputable section
namespace Cert.ReferenceIdeal
open Gen Value
open Idealize.ShloMosaic Idealize.ShloMosaic.TcCoe

/-- Where the sequences begin. -/
def begins (a7 : IVec S5001 32) : IVec S5000 32 := extractStridedSlice S5000 ![0] a7 slices_S5001_S5000_0
/-- Where the sequences end. -/
def ends (a7 : IVec S5001 32) : IVec S5000 32 := extractStridedSlice S5000 ![1] a7 slices_S5001_S5000_1
/-- The corners of the sequences' rows in the cache. -/
def corners (a7 : IVec S5001 32) : IVec S5000x3 32 :=
  concatenate S5000x3 1 [⟨S5000x1, broadcastInDim S5000x1 ![0] bcast_S5000_S5000x1_0
      (select (cmpi .slt (begins a7) (broadcastInDim S5000 ![] bcast_S_S5000 (constantI S_ 32 0#32)))
        (addi (begins a7) (broadcastInDim S5000 ![] bcast_S_S5000 (constantI S_ 32 2560000#32))) (begins a7))⟩,
    ⟨S5000x1, broadcastInDim S5000x1 ![] bcast_S_S5000x1 (constantI S_ 32 0#32)⟩,
    ⟨S5000x1, broadcastInDim S5000x1 ![] bcast_S_S5000x1 (constantI S_ 32 0#32)⟩] concatenates_S5000x1_S5000x1_S5000x1_S5000x3_d1
/-- The 512 rows of every sequence, codes times scales. -/
def rows (X : IVec S2560000x2x64 8) (Y : FVec Ideal S2560000x2x2 .f32) (a7 : IVec S5001 32) : FVec Ideal S5000x512x2x64 .bf16 :=
  shapeCast _ (mulf (shapeCast _ (truncf .bf16 (sitofp .f32 (extsi 32 (Host.gather gather_S2560000x2x64_S5000x3_S5000x512x2x64_123_n_n_n_012_1_512264 X (corners a7)) natLt_8_32)) bitsLt_bf16_f32) shapeCasts_S5000x512x2x64_S5000x512x2x2x32)
    (broadcastInDim S5000x512x2x2x32 ![0, 1, 2, 3, 4] bcast_S5000x512x2x2x1_S5000x512x2x2x32_0_1_2_3_4 (broadcastInDim S5000x512x2x2x1 ![0, 1, 2, 3] bcast_S5000x512x2x2_S5000x512x2x2x1_0_1_2_3
      (truncf .bf16 (Host.gather gather_S2560000x2x2_S5000x3_S5000x512x2x2_123_n_n_n_012_1_51222 Y (corners a7)) bitsLt_bf16_f32)))) shapeCasts_S5000x512x2x2x32_S5000x512x2x64
/-- The queries by head. -/
def queries (x : FVec Ideal S5000x1x896 .bf16) : FVec Ideal S5000x1x2x7x64 .bf16 := shapeCast _ x shapeCasts_S5000x1x896_S5000x1x2x7x64
/-- Which of the 512 rows belong to a sequence. -/
def valid (a7 : IVec S5001 32) : IVec S5000x512 1 :=
  cmpi .slt (broadcastInDim S5000x512 ![0, 1] bcast_S1x512_S5000x512_0_1 (broadcastInDim S1x512 ![1] bcast_S512_S1x512_1 (iotaInDim S512 32 0)))
    (broadcastInDim S5000x512 ![0, 1] bcast_S5000x1_S5000x512_0_1 (broadcastInDim S5000x1 ![0] bcast_S5000_S5000x1_0 (subi (ends a7) (begins a7))))
/-- The masked scores. -/
def scores (M : IVec S5000x512 1) (q : FVec Ideal S5000x1x2x7x64 .bf16) (K : FVec Ideal S5000x512x2x64 .bf16) : FVec Ideal S5000x1x2x7x512 .f32 :=
  select (broadcastInDim S5000x1x2x7x512 ![0, 1, 2, 3, 4] bcast_S5000x1x1x1x512_S5000x1x2x7x512_0_1_2_3_4 (broadcastInDim S5000x1x1x1x512 ![0, 4] bcast_S5000x512_S5000x1x1x1x512_0_4 M))
    (mulf (transpose S5000x1x2x7x512 [0, 3, 1, 4, 2] (Host.dotGeneral dot_S5000x512x2x64_S5000x1x2x7x64_S5000x2x512x1x7_3_4_1_13_02_02 none K q) transposes_S5000x2x512x1x7_S5000x1x2x7x512_0_3_1_4_2)
      (broadcastInDim S5000x1x2x7x512 ![] bcast_S_S5000x1x2x7x512 (constant S_ .f32 0x3E000000#32)))
    (broadcastInDim S5000x1x2x7x512 ![] bcast_S_S5000x1x2x7x512 (constant S_ .f32 0xFF800000#32))
/-- The score of the new row. -/
def newScore (q : FVec Ideal S5000x1x2x7x64 .bf16) (k : FVec Ideal S5000x1x2x64 .bf16) : FVec Ideal S5000x1x2x7 .f32 :=
  mulf (Host.dotGeneral dot_S5000x1x2x7x64_S5000x1x2x64_S5000x1x2x7_4_3_3_n_012_012 none q k) (broadcastInDim S5000x1x2x7 ![] bcast_S_S5000x1x2x7 (constant S_ .f32 0x3E000000#32))
/-- The greatest score. -/
def top (S : FVec Ideal S5000x1x2x7x512 .f32) (t : FVec Ideal S5000x1x2x7 .f32) : FVec Ideal S5000x1x2x7 .f32 :=
  maximumf (Host.reduce FloatOps.maximumf S (constant S_ .f32 0xFF800000#32) reducesTo_S5000x1x2x7x512_S5000x1x2x7_d4 h_S_) t
/-- The unnormalised weights. -/
def weights (S : FVec Ideal S5000x1x2x7x512 .f32) (t : FVec Ideal S5000x1x2x7 .f32) : FVec Ideal S5000x1x2x7x512 .f32 :=
  Host.exp (subf S (broadcastInDim S5000x1x2x7x512 ![0, 1, 2, 3, 4] bcast_S5000x1x2x7x1_S5000x1x2x7x512_0_1_2_3_4 (broadcastInDim S5000x1x2x7x1 ![0, 1, 2, 3] bcast_S5000x1x2x7_S5000x1x2x7x1_0_1_2_3 (top S t))))
/-- The unnormalised weight of the new row. -/
def newWeight (S : FVec Ideal S5000x1x2x7x512 .f32) (t : FVec Ideal S5000x1x2x7 .f32) : FVec Ideal S5000x1x2x7 .f32 := Host.exp (subf t (top S t))
/-- One over the sum of the weights. -/
def inv (S : FVec Ideal S5000x1x2x7x512 .f32) (t : FVec Ideal S5000x1x2x7 .f32) : FVec Ideal S5000x1x2x7 .f32 :=
  Host.divf (broadcastInDim S5000x1x2x7 ![] bcast_S_S5000x1x2x7 (constant S_ .f32 0x3F800000#32))
    (addf (Host.reduceAdd (weights S t) (constant S_ .f32 0x00000000#32) reducesTo_S5000x1x2x7x512_S5000x1x2x7_d4 h_S_) (newWeight S t))
/-- The result. -/
def outcome (S : FVec Ideal S5000x1x2x7x512 .f32) (t : FVec Ideal S5000x1x2x7 .f32) (V : FVec Ideal S5000x512x2x64 .bf16) (v : FVec Ideal S5000x1x2x64 .bf16) : FVec Ideal S5000x896 .bf16 :=
  truncf .bf16 (shapeCast _ (addf
    (transpose S5000x1x2x7x64 [0, 3, 1, 4, 2] (Host.dotGeneral dot_S5000x512x2x64_S5000x1x2x7x512_S5000x2x64x1x7_1_4_3_13_02_02 none V
      (truncf .bf16 (mulf (weights S t) (broadcastInDim S5000x1x2x7x512 ![0, 1, 2, 3, 4] bcast_S5000x1x2x7x1_S5000x1x2x7x512_0_1_2_3_4 (broadcastInDim S5000x1x2x7x1 ![0, 1, 2, 3] bcast_S5000x1x2x7_S5000x1x2x7x1_0_1_2_3 (inv S t)))) bitsLt_bf16_f32)) transposes_S5000x2x64x1x7_S5000x1x2x7x64_0_3_1_4_2)
    (mulf (broadcastInDim S5000x1x2x7x64 ![0, 1, 2, 3, 4] bcast_S5000x1x2x7x1_S5000x1x2x7x64_0_1_2_3_4 (broadcastInDim S5000x1x2x7x1 ![0, 1, 2, 3] bcast_S5000x1x2x7_S5000x1x2x7x1_0_1_2_3 (mulf (newWeight S t) (inv S t))))
      (broadcastInDim S5000x1x2x7x64 ![0, 1, 2, 3, 4] bcast_S5000x1x2x1x64_S5000x1x2x7x64_0_1_2_3_4 (broadcastInDim S5000x1x2x1x64 ![0, 1, 2, 4] bcast_S5000x1x2x64_S5000x1x2x1x64_0_1_2_4 (extf .f32 v bitsLt_bf16_f32)))))
    shapeCasts_S5000x1x2x7x64_S5000x896) bitsLt_bf16_f32

set_option maxRecDepth 8192 in
set_option maxHeartbeats 4000000 in
theorem res_eq (m : (ℓ : Loc nD τ sig) → Buf (Elt Ideal) ℓ) (c : Dev nD) :
    res_main_v104 m c = outcome
      (scores (valid (m ((c.tc : Thread nD τ).loc main_arg7))) (queries (m ((c.tc : Thread nD τ).loc main_arg0))) (rows (m ((c.tc : Thread nD τ).loc main_arg3)) (m ((c.tc : Thread nD τ).loc main_arg4)) (m ((c.tc : Thread nD τ).loc main_arg7))))
      (newScore (queries (m ((c.tc : Thread nD τ).loc main_arg0))) (m ((c.tc : Thread nD τ).loc main_arg1)))
      (rows (m ((c.tc : Thread nD τ).loc main_arg5)) (m ((c.tc : Thread nD τ).loc main_arg6)) (m ((c.tc : Thread nD τ).loc main_arg7)))
      (m ((c.tc : Thread nD τ).loc main_arg2)) := by
  unfold res_main_v104
  rfl

end Cert.ReferenceIdeal
end
-- ==== Proof.Gather.lean ====
module
public import proofs.«01_k».proof.Proof.Gen.ReferenceIdeal.Run
public import Idealize.ShloMosaic.Lib.Pointwise
@[expose] public section
/-!
A gather of whole slabs at an index: every result row is a run of an operand's rows from a start read off a table and
clamped so that the run fits.
-/
noncomputable section
namespace Cert.ReferenceIdeal
open Idealize.ShloMosaic

variable {N A B S L w : ℕ} {α : Type}

/-- `L` rows of `[N, A, B]` for each of `S` starts. -/
abbrev slabDims (N A B S L : ℕ) (wf : GatherDims.WF ⟨3, ![N, A, B]⟩ ⟨2, ![S, 3]⟩ ⟨4, ![S, L, A, B]⟩ [1, 2, 3] [] [] [0, 1, 2] [] 1 ![L, A, B]) :
    GatherDims ⟨3, ![N, A, B]⟩ ⟨2, ![S, 3]⟩ ⟨4, ![S, L, A, B]⟩ where
  offsetDims := [1, 2, 3]
  collapsedSliceDims := []
  operandBatchingDims := []
  startIndicesBatchingDims := []
  startIndexMap := [0, 1, 2]
  indexVectorDim := 1
  sliceSizes := ![L, A, B]
  wf := wf

theorem gather_slab (hL : L ≤ N) (wf : GatherDims.WF ⟨3, ![N, A, B]⟩ ⟨2, ![S, 3]⟩ ⟨4, ![S, L, A, B]⟩ [1, 2, 3] [] [] [0, 1, 2] [] 1 ![L, A, B])
    (x : (⟨3, ![N, A, B]⟩ : Shape).Idx → α) (idx : IVec ⟨2, ![S, 3]⟩ w) (s : Fin S) (p : Fin L) (a : Fin A) (b : Fin B) :
    Host.gather (slabDims N A B S L wf) x idx (ix4 s p a b) = x (ix3 ⟨min (idx (ix2 s 0)).toInt.toNat (N - L) + p.val, by omega⟩ a b) := by
  unfold Host.gather
  congr 1
  funext c
  refine Fin.ext ?_
  show (slabDims N A B S L wf).start _ idx c + (slabDims N A B S L wf).batchCoord _ c + (slabDims N A B S L wf).offCoord _ c = _
  rw [GatherDims.batchCoord_eq_zero _ _ _ List.not_mem_nil, Nat.add_zero]
  unfold GatherDims.start GatherDims.offCoord
  match c with
  | ⟨0, _⟩ =>
    rw [dif_pos (show (⟨0, (by decide : 0 < 3)⟩ : Fin (⟨3, ![N, A, B]⟩ : Shape).rank) ∈ (slabDims N A B S L wf).startIndexMap by show (0 : Fin 3) ∈ ([0, 1, 2] : List (Fin 3)); decide), dif_pos (((slabDims N A B S L wf).mem_sKept _).mpr ⟨List.not_mem_nil, List.not_mem_nil⟩)]
    have hsi : (slabDims N A B S L wf).siIdx (ix4 s p a b) ⟨List.idxOf (0 : Fin 3) (slabDims N A B S L wf).startIndexMap,
        List.idxOf_lt_length_iff.2 (show (0 : Fin 3) ∈ ([0, 1, 2] : List (Fin 3)) by decide)⟩ = ix2 s 0 := by
      funext e; refine Fin.ext ?_
      match e with
      | ⟨0, _⟩ => rfl
      | ⟨1, _⟩ => rfl
    exact congrArg (fun i => min (idx i).toInt.toNat (N - L) + p.val) hsi
  | ⟨1, _⟩ =>
    rw [dif_pos (show (⟨1, (by decide : 1 < 3)⟩ : Fin (⟨3, ![N, A, B]⟩ : Shape).rank) ∈ (slabDims N A B S L wf).startIndexMap by show (1 : Fin 3) ∈ ([0, 1, 2] : List (Fin 3)); decide), dif_pos (((slabDims N A B S L wf).mem_sKept _).mpr ⟨List.not_mem_nil, List.not_mem_nil⟩)]
    show min _ (A - A) + a.val = a.val
    omega
  | ⟨2, _⟩ =>
    rw [dif_pos (show (⟨2, (by decide : 2 < 3)⟩ : Fin (⟨3, ![N, A, B]⟩ : Shape).rank) ∈ (slabDims N A B S L wf).startIndexMap by show (2 : Fin 3) ∈ ([0, 1, 2] : List (Fin 3)); decide), dif_pos (((slabDims N A B S L wf).mem_sKept _).mpr ⟨List.not_mem_nil, List.not_mem_nil⟩)]
    show min _ (B - B) + b.val = b.val
    omega

theorem gather_codes (x : S2560000x2x64.Idx → α) (idx : IVec S5000x3 w) (s : Fin 5000) (p : Fin 512) (a : Fin 2) (b : Fin 64) :
    Host.gather gather_S2560000x2x64_S5000x3_S5000x512x2x64_123_n_n_n_012_1_512264 x idx (ix4 s p a b)
      = x (ix3 ⟨min (idx (ix2 s 0)).toInt.toNat 2559488 + p.val, by omega⟩ a b) :=
  gather_slab (by decide) _ x idx s p a b

theorem gather_scales (x : S2560000x2x2.Idx → α) (idx : IVec S5000x3 w) (s : Fin 5000) (p : Fin 512) (a b : Fin 2) :
    Host.gather gather_S2560000x2x2_S5000x3_S5000x512x2x2_123_n_n_n_012_1_51222 x idx (ix4 s p a b)
      = x (ix3 ⟨min (idx (ix2 s 0)).toInt.toNat 2559488 + p.val, by omega⟩ a b) :=
  gather_slab (by decide) _ x idx s p a b

end Cert.ReferenceIdeal
end
-- ==== Proof.RefRows.lean ====
module
public import proofs.«01_k».proof.Proof.Ref
public import proofs.«01_k».proof.Proof.Gather
public import proofs.«01_k».proof.Proof.Attend
@[expose] public section
/-!
The reference's intermediate values, element by element.
-/
noncomputable section
namespace Cert.ReferenceIdeal
open Gen Value
open Idealize.ShloMosaic Idealize.ShloMosaic.TcCoe

set_option maxRecDepth 16384

/-- The greatest along the last of five axes. -/
theorem reduce_max {n0 n1 n2 n3 n4 : ℕ} {u : Shape} (x : (⟨5, ![n0, n1, n2, n3, n4]⟩ : Shape).Idx → EReal) (init : u.Idx → EReal)
    (h : (⟨5, ![n0, n1, n2, n3, n4]⟩ : Shape).ReducesTo [4] ⟨4, ![n0, n1, n2, n3]⟩) (hu : 0 < u.numel) (i0 : Fin n0) (i1 : Fin n1) (i2 : Fin n2) (i3 : Fin n3) :
    Host.reduce (max : EReal → EReal → EReal) x init h hu (ix4 i0 i1 i2 i3)
      = Finset.fold max (init (Shape.Idx.first hu)) (fun w : Fin n4 => x (ix5 i0 i1 i2 i3 w)) Finset.univ := by
  rw [Host.reduce_eq_fold, h.fold_fiber_r5_a4]
  rfl

theorem maximum_reduce {n0 n1 n2 n3 n4 : ℕ} {u : Shape} (x : FVec Ideal ⟨5, ![n0, n1, n2, n3, n4]⟩ .f32) (init : FVec Ideal u .f32) (t : FVec Ideal ⟨4, ![n0, n1, n2, n3]⟩ .f32)
    (h : (⟨5, ![n0, n1, n2, n3, n4]⟩ : Shape).ReducesTo [4] ⟨4, ![n0, n1, n2, n3]⟩) (hu : 0 < u.numel) (i0 : Fin n0) (i1 : Fin n1) (i2 : Fin n2) (i3 : Fin n3) :
    maximumf (Host.reduce FloatOps.maximumf x init h hu) t (ix4 i0 i1 i2 i3)
      = max (Finset.fold max (init (Shape.Idx.first hu)) (fun w : Fin n4 => x (ix5 i0 i1 i2 i3 w)) Finset.univ) (t (ix4 i0 i1 i2 i3)) :=
  congrArg (fun a : EReal => max a (t (ix4 i0 i1 i2 i3))) (reduce_max x init h hu i0 i1 i2 i3)

theorem top_apply (S : FVec Ideal S5000x1x2x7x512 .f32) (t : FVec Ideal S5000x1x2x7 .f32) (b : Fin 5000) (j : Fin 2) (g : Fin 7) :
    top S t (ix4 b 0 j g) = max (Finset.fold max ((constant S_ .f32 0xFF800000#32 : FVec Ideal S_ .f32) (Shape.Idx.first h_S_)) (fun x : Fin 512 => S (ix5 b 0 j g x)) Finset.univ) (t (ix4 b 0 j g)) := by
  unfold top
  exact maximum_reduce S (constant S_ .f32 0xFF800000#32) t reducesTo_S5000x1x2x7x512_S5000x1x2x7_d4 h_S_ b 0 j g

theorem weights_apply (S : FVec Ideal S5000x1x2x7x512 .f32) (t : FVec Ideal S5000x1x2x7 .f32) (b : Fin 5000) (j : Fin 2) (g : Fin 7) (w : Fin 512) :
    weights S t (ix5 b 0 j g w) = Ideal.exp (S (ix5 b 0 j g w) - top S t (ix4 b 0 j g)) := by
  pointwise [weights]
theorem newWeight_apply (S : FVec Ideal S5000x1x2x7x512 .f32) (t : FVec Ideal S5000x1x2x7 .f32) (b : Fin 5000) (j : Fin 2) (g : Fin 7) :
    newWeight S t (ix4 b 0 j g) = Ideal.exp (t (ix4 b 0 j g) - top S t (ix4 b 0 j g)) := by
  pointwise [newWeight]
theorem inv_apply (S : FVec Ideal S5000x1x2x7x512 .f32) (t : FVec Ideal S5000x1x2x7 .f32) (b : Fin 5000) (j : Fin 2) (g : Fin 7) :
    inv S t (ix4 b 0 j g) = Ideal.div 1 (∑ w : Fin 512, weights S t (ix5 b 0 j g w) + newWeight S t (ix4 b 0 j g)) := by
  pointwise [inv]
theorem outcome_apply (S : FVec Ideal S5000x1x2x7x512 .f32) (t : FVec Ideal S5000x1x2x7 .f32) (V : FVec Ideal S5000x512x2x64 .bf16) (v : FVec Ideal S5000x1x2x64 .bf16) (b : Fin 5000) (c : Fin 896) :
    outcome S t V v (ix2 b c) =
      ∑ x : Fin 512, V (ix4 b x ⟨c / 448, by omega⟩ ⟨c % 64, by omega⟩) * (weights S t (ix5 b 0 ⟨c / 448, by omega⟩ ⟨c / 64 % 7, by omega⟩ x) * inv S t (ix4 b 0 ⟨c / 448, by omega⟩ ⟨c / 64 % 7, by omega⟩))
        + newWeight S t (ix4 b 0 ⟨c / 448, by omega⟩ ⟨c / 64 % 7, by omega⟩) * inv S t (ix4 b 0 ⟨c / 448, by omega⟩ ⟨c / 64 % 7, by omega⟩) * v (ix4 b 0 ⟨c / 448, by omega⟩ ⟨c % 64, by omega⟩) := by
  unfold outcome
  generalize weights S t = W, inv S t = I, newWeight S t = N
  pointwise

theorem scores_apply (M : IVec S5000x512 1) (q : FVec Ideal S5000x1x2x7x64 .bf16) (K : FVec Ideal S5000x512x2x64 .bf16) (b : Fin 5000) (j : Fin 2) (g : Fin 7) (w : Fin 512) :
    scores M q K (ix5 b 0 j g w) = Scalar.select (M (ix2 b w)) ((∑ x : Fin 64, K (ix4 b w j x) * q (ix5 b 0 j g x)) * Ideal.ofBits FTy.f32 0x3E000000#32) (Ideal.ofBits FTy.f32 0xFF800000#32) := by
  pointwise [scores]

theorem newScore_apply (q : FVec Ideal S5000x1x2x7x64 .bf16) (k : FVec Ideal S5000x1x2x64 .bf16) (b : Fin 5000) (j : Fin 2) (g : Fin 7) :
    newScore q k (ix4 b 0 j g) = (∑ x : Fin 64, q (ix5 b 0 j g x) * k (ix4 b 0 j x)) * Ideal.ofBits FTy.f32 0x3E000000#32 := by
  pointwise [newScore]

theorem queries_apply (x : FVec Ideal S5000x1x896 .bf16) (b : Fin 5000) (j : Fin 2) (g : Fin 7) (d : Fin 64) :
    queries x (ix5 b 0 j g d) = x (ix3 b 0 ⟨j * 448 + g * 64 + d, by omega⟩) := by
  pointwise [queries]

theorem valid_apply (a7 : IVec S5001 32) (b : Fin 5000) (w : Fin 512) :
    valid a7 (ix2 b w) = IntOp.cmpi .slt (BitVec.ofNat 32 w) (IntOp.subi (a7 (ix1 ⟨1 + b, by omega⟩)) (a7 (ix1 ⟨b, by omega⟩))) := by
  pointwise [valid, begins, ends]

theorem corners_apply (a7 : IVec S5001 32) (b : Fin 5000) (h : (a7 (ix1 ⟨b, by omega⟩)).toNat < 2 ^ 31) :
    corners a7 (ix2 b 0) = a7 (ix1 ⟨b, by omega⟩) := by
  have e (j : Fin 3) : corners a7 (ix2 b j) = if j.val < 1 then Scalar.select (IntOp.cmpi .slt (a7 (ix1 ⟨b, by omega⟩)) 0#32) (IntOp.addi (a7 (ix1 ⟨b, by omega⟩)) 2560000#32) (a7 (ix1 ⟨b, by omega⟩))
      else if j.val - 1 < 1 then 0#32 else 0#32 := by
    pointwise [corners, begins]
    split_ifs <;> rfl
  rw [e, if_pos (by decide)]
  generalize a7 (ix1 ⟨b, by omega⟩) = x at h
  have hx : IntOp.cmpi .slt x 0#32 = 0#1 := by
    show BitVec.ofBool (x.slt 0#32) = 0#1
    have : x.slt 0#32 = false := by
      rw [Bool.eq_false_iff]
      intro hlt
      have := BitVec.slt_iff_toInt_lt.mp hlt
      rw [BitVec.toInt_eq_toNat_of_lt (by omega)] at this
      simp at this
      omega
    rw [this]; rfl
  rw [hx]; rfl

/-- A row of the cache: its number times its scale. -/
theorem rows_apply (X : IVec S2560000x2x64 8) (Y : FVec Ideal S2560000x2x2 .f32) (a7 : IVec S5001 32) (b : Fin 5000) (w : Fin 512) (j : Fin 2) (d : Fin 64)
    (h : (a7 (ix1 ⟨b, by omega⟩)).toNat ≤ 2559488) :
    rows X Y a7 (ix4 b w j d) = (FloatOps.sitofp (F := Ideal) FTy.bf16 (X (ix3 ⟨(a7 (ix1 ⟨b, by omega⟩)).toNat + w, by omega⟩ j d)) : EReal)
      * Y (ix3 ⟨(a7 (ix1 ⟨b, by omega⟩)).toNat + w, by omega⟩ j ⟨d / 32, by omega⟩) := by
  have e : rows X Y a7 (ix4 b w j d) = (FloatOps.sitofp (F := Ideal) FTy.f32 (BitVec.signExtend 32 (Host.gather gather_S2560000x2x64_S5000x3_S5000x512x2x64_123_n_n_n_012_1_512264 X (corners a7) (ix4 b w j d))) : EReal)
      * Host.gather gather_S2560000x2x2_S5000x3_S5000x512x2x2_123_n_n_n_012_1_51222 Y (corners a7) (ix4 b w j ⟨d / 32, by omega⟩) := by
    pointwise [rows]
  have hz : min (corners a7 (ix2 b 0)).toInt.toNat 2559488 = (a7 (ix1 ⟨b, by omega⟩)).toNat := by
    rw [corners_apply a7 b (by omega), BitVec.toInt_eq_toNat_of_lt (by omega)]
    omega
  rw [e, gather_codes, gather_scales]
  have hr : (⟨min (corners a7 (ix2 b 0)).toInt.toNat 2559488 + w.val, by omega⟩ : Fin 2560000) = ⟨(a7 (ix1 ⟨b, by omega⟩)).toNat + w, by omega⟩ := Fin.ext (by show _ + _ = _ + _; rw [hz])
  rw [hr]
  refine congrArg (· * _) ?_
  show (((BitVec.signExtend 32 _).toInt : ℝ) : EReal) = _
  rw [BitVec.toInt_signExtend_of_le (by decide)]
  rfl

open Attend in
/-- The result: attention over the 512 rows from the sequence's start. -/
theorem outcome_eq (S : FVec Ideal S5000x1x2x7x512 .f32) (t : FVec Ideal S5000x1x2x7 .f32) (V : FVec Ideal S5000x512x2x64 .bf16) (v : FVec Ideal S5000x1x2x64 .bf16) (b : Fin 5000) (c : Fin 896) :
    outcome S t V v (ix2 b c) = attend (fun w : Fin 512 => S (ix5 b 0 ⟨c / 448, by omega⟩ ⟨c / 64 % 7, by omega⟩ w)) (t (ix4 b 0 ⟨c / 448, by omega⟩ ⟨c / 64 % 7, by omega⟩))
      (fun w => V (ix4 b w ⟨c / 448, by omega⟩ ⟨c % 64, by omega⟩)) (v (ix4 b 0 ⟨c / 448, by omega⟩ ⟨c % 64, by omega⟩)) := by
  rw [outcome_apply]
  generalize (⟨c / 448, by omega⟩ : Fin 2) = j, (⟨c / 64 % 7, by omega⟩ : Fin 7) = g, (⟨c % 64, by omega⟩ : Fin 64) = d
  have ht : top S t (ix4 b 0 j g) = peak (fun w : Fin 512 => S (ix5 b 0 j g w)) (t (ix4 b 0 j g)) := top_apply S t b j g
  have hw (w : Fin 512) : weights S t (ix5 b 0 j g w) = Ideal.exp (S (ix5 b 0 j g w) - peak (fun w : Fin 512 => S (ix5 b 0 j g w)) (t (ix4 b 0 j g))) := by
    rw [weights_apply, ht]
  have hn : newWeight S t (ix4 b 0 j g) = Ideal.exp (t (ix4 b 0 j g) - peak (fun w : Fin 512 => S (ix5 b 0 j g w)) (t (ix4 b 0 j g))) := by
    rw [newWeight_apply, ht]
  have hi : inv S t (ix4 b 0 j g) = Ideal.div 1 (mass (fun w : Fin 512 => S (ix5 b 0 j g w)) (t (ix4 b 0 j g))) := by
    rw [inv_apply, hn, Finset.sum_congr rfl fun w _ => hw w]
    rfl
  rw [hn, hi]
  unfold attend
  refine congrArg (· + _) (Finset.sum_congr rfl fun w _ => ?_)
  rw [hw]
  exact mul_comm (G := EReal) _ _

end Cert.ReferenceIdeal
end
-- ==== Proof.Equation.lean ====
module
public import proofs.«01_k».proof.Proof.Block
public import proofs.«01_k».proof.Proof.RefRows
@[expose] public section
/-!
One element of the result, in the kernel and in the reference.  The kernel's window of 640 lanes starts at most 128 rows
before the sequence, and holds the 512 rows the reference takes; the lanes outside them are masked.
-/
noncomputable section
namespace Cert.KernelIdeal
open Gen Attend
open Idealize.ShloMosaic Idealize.ShloMosaic.TcCoe Idealize.ShloMosaic.Tactic

/-- How far into its window a sequence starts. -/
theorem offset_le (s : ℕ) (h : s ≤ 2559488) : lane0 s ≤ s ∧ s - lane0 s ≤ 128 := by unfold lane0; omega

theorem ofBool_congr {a b : Bool} (h : a = true ↔ b = true) : BitVec.ofBool a = BitVec.ofBool b := by
  rw [Bool.eq_iff_iff.mpr h]

theorem tbl_apply (T : Vec Ideal S5001 .i32) {n : ℕ} (hn : n < 5001) : tbl T n = T (ix1 ⟨n, hn⟩) := by
  unfold tbl; rw [dif_pos hn]; rfl

section mask
variable (s e : BitVec 32) (h : Fits s e)
include h

theorem start_toInt : (Scalar.subi s (Scalar.minsi (Scalar.shli (Scalar.shrui s 7#32) 7#32) 2559360#32)).toInt = ((s.toNat - lane0 s.toNat : ℕ) : ℤ) := by
  obtain ⟨h1, h2⟩ := offset_le s.toNat h.1
  have hW := window_toNat s (by have := h.1; omega)
  generalize Scalar.minsi (Scalar.shli (Scalar.shrui s 7#32) 7#32) 2559360#32 = W at hW
  have hD : (Scalar.subi s W).toNat = s.toNat - lane0 s.toNat := by
    show (s - W).toNat = _
    rw [BitVec.toNat_sub_of_le (by rw [BitVec.le_def]; omega), hW]
  rw [BitVec.toInt_eq_toNat_of_lt (by omega), hD]

theorem end_toInt : (Scalar.addi (Scalar.subi s (Scalar.minsi (Scalar.shli (Scalar.shrui s 7#32) 7#32) 2559360#32)) (Scalar.subi e s)).toInt
    = ((s.toNat - lane0 s.toNat : ℕ) : ℤ) + (e - s).toInt := by
  obtain ⟨h1, h2⟩ := offset_le s.toNat h.1
  have h3 := h.2
  have h4 := BitVec.le_toInt (e - s)
  refine (BitVec.toInt_add _ _).trans ?_
  rw [start_toInt s e h]
  show (((s.toNat - lane0 s.toNat : ℕ) : ℤ) + (e - s).toInt).bmod (2 ^ 32) = _
  refine Int.bmod_eq_of_le ?_ ?_ <;> omega

theorem lane_toInt (w : ℕ) (hw : w < 640) : (BitVec.ofNat 32 w).toInt = w := by
  rw [BitVec.toInt_eq_toNat_of_lt (by rw [BitVec.toNat_ofNat]; omega), BitVec.toNat_ofNat]; omega

/-- A lane of the sequence is in the mask when the reference keeps it. -/
theorem laneOk_inside (p : ℕ) (hp : p < 512) :
    laneOk s s e ⟨s.toNat - lane0 s.toNat + p, by have := offset_le s.toNat h.1; omega⟩ = IntOp.cmpi .slt (BitVec.ofNat 32 p) (IntOp.subi e s) := by
  obtain ⟨h1, h2⟩ := offset_le s.toNat h.1
  have hl := lane_toInt s e h (s.toNat - lane0 s.toNat + p) (by omega)
  have hp' := lane_toInt s e h p (by omega)
  have hs := start_toInt s e h
  have he := end_toInt s e h
  unfold laneOk
  dsimp only
  have a1 : IntOp.cmpi .sge (BitVec.ofNat 32 (s.toNat - lane0 s.toNat + p)) (Scalar.subi s (Scalar.minsi (Scalar.shli (Scalar.shrui s 7#32) 7#32) 2559360#32)) = 1#1 := by
    refine ofBool_one.mpr (BitVec.sle_iff_toInt_le.mpr ?_)
    rw [hl, hs]; omega
  rw [a1]
  have a2 : IntOp.cmpi .slt (BitVec.ofNat 32 (s.toNat - lane0 s.toNat + p)) (Scalar.addi (Scalar.subi s (Scalar.minsi (Scalar.shli (Scalar.shrui s 7#32) 7#32) 2559360#32)) (Scalar.subi e s))
      = IntOp.cmpi .slt (BitVec.ofNat 32 p) (IntOp.subi e s) := by
    refine ofBool_congr ?_
    rw [BitVec.slt_iff_toInt_lt, BitVec.slt_iff_toInt_lt, hl, he, hp']
    show _ ↔ (p : ℤ) < (e - s).toInt
    omega
  rw [a2]
  generalize IntOp.cmpi .slt (BitVec.ofNat 32 p) (IntOp.subi e s) = v
  revert v; decide

/-- A lane outside the 512 is not in the mask. -/
theorem laneOk_outside (w : ℕ) (hw : w < 640) (ho : w < s.toNat - lane0 s.toNat ∨ s.toNat - lane0 s.toNat + 512 ≤ w) : laneOk s s e ⟨w, hw⟩ = 0#1 := by
  have hl := lane_toInt s e h w hw
  have hs := start_toInt s e h
  have he := end_toInt s e h
  have h3 := h.2
  unfold laneOk
  dsimp only
  rcases ho with ho | ho
  · have a1 : IntOp.cmpi .sge (BitVec.ofNat 32 w) (Scalar.subi s (Scalar.minsi (Scalar.shli (Scalar.shrui s 7#32) 7#32) 2559360#32)) = BitVec.ofBool false := by
      refine congrArg BitVec.ofBool (Bool.eq_false_iff.mpr fun hb => ?_)
      have := BitVec.sle_iff_toInt_le.mp hb
      rw [hl, hs] at this; omega
    rw [a1]
    generalize IntOp.cmpi .slt (BitVec.ofNat 32 w) _ = v
    revert v; decide
  · have a2 : IntOp.cmpi .slt (BitVec.ofNat 32 w) (Scalar.addi (Scalar.subi s (Scalar.minsi (Scalar.shli (Scalar.shrui s 7#32) 7#32) 2559360#32)) (Scalar.subi e s)) = BitVec.ofBool false := by
      refine congrArg BitVec.ofBool (Bool.eq_false_iff.mpr fun hb => ?_)
      have := BitVec.slt_iff_toInt_lt.mp hb
      rw [hl, he] at this; omega
    rw [a2]
    generalize IntOp.cmpi .sge (BitVec.ofNat 32 w) _ = v
    revert v; decide
end mask

open Cert.ReferenceIdeal in
/-- Lane `c` of sequence `b` is the same in both. -/
theorem element_eq (C : Cache Ideal) (g : ℕ) (x : Vec Ideal S8x896 .bf16) (KN VN : Vec Ideal S8x128 .f32) (k : Fin 8) (c : Fin 896)
    (a0 : FVec Ideal ReferenceIdeal.S5000x1x896 .bf16) (a1 a2 : FVec Ideal ReferenceIdeal.S5000x1x2x64 .bf16) (a3 a5 : IVec ReferenceIdeal.S2560000x2x64 8) (a4 a6 : FVec Ideal ReferenceIdeal.S2560000x2x2 .f32) (a7 : IVec ReferenceIdeal.S5001 32)
    (hb : 8 * g + k.val < 5000)
    (ht : C.table = a7) (hf : Fits (tbl C.table (8 * g + k.val)) (tbl C.table (8 * g + k.val + 1)))
    (hx : ∀ l, x (ix2 k l) = a0 (ix3 ⟨8 * g + k.val, hb⟩ 0 l))
    (hK : ∀ (j : Fin 2) (d : Fin 64), (KN (ix2 k ⟨64 * j.val + d.val, by omega⟩) : EReal) = a1 (ix4 ⟨8 * g + k.val, hb⟩ 0 j d))
    (hV : ∀ (j : Fin 2) (d : Fin 64), (VN (ix2 k ⟨64 * j.val + d.val, by omega⟩) : EReal) = a2 (ix4 ⟨8 * g + k.val, hb⟩ 0 j d))
    (h3 : ∀ (n : Fin 2560000) (j : Fin 2) (d : Fin 64), C.codes false (ix3 j d n) = a3 (ix3 n j d))
    (h5 : ∀ (n : Fin 2560000) (j : Fin 2) (d : Fin 64), C.codes true (ix3 j d n) = a5 (ix3 n j d))
    (h4 : ∀ (n : Fin 2560000) (j h : Fin 2), C.scales false (ix3 j h n) = a4 (ix3 n j h))
    (h6 : ∀ (n : Fin 2560000) (j h : Fin 2), C.scales true (ix3 j h n) = a6 (ix3 n j h)) :
    blockOut C g x KN VN (ix2 k c)
      = outcome (ReferenceIdeal.scores (valid a7) (ReferenceIdeal.queries a0) (rows a3 a4 a7)) (newScore (ReferenceIdeal.queries a0) a1) (rows a5 a6 a7) a2 (ix2 ⟨8 * g + k.val, hb⟩ c) := by
  rw [blockOut_apply, outcome_eq]
  have es : a7 (ix1 ⟨8 * g + k.val, by omega⟩) = tbl C.table (8 * g + k.val) := by rw [ht]; exact (tbl_apply a7 (by omega)).symm
  have ee : a7 (ix1 ⟨1 + (8 * g + k.val), by omega⟩) = tbl C.table (8 * g + k.val + 1) := by
    rw [ht]
    refine Eq.trans ?_ (tbl_apply a7 (by omega)).symm
    exact congrArg (fun i => a7 (ix1 i)) (Fin.ext (by dsimp only; omega))
  obtain ⟨o1, o2⟩ := offset_le (tbl C.table (8 * g + k.val)).toNat hf.1
  have hs0 : (a7 (ix1 ⟨8 * g + k.val, by omega⟩)).toNat ≤ 2559488 := by rw [es]; exact hf.1
  have hz : (tbl C.table (8 * g + k.val)).toNat < 2 ^ 31 := by have := hf.1; omega
  have en (bb : Bool) (X : IVec ReferenceIdeal.S2560000x2x64 8) (Y : FVec Ideal ReferenceIdeal.S2560000x2x2 .f32)
      (hX : ∀ (n : Fin 2560000) (j : Fin 2) (d : Fin 64), C.codes bb (ix3 j d n) = X (ix3 n j d))
      (hY : ∀ (n : Fin 2560000) (j h : Fin 2), C.scales bb (ix3 j h n) = Y (ix3 n j h)) (j : Fin 2) (d : Fin 64) (p : Fin 512) :
      entry (C.codesOf bb (8 * g + k.val)) (C.scalesOf bb (8 * g + k.val)) j d
          ⟨(tbl C.table (8 * g + k.val)).toNat - lane0 (tbl C.table (8 * g + k.val)).toNat + p.val, by omega⟩
        = rows X Y a7 (ix4 ⟨8 * g + k.val, hb⟩ p j d) := by
    have hl := hf.1
    have hn : (⟨lane0 (tbl C.table (8 * g + k.val)).toNat + ((tbl C.table (8 * g + k.val)).toNat - lane0 (tbl C.table (8 * g + k.val)).toNat + p.val), by omega⟩ : Fin 2560000)
        = ⟨(a7 (ix1 ⟨8 * g + k.val, by omega⟩)).toNat + p.val, by omega⟩ := Fin.ext (by dsimp only; rw [es]; omega)
    rw [rows_apply X Y a7 ⟨8 * g + k.val, hb⟩ p j d hs0]
    unfold entry
    rw [codesOf_apply C bb _ hb hz j d _ (by dsimp only; omega), scalesOf_apply C bb _ hb hz j _ _ (by dsimp only; omega), hX, hY, hn]
  have et : ((∑ d : Fin 64, (x (ix2 k ⟨64 * (c.val / 64) + d.val, by omega⟩) : EReal) * KN (ix2 k ⟨64 * (c.val / 448) + d.val, by omega⟩)) * Ideal.ofBits FTy.f32 0x3E000000#32)
      = newScore (ReferenceIdeal.queries a0) a1 (ix4 ⟨8 * g + k.val, hb⟩ 0 ⟨c.val / 448, by omega⟩ ⟨c.val / 64 % 7, by omega⟩) := by
    rw [newScore_apply]
    refine congrArg (· * _) (Finset.sum_congr rfl fun d _ => ?_)
    rw [ReferenceIdeal.queries_apply, hx, hK ⟨c.val / 448, by omega⟩ d]
    exact congrArg (fun l => (a0 (ix3 ⟨8 * g + k.val, hb⟩ 0 l) : EReal) * _) (Fin.ext (by dsimp only; omega))
  have ev : (VN (ix2 k ⟨64 * (c.val / 448) + c.val % 64, by omega⟩) : EReal) = a2 (ix4 ⟨8 * g + k.val, hb⟩ 0 ⟨c.val / 448, by omega⟩ ⟨c.val % 64, by omega⟩) :=
    hV ⟨c.val / 448, by omega⟩ ⟨c.val % 64, by omega⟩
  rw [et, ev]
  refine attend_window
    (fun p : Fin 512 => (⟨(tbl C.table (8 * g + k.val)).toNat - lane0 (tbl C.table (8 * g + k.val)).toNat + p.val, by omega⟩ : Fin 640))
    (fun p q e => Fin.ext (by have := congrArg Fin.val e; dsimp only at this; omega)) (fun p => ?_) (fun w hw => ?_) _ (fun p => ?_) _
  · rw [ReferenceIdeal.scores_apply (valid a7), valid_apply, es, ee]
    rw [laneOk_inside _ _ hf p.val p.isLt]
    refine congrArg (fun v : EReal => Scalar.select _ (v * _) _) (Finset.sum_congr rfl fun d _ => ?_)
    rw [en false a3 a4 h3 h4, ReferenceIdeal.queries_apply, hx]
    refine (mul_comm (G := EReal) _ _).trans ?_
    exact congrArg (fun l => _ * (a0 (ix3 ⟨8 * g + k.val, hb⟩ 0 l) : EReal)) (Fin.ext (by dsimp only; omega))
  · rw [laneOk_outside _ _ hf w.val w.isLt (by
      by_contra hc
      refine hw ⟨⟨w.val - ((tbl C.table (8 * g + k.val)).toNat - lane0 (tbl C.table (8 * g + k.val)).toNat), by omega⟩, Fin.ext ?_⟩
      dsimp only; omega)]
    exact ofBits_bot
  · exact en true a5 a6 h5 h6 _ _ p

end Cert.KernelIdeal
end
-- ==== Proof.Agree.lean ====
module
public import proofs.«01_k».proof.Proof.Result
public import proofs.«01_k».proof.Proof.Equation
@[expose] public section
/-!
The kernel's result array is the reference's, for the same arguments, when every sequence lies inside its window.
-/
noncomputable section
namespace Cert.KernelIdeal
open Gen
open Idealize.ShloMosaic Idealize.ShloMosaic.TcCoe Idealize.ShloMosaic.Tactic
open Idealize.SL.Sem

variable (m : (ℓ : Loc nD τ sig) → Buf (Elt Ideal) ℓ)

theorem result_outcome (h : ∀ c : Dev nD, Pre_windows_fit.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1)
    (hok : ∀ n, n < 5000 → k0_chk17 (tbl (starts m) n)) (c : Dev nD) :
    result m hok c = ReferenceIdeal.outcome
      (ReferenceIdeal.scores (ReferenceIdeal.valid (m ((c.tc : Thread nD τ).loc main_arg7))) (ReferenceIdeal.queries (m ((c.tc : Thread nD τ).loc main_arg0)))
        (ReferenceIdeal.rows (m ((c.tc : Thread nD τ).loc main_arg3)) (m ((c.tc : Thread nD τ).loc main_arg4)) (m ((c.tc : Thread nD τ).loc main_arg7))))
      (ReferenceIdeal.newScore (ReferenceIdeal.queries (m ((c.tc : Thread nD τ).loc main_arg0))) (m ((c.tc : Thread nD τ).loc main_arg1)))
      (ReferenceIdeal.rows (m ((c.tc : Thread nD τ).loc main_arg5)) (m ((c.tc : Thread nD τ).loc main_arg6)) (m ((c.tc : Thread nD τ).loc main_arg7)))
      (m ((c.tc : Thread nD τ).loc main_arg2)) := by
  obtain rfl : c = 0 := Subsingleton.elim _ _
  rw [result_eq]
  refine funext fun (i : S5000x896.Idx) => ?_
  have hi0 : (i 0).val < 5000 := (i 0).isLt
  obtain ⟨t, k, l, ht, hk, hb, rfl⟩ : ∃ (t k : ℕ) (l : Fin 896) (ht : t < 625) (hk : k < 8) (hb : 8 * t + k < 5000), i = (ix2 ⟨8 * t + k, hb⟩ l : S5000x896.Idx) :=
    ⟨(i 0).val / 8, (i 0).val % 8, i 1, by omega, by omega, by omega, funext fun (a : Fin 2) => match a with
      | ⟨0, _⟩ => Fin.ext (by show (i 0).val = 8 * ((i 0).val / 8) + (i 0).val % 8; omega)
      | ⟨1, _⟩ => rfl⟩
  refine (assembled_at m hok 0 ⟨t, ht⟩ ⟨k, hk⟩ l).trans ?_
  unfold pointOut
  refine element_eq (cache m hok 0) t _ _ _ ⟨k, hk⟩ l (m (((0 : Dev nD).tc : Thread nD τ).loc main_arg0)) (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg5)) (m (((0 : Dev nD).tc : Thread nD τ).loc main_arg4)) (m (((0 : Dev nD).tc : Thread nD τ).loc main_arg6)) (m (((0 : Dev nD).tc : Thread nD τ).loc main_arg7)) hb
    (starts_eq m) ?_ (fun l => ?_) (fun j d => ?_) (fun j d => ?_) (fun n j d => ?_) (fun n j d => ?_) (fun n j d => ?_) (fun n j d => ?_)
  · show Fits (tbl (starts m) (8 * t + k)) (tbl (starts m) (8 * t + k + 1))
    rw [starts_eq]
    exact fits_of (h 0) (8 * t + k) hb
  · refine (block0_apply m 0 ⟨t, ht⟩ ⟨k, hk⟩ l).trans ?_
    rw [V_v4]
    exact queries_flat _ _ l
  · refine (block1_apply m 0 ⟨t, ht⟩ ⟨k, hk⟩ _).trans ?_
    rw [V_v6]
    exact row_flat _ _ j d
  · refine (block2_apply m 0 ⟨t, ht⟩ ⟨k, hk⟩ _).trans ?_
    rw [V_v8]
    exact row_flat _ _ j d
  · show V m 0 main_v0 (ix3 j d n) = _
    rw [V_v0]; exact codes_turned _ j d n
  · show V m 0 main_v1 (ix3 j d n) = _
    rw [V_v1]; exact codes_turned _ j d n
  · show V m 0 main_v2 (ix3 j d n) = _
    rw [V_v2]; exact scales_turned _ j d n
  · show V m 0 main_v3 (ix3 j d n) = _
    rw [V_v3]; exact scales_turned _ j d n

end Cert.KernelIdeal
end
-- ==== Proof.lean ====
/- The claims of `Cert.Claim` proved: the frames of the kernel, of its ideal reading and of the ideal
   reference, that the ideal reading changes nothing, and that kernel and reference end with the same result. -/
module

public import proofs.«01_k».proof.Defs
public import proofs.«01_k».proof.Proof.Gen.Kernel
public import proofs.«01_k».proof.Proof.Gen.KernelIdeal
public import proofs.«01_k».proof.Proof.Gen.Pre_starts_nonneg
public import proofs.«01_k».proof.Proof.Gen.Pre_windows_fit
public import proofs.«01_k».proof.Proof.Gen.ReferenceIdeal
public import proofs.«01_k».proof.Proof.Gen.ReferenceIdeal.Run
public import proofs.«01_k».proof.Proof.Transfer
public import proofs.«01_k».proof.Proof.Agree
public import Idealize.ShloMosaic.Lib.Quiescent

@[expose] public section

noncomputable section

namespace Cert.Proof

open Idealize.ShloMosaic Idealize.SL.Sem

/-- The reference on the kernel's arguments ends with the kernel's result. -/
theorem algebraic : @Cert.algebraic_KernelIdeal_ReferenceIdeal_pre_windows_fit Cert.KernelIdeal.Gen.facts Cert.ReferenceIdeal.Gen.facts Cert.Pre_windows_fit.Gen.facts := by
  intro m g m' g' h ha
  have hok := Cert.KernelIdeal.ok_of_fits m h
  refine ⟨Cert.KernelIdeal.result m hok,
    (θ_run _ _ _).mono (fun r h => h.1) (Cert.KernelIdeal.run_kept m g hok),
    (θ_run _ _ _).mono (fun r h' c => ⟨(h' c).1.trans ?_, (h' c).2⟩) (Cert.ReferenceIdeal.Value.run (F := Ideal) m' g')⟩
  obtain ⟨h0, h1, h2, h3, h4, h5, h6, h7⟩ := ha c
  rw [Cert.ReferenceIdeal.res_eq, h0, h1, h2, h3, h4, h5, h6, h7]
  exact (Cert.KernelIdeal.result_outcome m h hok c).symm

theorem claim : Cert.Claim :=
  ⟨Cert.Kernel.Gen.facts, Cert.KernelIdeal.Gen.facts, Cert.ReferenceIdeal.Gen.facts, Cert.Pre_starts_nonneg.Gen.facts, Cert.Pre_windows_fit.Gen.facts,
    quiescent_Kernel_holds,
    fun m g h => (θ_run _ _ _).mono (fun r h => ⟨fun c => (h.1 c).2, h.2⟩) (Cert.KernelIdeal.run_kept m g (Cert.KernelIdeal.ok_of_nonneg m h)),
    fun m g h => (θ_run _ _ _).mono (fun r h => ⟨fun c => (h.1 c).2, h.2⟩) (Cert.KernelIdeal.run_kept m g (Cert.KernelIdeal.ok_of_fits m h)),
    fun m g _ => (θ_run _ _ _).mono (fun r h => ⟨fun c => (h c).2, sem_eq_zero_of_no_sems (by decide) r.2⟩) (Cert.ReferenceIdeal.Value.run (F := Ideal) m g),
    fun m g _ => (θ_run _ _ _).mono (fun r h => ⟨fun c => (h c).2, sem_eq_zero_of_no_sems (by decide) r.2⟩) (Cert.ReferenceIdeal.Value.run (F := Ideal) m g),
    trivial, algebraic⟩

end Cert.Proof

end
